-- ==== Defs.lean ====
def Pre_Mla (m : (ℓ : Loc Cert.Mla.nD Cert.Mla.τ Cert.Mla.sig) → Buf (Elt Bits) ℓ) : Prop :=
  True

def Pre_MlaIdeal (m : (ℓ : Loc Cert.MlaIdeal.nD Cert.MlaIdeal.τ Cert.MlaIdeal.sig) → Buf (Elt Ideal) ℓ) : Prop :=
  True

def Pre_MlaIdeal_finite_mla [hPre_finite_mla : Cert.Pre_finite_mla.Facts] (m : (ℓ : Loc Cert.MlaIdeal.nD Cert.MlaIdeal.τ Cert.MlaIdeal.sig) → Buf (Elt Ideal) ℓ) : Prop :=
  ∀ c : Dev Cert.MlaIdeal.nD,
    (Cert.Pre_finite_mla.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3)) (m ((c.tc : Thread Cert.MlaIdeal.nD Cert.MlaIdeal.τ).loc Cert.MlaIdeal.main_arg4))).1 = (fun _ => 1#1)
    ∧ (Cert.Pre_finite_mla.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3)) (m ((c.tc : Thread Cert.MlaIdeal.nD Cert.MlaIdeal.τ).loc Cert.MlaIdeal.main_arg4))).2.1 = (fun _ => 1#1)
    ∧ (Cert.Pre_finite_mla.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3)) (m ((c.tc : Thread Cert.MlaIdeal.nD Cert.MlaIdeal.τ).loc Cert.MlaIdeal.main_arg4))).2.2 = (fun _ => 1#1)

def Pre_MlaRefIdeal (m : (ℓ : Loc Cert.MlaRefIdeal.nD Cert.MlaRefIdeal.τ Cert.MlaRefIdeal.sig) → Buf (Elt Ideal) ℓ) : Prop :=
  True

def Pre_MlaRefIdeal_finite_mla [hPre_finite_mla : Cert.Pre_finite_mla.Facts] (m : (ℓ : Loc Cert.MlaRefIdeal.nD Cert.MlaRefIdeal.τ Cert.MlaRefIdeal.sig) → Buf (Elt Ideal) ℓ) : Prop :=
  ∀ c : Dev Cert.MlaRefIdeal.nD,
    (Cert.Pre_finite_mla.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4))).1 = (fun _ => 1#1)
    ∧ (Cert.Pre_finite_mla.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4))).2.1 = (fun _ => 1#1)
    ∧ (Cert.Pre_finite_mla.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4))).2.2 = (fun _ => 1#1)

def Pre_Gqa (m : (ℓ : Loc Cert.Gqa.nD Cert.Gqa.τ Cert.Gqa.sig) → Buf (Elt Bits) ℓ) : Prop :=
  True

def Pre_GqaIdeal (m : (ℓ : Loc Cert.GqaIdeal.nD Cert.GqaIdeal.τ Cert.GqaIdeal.sig) → Buf (Elt Ideal) ℓ) : Prop :=
  True

def Pre_GqaIdeal_finite_gqa [hPre_finite_gqa : Cert.Pre_finite_gqa.Facts] (m : (ℓ : Loc Cert.GqaIdeal.nD Cert.GqaIdeal.τ Cert.GqaIdeal.sig) → Buf (Elt Ideal) ℓ) : Prop :=
  ∀ c : Dev Cert.GqaIdeal.nD,
    (Cert.Pre_finite_gqa.fn (F := Ideal) (m ((c.tc : Thread Cert.GqaIdeal.nD Cert.GqaIdeal.τ).loc Cert.GqaIdeal.main_arg0)) (m ((c.tc : Thread Cert.GqaIdeal.nD Cert.GqaIdeal.τ).loc Cert.GqaIdeal.main_arg1)) (m ((c.tc : Thread Cert.GqaIdeal.nD Cert.GqaIdeal.τ).loc Cert.GqaIdeal.main_arg2)) (m ((c.tc : Thread Cert.GqaIdeal.nD Cert.GqaIdeal.τ).loc Cert.GqaIdeal.main_arg3)) (m ((c.tc : Thread Cert.GqaIdeal.nD Cert.GqaIdeal.τ).loc Cert.GqaIdeal.main_arg4))).1 = (fun _ => 1#1)
    ∧ (Cert.Pre_finite_gqa.fn (F := Ideal) (m ((c.tc : Thread Cert.GqaIdeal.nD Cert.GqaIdeal.τ).loc Cert.GqaIdeal.main_arg0)) (m ((c.tc : Thread Cert.GqaIdeal.nD Cert.GqaIdeal.τ).loc Cert.GqaIdeal.main_arg1)) (m ((c.tc : Thread Cert.GqaIdeal.nD Cert.GqaIdeal.τ).loc Cert.GqaIdeal.main_arg2)) (m ((c.tc : Thread Cert.GqaIdeal.nD Cert.GqaIdeal.τ).loc Cert.GqaIdeal.main_arg3)) (m ((c.tc : Thread Cert.GqaIdeal.nD Cert.GqaIdeal.τ).loc Cert.GqaIdeal.main_arg4))).2.1 = (fun _ => 1#1)
    ∧ (Cert.Pre_finite_gqa.fn (F := Ideal) (m ((c.tc : Thread Cert.GqaIdeal.nD Cert.GqaIdeal.τ).loc Cert.GqaIdeal.main_arg0)) (m ((c.tc : Thread Cert.GqaIdeal.nD Cert.GqaIdeal.τ).loc Cert.GqaIdeal.main_arg1)) (m ((c.tc : Thread Cert.GqaIdeal.nD Cert.GqaIdeal.τ).loc Cert.GqaIdeal.main_arg2)) (m ((c.tc : Thread Cert.GqaIdeal.nD Cert.GqaIdeal.τ).loc Cert.GqaIdeal.main_arg3)) (m ((c.tc : Thread Cert.GqaIdeal.nD Cert.GqaIdeal.τ).loc Cert.GqaIdeal.main_arg4))).2.2 = (fun _ => 1#1)

def Pre_GqaRefIdeal (m : (ℓ : Loc Cert.GqaRefIdeal.nD Cert.GqaRefIdeal.τ Cert.GqaRefIdeal.sig) → Buf (Elt Ideal) ℓ) : Prop :=
  True

def Pre_GqaRefIdeal_finite_gqa [hPre_finite_gqa : Cert.Pre_finite_gqa.Facts] (m : (ℓ : Loc Cert.GqaRefIdeal.nD Cert.GqaRefIdeal.τ Cert.GqaRefIdeal.sig) → Buf (Elt Ideal) ℓ) : Prop :=
  ∀ c : Dev Cert.GqaRefIdeal.nD,
    (Cert.Pre_finite_gqa.fn (F := Ideal) (m ((c.tc : Thread Cert.GqaRefIdeal.nD Cert.GqaRefIdeal.τ).loc Cert.GqaRefIdeal.main_arg0)) (m ((c.tc : Thread Cert.GqaRefIdeal.nD Cert.GqaRefIdeal.τ).loc Cert.GqaRefIdeal.main_arg1)) (m ((c.tc : Thread Cert.GqaRefIdeal.nD Cert.GqaRefIdeal.τ).loc Cert.GqaRefIdeal.main_arg2)) (m ((c.tc : Thread Cert.GqaRefIdeal.nD Cert.GqaRefIdeal.τ).loc Cert.GqaRefIdeal.main_arg3)) (m ((c.tc : Thread Cert.GqaRefIdeal.nD Cert.GqaRefIdeal.τ).loc Cert.GqaRefIdeal.main_arg4))).1 = (fun _ => 1#1)
    ∧ (Cert.Pre_finite_gqa.fn (F := Ideal) (m ((c.tc : Thread Cert.GqaRefIdeal.nD Cert.GqaRefIdeal.τ).loc Cert.GqaRefIdeal.main_arg0)) (m ((c.tc : Thread Cert.GqaRefIdeal.nD Cert.GqaRefIdeal.τ).loc Cert.GqaRefIdeal.main_arg1)) (m ((c.tc : Thread Cert.GqaRefIdeal.nD Cert.GqaRefIdeal.τ).loc Cert.GqaRefIdeal.main_arg2)) (m ((c.tc : Thread Cert.GqaRefIdeal.nD Cert.GqaRefIdeal.τ).loc Cert.GqaRefIdeal.main_arg3)) (m ((c.tc : Thread Cert.GqaRefIdeal.nD Cert.GqaRefIdeal.τ).loc Cert.GqaRefIdeal.main_arg4))).2.1 = (fun _ => 1#1)
    ∧ (Cert.Pre_finite_gqa.fn (F := Ideal) (m ((c.tc : Thread Cert.GqaRefIdeal.nD Cert.GqaRefIdeal.τ).loc Cert.GqaRefIdeal.main_arg0)) (m ((c.tc : Thread Cert.GqaRefIdeal.nD Cert.GqaRefIdeal.τ).loc Cert.GqaRefIdeal.main_arg1)) (m ((c.tc : Thread Cert.GqaRefIdeal.nD Cert.GqaRefIdeal.τ).loc Cert.GqaRefIdeal.main_arg2)) (m ((c.tc : Thread Cert.GqaRefIdeal.nD Cert.GqaRefIdeal.τ).loc Cert.GqaRefIdeal.main_arg3)) (m ((c.tc : Thread Cert.GqaRefIdeal.nD Cert.GqaRefIdeal.τ).loc Cert.GqaRefIdeal.main_arg4))).2.2 = (fun _ => 1#1)

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostRefIdeal (m : (ℓ : Loc Cert.PostRefIdeal.nD Cert.PostRefIdeal.τ Cert.PostRefIdeal.sig) → Buf (Elt Ideal) ℓ) : Prop :=
  True

def Pre_Mid (m : (ℓ : Loc Cert.Mid.nD Cert.Mid.τ Cert.Mid.sig) → Buf (Elt Bits) ℓ) : Prop :=
  True

def Pre_MidIdeal (m : (ℓ : Loc Cert.MidIdeal.nD Cert.MidIdeal.τ Cert.MidIdeal.sig) → Buf (Elt Ideal) ℓ) : Prop :=
  True

def Pre_MidRefIdeal (m : (ℓ : Loc Cert.MidRefIdeal.nD Cert.MidRefIdeal.τ Cert.MidRefIdeal.sig) → Buf (Elt Ideal) ℓ) : Prop :=
  True

def quiescent_Mla [hMla : Cert.Mla.Facts] : Prop :=
  ∀ (m : (ℓ : Loc Cert.Mla.nD Cert.Mla.τ Cert.Mla.sig) → Buf (Elt Bits) ℓ) (g : Dev Cert.Mla.nD → PrngReg), Pre_Mla m →
    θ_run (Cert.Mla.defs (F := Bits)) (onTc (τ := Cert.Mla.τ) (Cert.Mla.main (F := Bits))) ⟨m, fun _ => 0, g⟩ (fun r => (∀ c : Dev Cert.Mla.nD,
      r.2.mem ((c.tc : Thread Cert.Mla.nD Cert.Mla.τ).loc Cert.Mla.main_arg0) = m ((c.tc : Thread Cert.Mla.nD Cert.Mla.τ).loc Cert.Mla.main_arg0)
      ∧ r.2.mem ((c.tc : Thread Cert.Mla.nD Cert.Mla.τ).loc Cert.Mla.main_arg1) = m ((c.tc : Thread Cert.Mla.nD Cert.Mla.τ).loc Cert.Mla.main_arg1)
      ∧ r.2.mem ((c.tc : Thread Cert.Mla.nD Cert.Mla.τ).loc Cert.Mla.main_arg2) = m ((c.tc : Thread Cert.Mla.nD Cert.Mla.τ).loc Cert.Mla.main_arg2)
      ∧ r.2.mem ((c.tc : Thread Cert.Mla.nD Cert.Mla.τ).loc Cert.Mla.main_arg3) = m ((c.tc : Thread Cert.Mla.nD Cert.Mla.τ).loc Cert.Mla.main_arg3)
      ∧ r.2.mem ((c.tc : Thread Cert.Mla.nD Cert.Mla.τ).loc Cert.Mla.main_arg4) = m ((c.tc : Thread Cert.Mla.nD Cert.Mla.τ).loc Cert.Mla.main_arg4))
      ∧ r.2.sem = fun _ => 0)

def quiescent_MlaIdeal [hMlaIdeal : Cert.MlaIdeal.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
      ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4))
      ∧ r.2.sem = fun _ => 0)

def quiescent_MlaIdeal_pre_finite_mla [hMlaIdeal : Cert.MlaIdeal.Facts] [hPre_finite_mla : Cert.Pre_finite_mla.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal_finite_mla m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
      ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4))
      ∧ r.2.sem = fun _ => 0)

def quiescent_MlaRefIdeal [hMlaRefIdeal : Cert.MlaRefIdeal.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3)
      ∧ r.2.mem ((c.tc : Thread Cert.MlaRefIdeal.nD Cert.MlaRefIdeal.τ).loc Cert.MlaRefIdeal.main_arg4) = m ((c.tc : Thread Cert.MlaRefIdeal.nD Cert.MlaRefIdeal.τ).loc Cert.MlaRefIdeal.main_arg4))
      ∧ r.2.sem = fun _ => 0)

def quiescent_MlaRefIdeal_pre_finite_mla [hMlaRefIdeal : Cert.MlaRefIdeal.Facts] [hPre_finite_mla : Cert.Pre_finite_mla.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal_finite_mla m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3)
      ∧ r.2.mem ((c.tc : Thread Cert.MlaRefIdeal.nD Cert.MlaRefIdeal.τ).loc Cert.MlaRefIdeal.main_arg4) = m ((c.tc : Thread Cert.MlaRefIdeal.nD Cert.MlaRefIdeal.τ).loc Cert.MlaRefIdeal.main_arg4))
      ∧ r.2.sem = fun _ => 0)

def quiescent_Gqa [hGqa : Cert.Gqa.Facts] : Prop :=
  ∀ (m : (ℓ : Loc Cert.Gqa.nD Cert.Gqa.τ Cert.Gqa.sig) → Buf (Elt Bits) ℓ) (g : Dev Cert.Gqa.nD → PrngReg), Pre_Gqa m →
    θ_run (Cert.Gqa.defs (F := Bits)) (onTc (τ := Cert.Gqa.τ) (Cert.Gqa.main (F := Bits))) ⟨m, fun _ => 0, g⟩ (fun r => (∀ c : Dev Cert.Gqa.nD,
      r.2.mem ((c.tc : Thread Cert.Gqa.nD Cert.Gqa.τ).loc Cert.Gqa.main_arg0) = m ((c.tc : Thread Cert.Gqa.nD Cert.Gqa.τ).loc Cert.Gqa.main_arg0)
      ∧ r.2.mem ((c.tc : Thread Cert.Gqa.nD Cert.Gqa.τ).loc Cert.Gqa.main_arg1) = m ((c.tc : Thread Cert.Gqa.nD Cert.Gqa.τ).loc Cert.Gqa.main_arg1)
      ∧ r.2.mem ((c.tc : Thread Cert.Gqa.nD Cert.Gqa.τ).loc Cert.Gqa.main_arg2) = m ((c.tc : Thread Cert.Gqa.nD Cert.Gqa.τ).loc Cert.Gqa.main_arg2)
      ∧ r.2.mem ((c.tc : Thread Cert.Gqa.nD Cert.Gqa.τ).loc Cert.Gqa.main_arg3) = m ((c.tc : Thread Cert.Gqa.nD Cert.Gqa.τ).loc Cert.Gqa.main_arg3)
      ∧ r.2.mem ((c.tc : Thread Cert.Gqa.nD Cert.Gqa.τ).loc Cert.Gqa.main_arg4) = m ((c.tc : Thread Cert.Gqa.nD Cert.Gqa.τ).loc Cert.Gqa.main_arg4))
      ∧ r.2.sem = fun _ => 0)

def quiescent_GqaIdeal [hGqaIdeal : Cert.GqaIdeal.Facts] : Prop :=
  ∀ (m : (ℓ : Loc Cert.GqaIdeal.nD Cert.GqaIdeal.τ Cert.GqaIdeal.sig) → Buf (Elt Ideal) ℓ) (g : Dev Cert.GqaIdeal.nD → PrngReg), Pre_GqaIdeal m →
    θ_run (Cert.GqaIdeal.defs (F := Ideal)) (onTc (τ := Cert.GqaIdeal.τ) (Cert.GqaIdeal.main (F := Ideal))) ⟨m, fun _ => 0, g⟩ (fun r => (∀ c : Dev Cert.GqaIdeal.nD,
      r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
      ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
      ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2)
      ∧ r.2.mem ((c.tc : Thread Cert.GqaIdeal.nD Cert.GqaIdeal.τ).loc Cert.GqaIdeal.main_arg3) = m ((c.tc : Thread Cert.GqaIdeal.nD Cert.GqaIdeal.τ).loc Cert.GqaIdeal.main_arg3)
      ∧ r.2.mem ((c.tc : Thread Cert.GqaIdeal.nD Cert.GqaIdeal.τ).loc Cert.GqaIdeal.main_arg4) = m ((c.tc : Thread Cert.GqaIdeal.nD Cert.GqaIdeal.τ).loc Cert.GqaIdeal.main_arg4))
      ∧ r.2.sem = fun _ => 0)

def quiescent_GqaIdeal_pre_finite_gqa [hGqaIdeal : Cert.GqaIdeal.Facts] [hPre_finite_gqa : Cert.Pre_finite_gqa.Facts] : Prop :=
  ∀ (m : (ℓ : Loc Cert.GqaIdeal.nD Cert.GqaIdeal.τ Cert.GqaIdeal.sig) → Buf (Elt Ideal) ℓ) (g : Dev Cert.GqaIdeal.nD → PrngReg), Pre_GqaIdeal_finite_gqa m →
    θ_run (Cert.GqaIdeal.defs (F := Ideal)) (onTc (τ := Cert.GqaIdeal.τ) (Cert.GqaIdeal.main (F := Ideal))) ⟨m, fun _ => 0, g⟩ (fun r => (∀ c : Dev Cert.GqaIdeal.nD,
      r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
      ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
      ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2)
      ∧ r.2.mem ((c.tc : Thread Cert.GqaIdeal.nD Cert.GqaIdeal.τ).loc Cert.GqaIdeal.main_arg3) = m ((c.tc : Thread Cert.GqaIdeal.nD Cert.GqaIdeal.τ).loc Cert.GqaIdeal.main_arg3)
      ∧ r.2.mem ((c.tc : Thread Cert.GqaIdeal.nD Cert.GqaIdeal.τ).loc Cert.GqaIdeal.main_arg4) = m ((c.tc : Thread Cert.GqaIdeal.nD Cert.GqaIdeal.τ).loc Cert.GqaIdeal.main_arg4))
      ∧ r.2.sem = fun _ => 0)

def quiescent_GqaRefIdeal [hGqaRefIdeal : Cert.GqaRefIdeal.Facts] : Prop :=
  ∀ (m : (ℓ : Loc Cert.GqaRefIdeal.nD Cert.GqaRefIdeal.τ Cert.GqaRefIdeal.sig) → Buf (Elt Ideal) ℓ) (g : Dev Cert.GqaRefIdeal.nD → PrngReg), Pre_GqaRefIdeal m →
    θ_run (Cert.GqaRefIdeal.defs (F := Ideal)) (onTc (τ := Cert.GqaRefIdeal.τ) (Cert.GqaRefIdeal.main (F := Ideal))) ⟨m, fun _ => 0, g⟩ (fun r => (∀ c : Dev Cert.GqaRefIdeal.nD,
      r.2.mem ((c.tc : Thread Cert.GqaRefIdeal.nD Cert.GqaRefIdeal.τ).loc Cert.GqaRefIdeal.main_arg0) = m ((c.tc : Thread Cert.GqaRefIdeal.nD Cert.GqaRefIdeal.τ).loc Cert.GqaRefIdeal.main_arg0)
      ∧ r.2.mem ((c.tc : Thread Cert.GqaRefIdeal.nD Cert.GqaRefIdeal.τ).loc Cert.GqaRefIdeal.main_arg1) = m ((c.tc : Thread Cert.GqaRefIdeal.nD Cert.GqaRefIdeal.τ).loc Cert.GqaRefIdeal.main_arg1)
      ∧ r.2.mem ((c.tc : Thread Cert.GqaRefIdeal.nD Cert.GqaRefIdeal.τ).loc Cert.GqaRefIdeal.main_arg2) = m ((c.tc : Thread Cert.GqaRefIdeal.nD Cert.GqaRefIdeal.τ).loc Cert.GqaRefIdeal.main_arg2)
      ∧ r.2.mem ((c.tc : Thread Cert.GqaRefIdeal.nD Cert.GqaRefIdeal.τ).loc Cert.GqaRefIdeal.main_arg3) = m ((c.tc : Thread Cert.GqaRefIdeal.nD Cert.GqaRefIdeal.τ).loc Cert.GqaRefIdeal.main_arg3)
      ∧ r.2.mem ((c.tc : Thread Cert.GqaRefIdeal.nD Cert.GqaRefIdeal.τ).loc Cert.GqaRefIdeal.main_arg4) = m ((c.tc : Thread Cert.GqaRefIdeal.nD Cert.GqaRefIdeal.τ).loc Cert.GqaRefIdeal.main_arg4))
      ∧ r.2.sem = fun _ => 0)

def quiescent_GqaRefIdeal_pre_finite_gqa [hGqaRefIdeal : Cert.GqaRefIdeal.Facts] [hPre_finite_gqa : Cert.Pre_finite_gqa.Facts] : Prop :=
  ∀ (m : (ℓ : Loc Cert.GqaRefIdeal.nD Cert.GqaRefIdeal.τ Cert.GqaRefIdeal.sig) → Buf (Elt Ideal) ℓ) (g : Dev Cert.GqaRefIdeal.nD → PrngReg), Pre_GqaRefIdeal_finite_gqa m →
    θ_run (Cert.GqaRefIdeal.defs (F := Ideal)) (onTc (τ := Cert.GqaRefIdeal.τ) (Cert.GqaRefIdeal.main (F := Ideal))) ⟨m, fun _ => 0, g⟩ (fun r => (∀ c : Dev Cert.GqaRefIdeal.nD,
      r.2.mem ((c.tc : Thread Cert.GqaRefIdeal.nD Cert.GqaRefIdeal.τ).loc Cert.GqaRefIdeal.main_arg0) = m ((c.tc : Thread Cert.GqaRefIdeal.nD Cert.GqaRefIdeal.τ).loc Cert.GqaRefIdeal.main_arg0)
      ∧ r.2.mem ((c.tc : Thread Cert.GqaRefIdeal.nD Cert.GqaRefIdeal.τ).loc Cert.GqaRefIdeal.main_arg1) = m ((c.tc : Thread Cert.GqaRefIdeal.nD Cert.GqaRefIdeal.τ).loc Cert.GqaRefIdeal.main_arg1)
      ∧ r.2.mem ((c.tc : Thread Cert.GqaRefIdeal.nD Cert.GqaRefIdeal.τ).loc Cert.GqaRefIdeal.main_arg2) = m ((c.tc : Thread Cert.GqaRefIdeal.nD Cert.GqaRefIdeal.τ).loc Cert.GqaRefIdeal.main_arg2)
      ∧ r.2.mem ((c.tc : Thread Cert.GqaRefIdeal.nD Cert.GqaRefIdeal.τ).loc Cert.GqaRefIdeal.main_arg3) = m ((c.tc : Thread Cert.GqaRefIdeal.nD Cert.GqaRefIdeal.τ).loc Cert.GqaRefIdeal.main_arg3)
      ∧ r.2.mem ((c.tc : Thread Cert.GqaRefIdeal.nD Cert.GqaRefIdeal.τ).loc Cert.GqaRefIdeal.main_arg4) = m ((c.tc : Thread Cert.GqaRefIdeal.nD Cert.GqaRefIdeal.τ).loc Cert.GqaRefIdeal.main_arg4))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7)
      ∧ r.2.mem ((c.tc : Thread Cert.Post.nD Cert.Post.τ).loc Cert.Post.main_arg8) = m ((c.tc : Thread Cert.Post.nD Cert.Post.τ).loc Cert.Post.main_arg8))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6)
      ∧ r.2.mem ((c.tc : Thread Cert.PostRefIdeal.nD Cert.PostRefIdeal.τ).loc Cert.PostRefIdeal.main_arg7) = m ((c.tc : Thread Cert.PostRefIdeal.nD Cert.PostRefIdeal.τ).loc Cert.PostRefIdeal.main_arg7)
      ∧ r.2.mem ((c.tc : Thread Cert.PostRefIdeal.nD Cert.PostRefIdeal.τ).loc Cert.PostRefIdeal.main_arg8) = m ((c.tc : Thread Cert.PostRefIdeal.nD Cert.PostRefIdeal.τ).loc Cert.PostRefIdeal.main_arg8))
      ∧ r.2.sem = fun _ => 0)

def quiescent_Mid [hMid : Cert.Mid.Facts] : Prop :=
  ∀ (m : (ℓ : Loc Cert.Mid.nD Cert.Mid.τ Cert.Mid.sig) → Buf (Elt Bits) ℓ) (g : Dev Cert.Mid.nD → PrngReg), Pre_Mid m →
    θ_run (Cert.Mid.defs (F := Bits)) (onTc (τ := Cert.Mid.τ) (Cert.Mid.main (F := Bits))) ⟨m, fun _ => 0, g⟩ (fun r => (∀ c : Dev Cert.Mid.nD,
      r.2.mem ((c.tc : Thread Cert.Mid.nD Cert.Mid.τ).loc Cert.Mid.main_arg0) = m ((c.tc : Thread Cert.Mid.nD Cert.Mid.τ).loc Cert.Mid.main_arg0)
      ∧ r.2.mem ((c.tc : Thread Cert.Mid.nD Cert.Mid.τ).loc Cert.Mid.main_arg1) = m ((c.tc : Thread Cert.Mid.nD Cert.Mid.τ).loc Cert.Mid.main_arg1)
      ∧ r.2.mem ((c.tc : Thread Cert.Mid.nD Cert.Mid.τ).loc Cert.Mid.main_arg2) = m ((c.tc : Thread Cert.Mid.nD Cert.Mid.τ).loc Cert.Mid.main_arg2)
      ∧ r.2.mem ((c.tc : Thread Cert.Mid.nD Cert.Mid.τ).loc Cert.Mid.main_arg3) = m ((c.tc : Thread Cert.Mid.nD Cert.Mid.τ).loc Cert.Mid.main_arg3)
      ∧ r.2.mem ((c.tc : Thread Cert.Mid.nD Cert.Mid.τ).loc Cert.Mid.main_arg4) = m ((c.tc : Thread Cert.Mid.nD Cert.Mid.τ).loc Cert.Mid.main_arg4)
      ∧ r.2.mem ((c.tc : Thread Cert.Mid.nD Cert.Mid.τ).loc Cert.Mid.main_arg5) = m ((c.tc : Thread Cert.Mid.nD Cert.Mid.τ).loc Cert.Mid.main_arg5)
      ∧ r.2.mem ((c.tc : Thread Cert.Mid.nD Cert.Mid.τ).loc Cert.Mid.main_arg6) = m ((c.tc : Thread Cert.Mid.nD Cert.Mid.τ).loc Cert.Mid.main_arg6)
      ∧ r.2.mem ((c.tc : Thread Cert.Mid.nD Cert.Mid.τ).loc Cert.Mid.main_arg7) = m ((c.tc : Thread Cert.Mid.nD Cert.Mid.τ).loc Cert.Mid.main_arg7)
      ∧ r.2.mem ((c.tc : Thread Cert.Mid.nD Cert.Mid.τ).loc Cert.Mid.main_arg8) = m ((c.tc : Thread Cert.Mid.nD Cert.Mid.τ).loc Cert.Mid.main_arg8))
      ∧ r.2.sem = fun _ => 0)

def quiescent_MidIdeal [hMidIdeal : Cert.MidIdeal.Facts] : Prop :=
  ∀ (m : (ℓ : Loc Cert.MidIdeal.nD Cert.MidIdeal.τ Cert.MidIdeal.sig) → Buf (Elt Ideal) ℓ) (g : Dev Cert.MidIdeal.nD → PrngReg), Pre_MidIdeal m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
      ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
      ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
      ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
      ∧ r.2.mem ((c.tc : Thread Cert.MidIdeal.nD Cert.MidIdeal.τ).loc Cert.MidIdeal.main_arg7) = m ((c.tc : Thread Cert.MidIdeal.nD Cert.MidIdeal.τ).loc Cert.MidIdeal.main_arg7)
      ∧ r.2.mem ((c.tc : Thread Cert.MidIdeal.nD Cert.MidIdeal.τ).loc Cert.MidIdeal.main_arg8) = m ((c.tc : Thread Cert.MidIdeal.nD Cert.MidIdeal.τ).loc Cert.MidIdeal.main_arg8))
      ∧ r.2.sem = fun _ => 0)

def quiescent_MidRefIdeal [hMidRefIdeal : Cert.MidRefIdeal.Facts] : Prop :=
  ∀ (m : (ℓ : Loc Cert.MidRefIdeal.nD Cert.MidRefIdeal.τ Cert.MidRefIdeal.sig) → Buf (Elt Ideal) ℓ) (g : Dev Cert.MidRefIdeal.nD → PrngReg), Pre_MidRefIdeal m →
    θ_run (Cert.MidRefIdeal.defs (F := Ideal)) (onTc (τ := Cert.MidRefIdeal.τ) (Cert.MidRefIdeal.main (F := Ideal))) ⟨m, fun _ => 0, g⟩ (fun r => (∀ c : Dev Cert.MidRefIdeal.nD,
      r.2.mem ((c.tc : Thread Cert.MidRefIdeal.nD Cert.MidRefIdeal.τ).loc Cert.MidRefIdeal.main_arg0) = m ((c.tc : Thread Cert.MidRefIdeal.nD Cert.MidRefIdeal.τ).loc Cert.MidRefIdeal.main_arg0)
      ∧ r.2.mem ((c.tc : Thread Cert.MidRefIdeal.nD Cert.MidRefIdeal.τ).loc Cert.MidRefIdeal.main_arg1) = m ((c.tc : Thread Cert.MidRefIdeal.nD Cert.MidRefIdeal.τ).loc Cert.MidRefIdeal.main_arg1)
      ∧ r.2.mem ((c.tc : Thread Cert.MidRefIdeal.nD Cert.MidRefIdeal.τ).loc Cert.MidRefIdeal.main_arg2) = m ((c.tc : Thread Cert.MidRefIdeal.nD Cert.MidRefIdeal.τ).loc Cert.MidRefIdeal.main_arg2)
      ∧ r.2.mem ((c.tc : Thread Cert.MidRefIdeal.nD Cert.MidRefIdeal.τ).loc Cert.MidRefIdeal.main_arg3) = m ((c.tc : Thread Cert.MidRefIdeal.nD Cert.MidRefIdeal.τ).loc Cert.MidRefIdeal.main_arg3)
      ∧ r.2.mem ((c.tc : Thread Cert.MidRefIdeal.nD Cert.MidRefIdeal.τ).loc Cert.MidRefIdeal.main_arg4) = m ((c.tc : Thread Cert.MidRefIdeal.nD Cert.MidRefIdeal.τ).loc Cert.MidRefIdeal.main_arg4)
      ∧ r.2.mem ((c.tc : Thread Cert.MidRefIdeal.nD Cert.MidRefIdeal.τ).loc Cert.MidRefIdeal.main_arg5) = m ((c.tc : Thread Cert.MidRefIdeal.nD Cert.MidRefIdeal.τ).loc Cert.MidRefIdeal.main_arg5)
      ∧ r.2.mem ((c.tc : Thread Cert.MidRefIdeal.nD Cert.MidRefIdeal.τ).loc Cert.MidRefIdeal.main_arg6) = m ((c.tc : Thread Cert.MidRefIdeal.nD Cert.MidRefIdeal.τ).loc Cert.MidRefIdeal.main_arg6)
      ∧ r.2.mem ((c.tc : Thread Cert.MidRefIdeal.nD Cert.MidRefIdeal.τ).loc Cert.MidRefIdeal.main_arg7) = m ((c.tc : Thread Cert.MidRefIdeal.nD Cert.MidRefIdeal.τ).loc Cert.MidRefIdeal.main_arg7)
      ∧ r.2.mem ((c.tc : Thread Cert.MidRefIdeal.nD Cert.MidRefIdeal.τ).loc Cert.MidRefIdeal.main_arg8) = m ((c.tc : Thread Cert.MidRefIdeal.nD Cert.MidRefIdeal.τ).loc Cert.MidRefIdeal.main_arg8))
      ∧ r.2.sem = fun _ => 0)

def preserves_Mla_MlaIdeal : Prop :=
  True

def algebraic_MlaIdeal_MlaRefIdeal_pre_finite_mla [hMlaIdeal : Cert.MlaIdeal.Facts] [hMlaRefIdeal : Cert.MlaRefIdeal.Facts] [hPre_finite_mla : Cert.Pre_finite_mla.Facts] : Prop :=
  ∀ (m : (ℓ : Loc Cert.MlaIdeal.nD Cert.MlaIdeal.τ Cert.MlaIdeal.sig) → Buf (Elt Ideal) ℓ) (g : Dev Cert.MlaIdeal.nD → PrngReg)
    (m' : (ℓ : Loc Cert.MlaRefIdeal.nD Cert.MlaRefIdeal.τ Cert.MlaRefIdeal.sig) → Buf (Elt Ideal) ℓ) (g' : Dev Cert.MlaRefIdeal.nD → PrngReg), Pre_MlaIdeal_finite_mla m →
    (∀ c : Dev Cert.MlaIdeal.nD,
      m' ((c.tc : Thread Cert.MlaRefIdeal.nD Cert.MlaRefIdeal.τ).loc Cert.MlaRefIdeal.main_arg0) = m ((c.tc : Thread Cert.MlaIdeal.nD Cert.MlaIdeal.τ).loc Cert.MlaIdeal.main_arg0)
      ∧ m' ((c.tc : Thread Cert.MlaRefIdeal.nD Cert.MlaRefIdeal.τ).loc Cert.MlaRefIdeal.main_arg1) = m ((c.tc : Thread Cert.MlaIdeal.nD Cert.MlaIdeal.τ).loc Cert.MlaIdeal.main_arg1)
      ∧ m' ((c.tc : Thread Cert.MlaRefIdeal.nD Cert.MlaRefIdeal.τ).loc Cert.MlaRefIdeal.main_arg2) = m ((c.tc : Thread Cert.MlaIdeal.nD Cert.MlaIdeal.τ).loc Cert.MlaIdeal.main_arg2)
      ∧ m' ((c.tc : Thread Cert.MlaRefIdeal.nD Cert.MlaRefIdeal.τ).loc Cert.MlaRefIdeal.main_arg3) = m ((c.tc : Thread Cert.MlaIdeal.nD Cert.MlaIdeal.τ).loc Cert.MlaIdeal.main_arg3)
      ∧ m' ((c.tc : Thread Cert.MlaRefIdeal.nD Cert.MlaRefIdeal.τ).loc Cert.MlaRefIdeal.main_arg4) = m ((c.tc : Thread Cert.MlaIdeal.nD Cert.MlaIdeal.τ).loc Cert.MlaIdeal.main_arg4)) →
    ∃ (v0 : (c : Dev Cert.MlaIdeal.nD) → Buf (Elt Ideal) ((c.tc : Thread Cert.MlaIdeal.nD Cert.MlaIdeal.τ).loc Cert.MlaIdeal.main_v48)),
      θ_run (Cert.MlaIdeal.defs (F := Ideal)) (onTc (τ := Cert.MlaIdeal.τ) (Cert.MlaIdeal.main (F := Ideal))) ⟨m, fun _ => 0, g⟩ (fun r => ∀ c : Dev Cert.MlaIdeal.nD,
          r.2.mem ((c.tc : Thread Cert.MlaIdeal.nD Cert.MlaIdeal.τ).loc Cert.MlaIdeal.main_v48) = v0 c
          ∧ r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
          ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
          ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
          ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
          ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4))
      ∧ θ_run (Cert.MlaRefIdeal.defs (F := Ideal)) (onTc (τ := Cert.MlaRefIdeal.τ) (Cert.MlaRefIdeal.main (F := Ideal))) ⟨m', fun _ => 0, g'⟩ (fun r => ∀ c : Dev Cert.MlaRefIdeal.nD,
          r.2.mem ((c.tc : Thread Cert.MlaRefIdeal.nD Cert.MlaRefIdeal.τ).loc Cert.MlaRefIdeal.main_v21) = v0 c
          ∧ r.2.mem ((c.tc : Thread Cert.MlaRefIdeal.nD Cert.MlaRefIdeal.τ).loc Cert.MlaRefIdeal.main_arg0) = m' ((c.tc : Thread Cert.MlaRefIdeal.nD Cert.MlaRefIdeal.τ).loc Cert.MlaRefIdeal.main_arg0)
          ∧ r.2.mem ((c.tc : Thread Cert.MlaRefIdeal.nD Cert.MlaRefIdeal.τ).loc Cert.MlaRefIdeal.main_arg1) = m' ((c.tc : Thread Cert.MlaRefIdeal.nD Cert.MlaRefIdeal.τ).loc Cert.MlaRefIdeal.main_arg1)
          ∧ r.2.mem ((c.tc : Thread Cert.MlaRefIdeal.nD Cert.MlaRefIdeal.τ).loc Cert.MlaRefIdeal.main_arg2) = m' ((c.tc : Thread Cert.MlaRefIdeal.nD Cert.MlaRefIdeal.τ).loc Cert.MlaRefIdeal.main_arg2)
          ∧ r.2.mem ((c.tc : Thread Cert.MlaRefIdeal.nD Cert.MlaRefIdeal.τ).loc Cert.MlaRefIdeal.main_arg3) = m' ((c.tc : Thread Cert.MlaRefIdeal.nD Cert.MlaRefIdeal.τ).loc Cert.MlaRefIdeal.main_arg3)
          ∧ r.2.mem ((c.tc : Thread Cert.MlaRefIdeal.nD Cert.MlaRefIdeal.τ).loc Cert.MlaRefIdeal.main_arg4) = m' ((c.tc : Thread Cert.MlaRefIdeal.nD Cert.MlaRefIdeal.τ).loc Cert.MlaRefIdeal.main_arg4))

def preserves_Gqa_GqaIdeal : Prop :=
  True

def algebraic_GqaIdeal_GqaRefIdeal_pre_finite_gqa [hGqaIdeal : Cert.GqaIdeal.Facts] [hGqaRefIdeal : Cert.GqaRefIdeal.Facts] [hPre_finite_gqa : Cert.Pre_finite_gqa.Facts] : Prop :=
  ∀ (m : (ℓ : Loc Cert.GqaIdeal.nD Cert.GqaIdeal.τ Cert.GqaIdeal.sig) → Buf (Elt Ideal) ℓ) (g : Dev Cert.GqaIdeal.nD → PrngReg)
    (m' : (ℓ : Loc Cert.GqaRefIdeal.nD Cert.GqaRefIdeal.τ Cert.GqaRefIdeal.sig) → Buf (Elt Ideal) ℓ) (g' : Dev Cert.GqaRefIdeal.nD → PrngReg), Pre_GqaIdeal_finite_gqa m →
    (∀ c : Dev Cert.GqaIdeal.nD,
      m' ((c.tc : Thread Cert.GqaRefIdeal.nD Cert.GqaRefIdeal.τ).loc Cert.GqaRefIdeal.main_arg0) = m ((c.tc : Thread Cert.GqaIdeal.nD Cert.GqaIdeal.τ).loc Cert.GqaIdeal.main_arg0)
      ∧ m' ((c.tc : Thread Cert.GqaRefIdeal.nD Cert.GqaRefIdeal.τ).loc Cert.GqaRefIdeal.main_arg1) = m ((c.tc : Thread Cert.GqaIdeal.nD Cert.GqaIdeal.τ).loc Cert.GqaIdeal.main_arg1)
      ∧ m' ((c.tc : Thread Cert.GqaRefIdeal.nD Cert.GqaRefIdeal.τ).loc Cert.GqaRefIdeal.main_arg2) = m ((c.tc : Thread Cert.GqaIdeal.nD Cert.GqaIdeal.τ).loc Cert.GqaIdeal.main_arg2)
      ∧ m' ((c.tc : Thread Cert.GqaRefIdeal.nD Cert.GqaRefIdeal.τ).loc Cert.GqaRefIdeal.main_arg3) = m ((c.tc : Thread Cert.GqaIdeal.nD Cert.GqaIdeal.τ).loc Cert.GqaIdeal.main_arg3)
      ∧ m' ((c.tc : Thread Cert.GqaRefIdeal.nD Cert.GqaRefIdeal.τ).loc Cert.GqaRefIdeal.main_arg4) = m ((c.tc : Thread Cert.GqaIdeal.nD Cert.GqaIdeal.τ).loc Cert.GqaIdeal.main_arg4)) →
    ∃ (v0 : (c : Dev Cert.GqaIdeal.nD) → Buf (Elt Ideal) ((c.tc : Thread Cert.GqaIdeal.nD Cert.GqaIdeal.τ).loc Cert.GqaIdeal.main_v21)),
      θ_run (Cert.GqaIdeal.defs (F := Ideal)) (onTc (τ := Cert.GqaIdeal.τ) (Cert.GqaIdeal.main (F := Ideal))) ⟨m, fun _ => 0, g⟩ (fun r => ∀ c : Dev Cert.GqaIdeal.nD,
          r.2.mem ((c.tc : Thread Cert.GqaIdeal.nD Cert.GqaIdeal.τ).loc Cert.GqaIdeal.main_v21) = v0 c
          ∧ r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
          ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
          ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2)
          ∧ r.2.mem ((c.tc : Thread Cert.GqaIdeal.nD Cert.GqaIdeal.τ).loc Cert.GqaIdeal.main_arg3) = m ((c.tc : Thread Cert.GqaIdeal.nD Cert.GqaIdeal.τ).loc Cert.GqaIdeal.main_arg3)
          ∧ r.2.mem ((c.tc : Thread Cert.GqaIdeal.nD Cert.GqaIdeal.τ).loc Cert.GqaIdeal.main_arg4) = m ((c.tc : Thread Cert.GqaIdeal.nD Cert.GqaIdeal.τ).loc Cert.GqaIdeal.main_arg4))
      ∧ θ_run (Cert.GqaRefIdeal.defs (F := Ideal)) (onTc (τ := Cert.GqaRefIdeal.τ) (Cert.GqaRefIdeal.main (F := Ideal))) ⟨m', fun _ => 0, g'⟩ (fun r => ∀ c : Dev Cert.GqaRefIdeal.nD,
          r.2.mem ((c.tc : Thread Cert.GqaRefIdeal.nD Cert.GqaRefIdeal.τ).loc Cert.GqaRefIdeal.main_v21) = v0 c
          ∧ r.2.mem ((c.tc : Thread Cert.GqaRefIdeal.nD Cert.GqaRefIdeal.τ).loc Cert.GqaRefIdeal.main_arg0) = m' ((c.tc : Thread Cert.GqaRefIdeal.nD Cert.GqaRefIdeal.τ).loc Cert.GqaRefIdeal.main_arg0)
          ∧ r.2.mem ((c.tc : Thread Cert.GqaRefIdeal.nD Cert.GqaRefIdeal.τ).loc Cert.GqaRefIdeal.main_arg1) = m' ((c.tc : Thread Cert.GqaRefIdeal.nD Cert.GqaRefIdeal.τ).loc Cert.GqaRefIdeal.main_arg1)
          ∧ r.2.mem ((c.tc : Thread Cert.GqaRefIdeal.nD Cert.GqaRefIdeal.τ).loc Cert.GqaRefIdeal.main_arg2) = m' ((c.tc : Thread Cert.GqaRefIdeal.nD Cert.GqaRefIdeal.τ).loc Cert.GqaRefIdeal.main_arg2)
          ∧ r.2.mem ((c.tc : Thread Cert.GqaRefIdeal.nD Cert.GqaRefIdeal.τ).loc Cert.GqaRefIdeal.main_arg3) = m' ((c.tc : Thread Cert.GqaRefIdeal.nD Cert.GqaRefIdeal.τ).loc Cert.GqaRefIdeal.main_arg3)
          ∧ r.2.mem ((c.tc : Thread Cert.GqaRefIdeal.nD Cert.GqaRefIdeal.τ).loc Cert.GqaRefIdeal.main_arg4) = m' ((c.tc : Thread Cert.GqaRefIdeal.nD Cert.GqaRefIdeal.τ).loc Cert.GqaRefIdeal.main_arg4))

def preserves_Post_PostIdeal : Prop :=
  True

def algebraic_PostIdeal_PostRefIdeal [hPostIdeal : Cert.PostIdeal.Facts] [hPostRefIdeal : Cert.PostRefIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)
      ∧ m' ((c.tc : Thread Cert.PostRefIdeal.nD Cert.PostRefIdeal.τ).loc Cert.PostRefIdeal.main_arg4) = m ((c.tc : Thread Cert.PostIdeal.nD Cert.PostIdeal.τ).loc Cert.PostIdeal.main_arg4)
      ∧ m' ((c.tc : Thread Cert.PostRefIdeal.nD Cert.PostRefIdeal.τ).loc Cert.PostRefIdeal.main_arg5) = m ((c.tc : Thread Cert.PostIdeal.nD Cert.PostIdeal.τ).loc Cert.PostIdeal.main_arg5)
      ∧ m' ((c.tc : Thread Cert.PostRefIdeal.nD Cert.PostRefIdeal.τ).loc Cert.PostRefIdeal.main_arg6) = m ((c.tc : Thread Cert.PostIdeal.nD Cert.PostIdeal.τ).loc Cert.PostIdeal.main_arg6)
      ∧ m' ((c.tc : Thread Cert.PostRefIdeal.nD Cert.PostRefIdeal.τ).loc Cert.PostRefIdeal.main_arg7) = m ((c.tc : Thread Cert.PostIdeal.nD Cert.PostIdeal.τ).loc Cert.PostIdeal.main_arg7)
      ∧ m' ((c.tc : Thread Cert.PostRefIdeal.nD Cert.PostRefIdeal.τ).loc Cert.PostRefIdeal.main_arg8) = m ((c.tc : Thread Cert.PostIdeal.nD Cert.PostIdeal.τ).loc Cert.PostIdeal.main_arg8)) →
    ∃ (v0 : (c : Dev Cert.PostIdeal.nD) → Buf (Elt Ideal) ((c.tc : Thread Cert.PostIdeal.nD Cert.PostIdeal.τ).loc Cert.PostIdeal.main_v7)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v7) = v0 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
          ∧ r.2.mem ((c.tc : Thread Cert.PostIdeal.nD Cert.PostIdeal.τ).loc Cert.PostIdeal.main_arg8) = m ((c.tc : Thread Cert.PostIdeal.nD Cert.PostIdeal.τ).loc Cert.PostIdeal.main_arg8))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v54) = v0 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3)
          ∧ r.2.mem ((c.tc : Thread Cert.PostRefIdeal.nD Cert.PostRefIdeal.τ).loc Cert.PostRefIdeal.main_arg4) = m' ((c.tc : Thread Cert.PostRefIdeal.nD Cert.PostRefIdeal.τ).loc Cert.PostRefIdeal.main_arg4)
          ∧ r.2.mem ((c.tc : Thread Cert.PostRefIdeal.nD Cert.PostRefIdeal.τ).loc Cert.PostRefIdeal.main_arg5) = m' ((c.tc : Thread Cert.PostRefIdeal.nD Cert.PostRefIdeal.τ).loc Cert.PostRefIdeal.main_arg5)
          ∧ r.2.mem ((c.tc : Thread Cert.PostRefIdeal.nD Cert.PostRefIdeal.τ).loc Cert.PostRefIdeal.main_arg6) = m' ((c.tc : Thread Cert.PostRefIdeal.nD Cert.PostRefIdeal.τ).loc Cert.PostRefIdeal.main_arg6)
          ∧ r.2.mem ((c.tc : Thread Cert.PostRefIdeal.nD Cert.PostRefIdeal.τ).loc Cert.PostRefIdeal.main_arg7) = m' ((c.tc : Thread Cert.PostRefIdeal.nD Cert.PostRefIdeal.τ).loc Cert.PostRefIdeal.main_arg7)
          ∧ r.2.mem ((c.tc : Thread Cert.PostRefIdeal.nD Cert.PostRefIdeal.τ).loc Cert.PostRefIdeal.main_arg8) = m' ((c.tc : Thread Cert.PostRefIdeal.nD Cert.PostRefIdeal.τ).loc Cert.PostRefIdeal.main_arg8))

def preserves_Mid_MidIdeal : Prop :=
  True

def algebraic_MidIdeal_MidRefIdeal [hMidIdeal : Cert.MidIdeal.Facts] [hMidRefIdeal : Cert.MidRefIdeal.Facts] : Prop :=
  ∀ (m : (ℓ : Loc Cert.MidIdeal.nD Cert.MidIdeal.τ Cert.MidIdeal.sig) → Buf (Elt Ideal) ℓ) (g : Dev Cert.MidIdeal.nD → PrngReg)
    (m' : (ℓ : Loc Cert.MidRefIdeal.nD Cert.MidRefIdeal.τ Cert.MidRefIdeal.sig) → Buf (Elt Ideal) ℓ) (g' : Dev Cert.MidRefIdeal.nD → PrngReg), Pre_MidIdeal m →
    (∀ c : Dev Cert.MidIdeal.nD,
      m' ((c.tc : Thread Cert.MidRefIdeal.nD Cert.MidRefIdeal.τ).loc Cert.MidRefIdeal.main_arg0) = m ((c.tc : Thread Cert.MidIdeal.nD Cert.MidIdeal.τ).loc Cert.MidIdeal.main_arg0)
      ∧ m' ((c.tc : Thread Cert.MidRefIdeal.nD Cert.MidRefIdeal.τ).loc Cert.MidRefIdeal.main_arg1) = m ((c.tc : Thread Cert.MidIdeal.nD Cert.MidIdeal.τ).loc Cert.MidIdeal.main_arg1)
      ∧ m' ((c.tc : Thread Cert.MidRefIdeal.nD Cert.MidRefIdeal.τ).loc Cert.MidRefIdeal.main_arg2) = m ((c.tc : Thread Cert.MidIdeal.nD Cert.MidIdeal.τ).loc Cert.MidIdeal.main_arg2)
      ∧ m' ((c.tc : Thread Cert.MidRefIdeal.nD Cert.MidRefIdeal.τ).loc Cert.MidRefIdeal.main_arg3) = m ((c.tc : Thread Cert.MidIdeal.nD Cert.MidIdeal.τ).loc Cert.MidIdeal.main_arg3)
      ∧ m' ((c.tc : Thread Cert.MidRefIdeal.nD Cert.MidRefIdeal.τ).loc Cert.MidRefIdeal.main_arg4) = m ((c.tc : Thread Cert.MidIdeal.nD Cert.MidIdeal.τ).loc Cert.MidIdeal.main_arg4)
      ∧ m' ((c.tc : Thread Cert.MidRefIdeal.nD Cert.MidRefIdeal.τ).loc Cert.MidRefIdeal.main_arg5) = m ((c.tc : Thread Cert.MidIdeal.nD Cert.MidIdeal.τ).loc Cert.MidIdeal.main_arg5)
      ∧ m' ((c.tc : Thread Cert.MidRefIdeal.nD Cert.MidRefIdeal.τ).loc Cert.MidRefIdeal.main_arg6) = m ((c.tc : Thread Cert.MidIdeal.nD Cert.MidIdeal.τ).loc Cert.MidIdeal.main_arg6)
      ∧ m' ((c.tc : Thread Cert.MidRefIdeal.nD Cert.MidRefIdeal.τ).loc Cert.MidRefIdeal.main_arg7) = m ((c.tc : Thread Cert.MidIdeal.nD Cert.MidIdeal.τ).loc Cert.MidIdeal.main_arg7)
      ∧ m' ((c.tc : Thread Cert.MidRefIdeal.nD Cert.MidRefIdeal.τ).loc Cert.MidRefIdeal.main_arg8) = m ((c.tc : Thread Cert.MidIdeal.nD Cert.MidIdeal.τ).loc Cert.MidIdeal.main_arg8)) →
    ∃ (v0 : (c : Dev Cert.MidIdeal.nD) → Buf (Elt Ideal) ((c.tc : Thread Cert.MidIdeal.nD Cert.MidIdeal.τ).loc Cert.MidIdeal.main_v7)),
      θ_run (Cert.MidIdeal.defs (F := Ideal)) (onTc (τ := Cert.MidIdeal.τ) (Cert.MidIdeal.main (F := Ideal))) ⟨m, fun _ => 0, g⟩ (fun r => ∀ c : Dev Cert.MidIdeal.nD,
          r.2.mem ((c.tc : Thread Cert.MidIdeal.nD Cert.MidIdeal.τ).loc Cert.MidIdeal.main_v7) = v0 c
          ∧ r.2.mem ((c.tc : Thread Cert.MidIdeal.nD Cert.MidIdeal.τ).loc Cert.MidIdeal.main_arg0) = m ((c.tc : Thread Cert.MidIdeal.nD Cert.MidIdeal.τ).loc Cert.MidIdeal.main_arg0)
          ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
          ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
          ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
          ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
          ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
          ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
          ∧ r.2.mem ((c.tc : Thread Cert.MidIdeal.nD Cert.MidIdeal.τ).loc Cert.MidIdeal.main_arg7) = m ((c.tc : Thread Cert.MidIdeal.nD Cert.MidIdeal.τ).loc Cert.MidIdeal.main_arg7)
          ∧ r.2.mem ((c.tc : Thread Cert.MidIdeal.nD Cert.MidIdeal.τ).loc Cert.MidIdeal.main_arg8) = m ((c.tc : Thread Cert.MidIdeal.nD Cert.MidIdeal.τ).loc Cert.MidIdeal.main_arg8))
      ∧ θ_run (Cert.MidRefIdeal.defs (F := Ideal)) (onTc (τ := Cert.MidRefIdeal.τ) (Cert.MidRefIdeal.main (F := Ideal))) ⟨m', fun _ => 0, g'⟩ (fun r => ∀ c : Dev Cert.MidRefIdeal.nD,
          r.2.mem ((c.tc : Thread Cert.MidRefIdeal.nD Cert.MidRefIdeal.τ).loc Cert.MidRefIdeal.main_v41) = v0 c
          ∧ r.2.mem ((c.tc : Thread Cert.MidRefIdeal.nD Cert.MidRefIdeal.τ).loc Cert.MidRefIdeal.main_arg0) = m' ((c.tc : Thread Cert.MidRefIdeal.nD Cert.MidRefIdeal.τ).loc Cert.MidRefIdeal.main_arg0)
          ∧ r.2.mem ((c.tc : Thread Cert.MidRefIdeal.nD Cert.MidRefIdeal.τ).loc Cert.MidRefIdeal.main_arg1) = m' ((c.tc : Thread Cert.MidRefIdeal.nD Cert.MidRefIdeal.τ).loc Cert.MidRefIdeal.main_arg1)
          ∧ r.2.mem ((c.tc : Thread Cert.MidRefIdeal.nD Cert.MidRefIdeal.τ).loc Cert.MidRefIdeal.main_arg2) = m' ((c.tc : Thread Cert.MidRefIdeal.nD Cert.MidRefIdeal.τ).loc Cert.MidRefIdeal.main_arg2)
          ∧ r.2.mem ((c.tc : Thread Cert.MidRefIdeal.nD Cert.MidRefIdeal.τ).loc Cert.MidRefIdeal.main_arg3) = m' ((c.tc : Thread Cert.MidRefIdeal.nD Cert.MidRefIdeal.τ).loc Cert.MidRefIdeal.main_arg3)
          ∧ r.2.mem ((c.tc : Thread Cert.MidRefIdeal.nD Cert.MidRefIdeal.τ).loc Cert.MidRefIdeal.main_arg4) = m' ((c.tc : Thread Cert.MidRefIdeal.nD Cert.MidRefIdeal.τ).loc Cert.MidRefIdeal.main_arg4)
          ∧ r.2.mem ((c.tc : Thread Cert.MidRefIdeal.nD Cert.MidRefIdeal.τ).loc Cert.MidRefIdeal.main_arg5) = m' ((c.tc : Thread Cert.MidRefIdeal.nD Cert.MidRefIdeal.τ).loc Cert.MidRefIdeal.main_arg5)
          ∧ r.2.mem ((c.tc : Thread Cert.MidRefIdeal.nD Cert.MidRefIdeal.τ).loc Cert.MidRefIdeal.main_arg6) = m' ((c.tc : Thread Cert.MidRefIdeal.nD Cert.MidRefIdeal.τ).loc Cert.MidRefIdeal.main_arg6)
          ∧ r.2.mem ((c.tc : Thread Cert.MidRefIdeal.nD Cert.MidRefIdeal.τ).loc Cert.MidRefIdeal.main_arg7) = m' ((c.tc : Thread Cert.MidRefIdeal.nD Cert.MidRefIdeal.τ).loc Cert.MidRefIdeal.main_arg7)
          ∧ r.2.mem ((c.tc : Thread Cert.MidRefIdeal.nD Cert.MidRefIdeal.τ).loc Cert.MidRefIdeal.main_arg8) = m' ((c.tc : Thread Cert.MidRefIdeal.nD Cert.MidRefIdeal.τ).loc Cert.MidRefIdeal.main_arg8))

def Claim : Prop :=
  ∃ (hMla : Cert.Mla.Facts) (hMlaIdeal : Cert.MlaIdeal.Facts) (hMlaRefIdeal : Cert.MlaRefIdeal.Facts) (hGqa : Cert.Gqa.Facts) (hGqaIdeal : Cert.GqaIdeal.Facts) (hGqaRefIdeal : Cert.GqaRefIdeal.Facts) (hPost : Cert.Post.Facts) (hPostIdeal : Cert.PostIdeal.Facts) (hPostRefIdeal : Cert.PostRefIdeal.Facts) (hMid : Cert.Mid.Facts) (hMidIdeal : Cert.MidIdeal.Facts) (hMidRefIdeal : Cert.MidRefIdeal.Facts) (hPre_finite_mla : Cert.Pre_finite_mla.Facts) (hPre_finite_gqa : Cert.Pre_finite_gqa.Facts),
    quiescent_Mla (hMla := hMla)
    ∧ quiescent_MlaIdeal (hMlaIdeal := hMlaIdeal)
    ∧ quiescent_MlaIdeal_pre_finite_mla (hMlaIdeal := hMlaIdeal) (hPre_finite_mla := hPre_finite_mla)
    ∧ quiescent_MlaRefIdeal (hMlaRefIdeal := hMlaRefIdeal)
    ∧ quiescent_MlaRefIdeal_pre_finite_mla (hMlaRefIdeal := hMlaRefIdeal) (hPre_finite_mla := hPre_finite_mla)
    ∧ quiescent_Gqa (hGqa := hGqa)
    ∧ quiescent_GqaIdeal (hGqaIdeal := hGqaIdeal)
    ∧ quiescent_GqaIdeal_pre_finite_gqa (hGqaIdeal := hGqaIdeal) (hPre_finite_gqa := hPre_finite_gqa)
    ∧ quiescent_GqaRefIdeal (hGqaRefIdeal := hGqaRefIdeal)
    ∧ quiescent_GqaRefIdeal_pre_finite_gqa (hGqaRefIdeal := hGqaRefIdeal) (hPre_finite_gqa := hPre_finite_gqa)
    ∧ quiescent_Post (hPost := hPost)
    ∧ quiescent_PostIdeal (hPostIdeal := hPostIdeal)
    ∧ quiescent_PostRefIdeal (hPostRefIdeal := hPostRefIdeal)
    ∧ quiescent_Mid (hMid := hMid)
    ∧ quiescent_MidIdeal (hMidIdeal := hMidIdeal)
    ∧ quiescent_MidRefIdeal (hMidRefIdeal := hMidRefIdeal)
    ∧ preserves_Mla_MlaIdeal
    ∧ algebraic_MlaIdeal_MlaRefIdeal_pre_finite_mla (hMlaIdeal := hMlaIdeal) (hMlaRefIdeal := hMlaRefIdeal) (hPre_finite_mla := hPre_finite_mla)
    ∧ preserves_Gqa_GqaIdeal
    ∧ algebraic_GqaIdeal_GqaRefIdeal_pre_finite_gqa (hGqaIdeal := hGqaIdeal) (hGqaRefIdeal := hGqaRefIdeal) (hPre_finite_gqa := hPre_finite_gqa)
    ∧ preserves_Post_PostIdeal
    ∧ algebraic_PostIdeal_PostRefIdeal (hPostIdeal := hPostIdeal) (hPostRefIdeal := hPostRefIdeal)
    ∧ preserves_Mid_MidIdeal
    ∧ algebraic_MidIdeal_MidRefIdeal (hMidIdeal := hMidIdeal) (hMidRefIdeal := hMidRefIdeal)
-- ==== Pre_finite_gqa.lean ====
abbrev S32x2048x2x2x128 : Shape := ⟨5, ![32, 2048, 2, 2, 128]⟩
abbrev S32x256x2x128 : Shape := ⟨4, ![32, 256, 2, 128]⟩
abbrev S32x2048x2x128 : Shape := ⟨4, ![32, 2048, 2, 128]⟩
abbrev S_ : Shape := ⟨0, ![]⟩

class Facts : Prop where
  bcast_S_S32x2048x2x2x128 : S_.BroadcastsInDim S32x2048x2x2x128 (![] : Fin 0 → Fin S32x2048x2x2x128.rank)
  bcast_S_S32x256x2x128 : S_.BroadcastsInDim S32x256x2x128 (![] : Fin 0 → Fin S32x256x2x128.rank)
  bcast_S_S32x2048x2x128 : S_.BroadcastsInDim S32x2048x2x128 (![] : Fin 0 → Fin S32x2048x2x128.rank)

variable [Facts]

def fn {F : FTy → Type} [FloatOps F] (main_arg0 : FVec F S32x2048x2x2x128 .f32) (main_arg1 : FVec F S32x256x2x128 .f32) (main_arg2 : FVec F S32x256x2x128 .f32) (main_arg3 : FVec F S32x2048x2x128 .f32) (main_arg4 : FVec F S32x2048x2x128 .f32) : IVec S32x2048x2x2x128 1 × IVec S32x256x2x128 1 × IVec S32x2048x2x128 1 :=
  let main_v0 : FVec F S32x2048x2x2x128 .f32 := Host.absf main_arg0
  let main_cst : FVec F S_ .f32 := constant S_ .f32 0x7F800000#32
  let main_v1 : FVec F S32x2048x2x2x128 .f32 := broadcastInDim S32x2048x2x2x128 ![] bcast_S_S32x2048x2x2x128 main_cst
  let main_v2 : IVec S32x2048x2x2x128 1 := cmpf .olt main_v0 main_v1
  let main_v3 : FVec F S32x256x2x128 .f32 := Host.absf main_arg1
  let main_cst_0 : FVec F S_ .f32 := constant S_ .f32 0x7F800000#32
  let main_v4 : FVec F S32x256x2x128 .f32 := broadcastInDim S32x256x2x128 ![] bcast_S_S32x256x2x128 main_cst_0
  let main_v5 : IVec S32x256x2x128 1 := cmpf .olt main_v3 main_v4
  let main_v6 : FVec F S32x2048x2x128 .f32 := Host.absf main_arg3
  let main_cst_1 : FVec F S_ .f32 := constant S_ .f32 0x7F800000#32
  let main_v7 : FVec F S32x2048x2x128 .f32 := broadcastInDim S32x2048x2x128 ![] bcast_S_S32x2048x2x128 main_cst_1
  let main_v8 : IVec S32x2048x2x128 1 := cmpf .olt main_v6 main_v7
  (main_v2, main_v5, main_v8)
-- ==== Pre_finite_mla.lean ====
abbrev S32x2048x4x1x192 : Shape := ⟨5, ![32, 2048, 4, 1, 192]⟩
abbrev S32x256x4x192 : Shape := ⟨4, ![32, 256, 4, 192]⟩
abbrev S32x256x4x128 : Shape := ⟨4, ![32, 256, 4, 128]⟩
abbrev S32x2048x4x192 : Shape := ⟨4, ![32, 2048, 4, 192]⟩
abbrev S32x2048x4x128 : Shape := ⟨4, ![32, 2048, 4, 128]⟩
abbrev S_ : Shape := ⟨0, ![]⟩

class Facts : Prop where
  bcast_S_S32x2048x4x1x192 : S_.BroadcastsInDim S32x2048x4x1x192 (![] : Fin 0 → Fin S32x2048x4x1x192.rank)
  bcast_S_S32x256x4x192 : S_.BroadcastsInDim S32x256x4x192 (![] : Fin 0 → Fin S32x256x4x192.rank)
  bcast_S_S32x2048x4x192 : S_.BroadcastsInDim S32x2048x4x192 (![] : Fin 0 → Fin S32x2048x4x192.rank)

variable [Facts]

def fn {F : FTy → Type} [FloatOps F] (main_arg0 : FVec F S32x2048x4x1x192 .f32) (main_arg1 : FVec F S32x256x4x192 .f32) (main_arg2 : FVec F S32x256x4x128 .f32) (main_arg3 : FVec F S32x2048x4x192 .f32) (main_arg4 : FVec F S32x2048x4x128 .f32) : IVec S32x2048x4x1x192 1 × IVec S32x256x4x192 1 × IVec S32x2048x4x192 1 :=
  let main_v0 : FVec F S32x2048x4x1x192 .f32 := Host.absf main_arg0
  let main_cst : FVec F S_ .f32 := constant S_ .f32 0x7F800000#32
  let main_v1 : FVec F S32x2048x4x1x192 .f32 := broadcastInDim S32x2048x4x1x192 ![] bcast_S_S32x2048x4x1x192 main_cst
  let main_v2 : IVec S32x2048x4x1x192 1 := cmpf .olt main_v0 main_v1
  let main_v3 : FVec F S32x256x4x192 .f32 := Host.absf main_arg1
  let main_cst_0 : FVec F S_ .f32 := constant S_ .f32 0x7F800000#32
  let main_v4 : FVec F S32x256x4x192 .f32 := broadcastInDim S32x256x4x192 ![] bcast_S_S32x256x4x192 main_cst_0
  let main_v5 : IVec S32x256x4x192 1 := cmpf .olt main_v3 main_v4
  let main_v6 : FVec F S32x2048x4x192 .f32 := Host.absf main_arg3
  let main_cst_1 : FVec F S_ .f32 := constant S_ .f32 0x7F800000#32
  let main_v7 : FVec F S32x2048x4x192 .f32 := broadcastInDim S32x2048x4x192 ![] bcast_S_S32x2048x4x192 main_cst_1
  let main_v8 : IVec S32x2048x4x192 1 := cmpf .olt main_v6 main_v7
  (main_v2, main_v5, main_v8)
-- ==== Mla.lean ====
abbrev S32x2048x4x1x192 : Shape := ⟨5, ![32, 2048, 4, 1, 192]⟩
abbrev S32x256x4x192 : Shape := ⟨4, ![32, 256, 4, 192]⟩
abbrev S32x256x4x128 : Shape := ⟨4, ![32, 256, 4, 128]⟩
abbrev S32x2048x4x192 : Shape := ⟨4, ![32, 2048, 4, 192]⟩
abbrev S32x2048x4x128 : Shape := ⟨4, ![32, 2048, 4, 128]⟩
abbrev S_ : Shape := ⟨0, ![]⟩
abbrev S32x2048x4x64 : Shape := ⟨4, ![32, 2048, 4, 64]⟩
abbrev S32x2048x2x1x128 : Shape := ⟨5, ![32, 2048, 2, 1, 128]⟩
abbrev S32x2048x2x2x128 : Shape := ⟨5, ![32, 2048, 2, 2, 128]⟩
abbrev S32x2048x4x256 : Shape := ⟨4, ![32, 2048, 4, 256]⟩
abbrev S32x2048x1024 : Shape := ⟨3, ![32, 2048, 1024]⟩
abbrev S32x256x2x2x192 : Shape := ⟨5, ![32, 256, 2, 2, 192]⟩
abbrev S32x256x2x2x128 : Shape := ⟨5, ![32, 256, 2, 2, 128]⟩
abbrev S32x256x2x2x64 : Shape := ⟨5, ![32, 256, 2, 2, 64]⟩
abbrev S32x256x2x1x64 : Shape := ⟨5, ![32, 256, 2, 1, 64]⟩
abbrev S32x256x2x2x256 : Shape := ⟨5, ![32, 256, 2, 2, 256]⟩
abbrev S32x256x1024 : Shape := ⟨3, ![32, 256, 1024]⟩
abbrev S32x1024x256 : Shape := ⟨3, ![32, 1024, 256]⟩
abbrev S32x256x4x256 : Shape := ⟨4, ![32, 256, 4, 256]⟩
abbrev S32x2048x2x2x192 : Shape := ⟨5, ![32, 2048, 2, 2, 192]⟩
abbrev S32x2048x2x2x64 : Shape := ⟨5, ![32, 2048, 2, 2, 64]⟩
abbrev S32x2048x2x1x64 : Shape := ⟨5, ![32, 2048, 2, 1, 64]⟩
abbrev S32x2048x2x2x256 : Shape := ⟨5, ![32, 2048, 2, 2, 256]⟩
abbrev S32x1024x2048 : Shape := ⟨3, ![32, 1024, 2048]⟩
abbrev S32x2048x512 : Shape := ⟨3, ![32, 2048, 512]⟩
abbrev S1x1024x1024 : Shape := ⟨3, ![1, 1024, 1024]⟩
abbrev S1x1024x256 : Shape := ⟨3, ![1, 1024, 256]⟩
abbrev S1x256x1024 : Shape := ⟨3, ![1, 256, 1024]⟩
abbrev S1x1024x2048 : Shape := ⟨3, ![1, 1024, 2048]⟩
abbrev S1x2048x1024 : Shape := ⟨3, ![1, 2048, 1024]⟩
abbrev S1x1024x512 : Shape := ⟨3, ![1, 1024, 512]⟩
abbrev S1024x256 : Shape := ⟨2, ![1024, 256]⟩
abbrev S1x256x256 : Shape := ⟨3, ![1, 256, 256]⟩
abbrev S256x256 : Shape := ⟨2, ![256, 256]⟩
abbrev S1x256x2048 : Shape := ⟨3, ![1, 256, 2048]⟩
abbrev S256x2048 : Shape := ⟨2, ![256, 2048]⟩
abbrev S1024x2048 : Shape := ⟨2, ![1024, 2048]⟩
abbrev S1024x128 : Shape := ⟨2, ![1024, 128]⟩
abbrev S1024 : Shape := ⟨1, ![1024]⟩
abbrev S1024x1 : Shape := ⟨2, ![1024, 1]⟩
abbrev S512x256 : Shape := ⟨2, ![512, 256]⟩
abbrev S512x2048 : Shape := ⟨2, ![512, 2048]⟩
abbrev S1x2048x256 : Shape := ⟨3, ![1, 2048, 256]⟩
abbrev S2048x256 : Shape := ⟨2, ![2048, 256]⟩
abbrev S512x128 : Shape := ⟨2, ![512, 128]⟩
abbrev S1x512x128 : Shape := ⟨3, ![1, 512, 128]⟩

abbrev nBuf : Space → Nat
  | .hbm => 60
  | .vmem => 12
  | .smem => 0
  | _ => 0

abbrev bufTy : (tb : Table) → Fin (tcTables nBuf tb) → BufTy
  | .hbm, ⟨0, _⟩ => ⟨S32x2048x4x1x192, .f32⟩
  | .hbm, ⟨1, _⟩ => ⟨S32x256x4x192, .f32⟩
  | .hbm, ⟨2, _⟩ => ⟨S32x256x4x128, .f32⟩
  | .hbm, ⟨3, _⟩ => ⟨S32x2048x4x192, .f32⟩
  | .hbm, ⟨4, _⟩ => ⟨S32x2048x4x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S32x2048x4x1x192, .f32⟩
  | .hbm, ⟨11, _⟩ => ⟨S32x2048x4x1x192, .f32⟩
  | .hbm, ⟨12, _⟩ => ⟨S32x2048x4x1x192, .bf16⟩
  | .hbm, ⟨13, _⟩ => ⟨S32x2048x4x192, .bf16⟩
  | .hbm, ⟨14, _⟩ => ⟨S32x2048x4x64, .bf16⟩
  | .hbm, ⟨15, _⟩ => ⟨S32x2048x2x1x128, .bf16⟩
  | .hbm, ⟨16, _⟩ => ⟨S32x2048x2x2x128, .bf16⟩
  | .hbm, ⟨17, _⟩ => ⟨S32x2048x4x128, .bf16⟩
  | .hbm, ⟨18, _⟩ => ⟨S32x2048x4x128, .bf16⟩
  | .hbm, ⟨19, _⟩ => ⟨S32x2048x4x256, .bf16⟩
  | .hbm, ⟨20, _⟩ => ⟨S32x2048x1024, .bf16⟩
  | .hbm, ⟨21, _⟩ => ⟨S32x256x4x192, .bf16⟩
  | .hbm, ⟨22, _⟩ => ⟨S32x256x2x2x192, .bf16⟩
  | .hbm, ⟨23, _⟩ => ⟨S32x256x2x2x128, .bf16⟩
  | .hbm, ⟨24, _⟩ => ⟨S32x256x2x2x64, .bf16⟩
  | .hbm, ⟨25, _⟩ => ⟨S_, .bf16⟩
  | .hbm, ⟨26, _⟩ => ⟨S32x256x2x1x64, .bf16⟩
  | .hbm, ⟨27, _⟩ => ⟨S32x256x2x1x64, .bf16⟩
  | .hbm, ⟨28, _⟩ => ⟨S32x256x2x2x64, .bf16⟩
  | .hbm, ⟨29, _⟩ => ⟨S32x256x2x1x64, .bf16⟩
  | .hbm, ⟨30, _⟩ => ⟨S32x256x2x2x64, .bf16⟩
  | .hbm, ⟨31, _⟩ => ⟨S32x256x2x2x128, .bf16⟩
  | .hbm, ⟨32, _⟩ => ⟨S32x256x2x2x256, .bf16⟩
  | .hbm, ⟨33, _⟩ => ⟨S32x256x1024, .bf16⟩
  | .hbm, ⟨34, _⟩ => ⟨S32x1024x256, .bf16⟩
  | .hbm, ⟨35, _⟩ => ⟨S32x256x4x128, .bf16⟩
  | .hbm, ⟨36, _⟩ => ⟨S_, .bf16⟩
  | .hbm, ⟨37, _⟩ => ⟨S32x256x4x128, .bf16⟩
  | .hbm, ⟨38, _⟩ => ⟨S32x256x4x256, .bf16⟩
  | .hbm, ⟨39, _⟩ => ⟨S32x256x1024, .bf16⟩
  | .hbm, ⟨40, _⟩ => ⟨S32x2048x4x192, .bf16⟩
  | .hbm, ⟨41, _⟩ => ⟨S32x2048x2x2x192, .bf16⟩
  | .hbm, ⟨42, _⟩ => ⟨S32x2048x2x2x128, .bf16⟩
  | .hbm, ⟨43, _⟩ => ⟨S32x2048x2x2x64, .bf16⟩
  | .hbm, ⟨44, _⟩ => ⟨S_, .bf16⟩
  | .hbm, ⟨45, _⟩ => ⟨S32x2048x2x1x64, .bf16⟩
  | .hbm, ⟨46, _⟩ => ⟨S32x2048x2x1x64, .bf16⟩
  | .hbm, ⟨47, _⟩ => ⟨S32x2048x2x2x64, .bf16⟩
  | .hbm, ⟨48, _⟩ => ⟨S32x2048x2x1x64, .bf16⟩
  | .hbm, ⟨49, _⟩ => ⟨S32x2048x2x2x64, .bf16⟩
  | .hbm, ⟨50, _⟩ => ⟨S32x2048x2x2x128, .bf16⟩
  | .hbm, ⟨51, _⟩ => ⟨S32x2048x2x2x256, .bf16⟩
  | .hbm, ⟨52, _⟩ => ⟨S32x2048x1024, .bf16⟩
  | .hbm, ⟨53, _⟩ => ⟨S32x1024x2048, .bf16⟩
  | .hbm, ⟨54, _⟩ => ⟨S32x2048x4x128, .bf16⟩
  | .hbm, ⟨55, _⟩ => ⟨S_, .bf16⟩
  | .hbm, ⟨56, _⟩ => ⟨S32x2048x4x128, .bf16⟩
  | .hbm, ⟨57, _⟩ => ⟨S32x2048x4x256, .bf16⟩
  | .hbm, ⟨58, _⟩ => ⟨S32x2048x1024, .bf16⟩
  | .hbm, ⟨59, _⟩ => ⟨S32x2048x512, .bf16⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x256, .bf16⟩
  | .local _ .vmem, ⟨3, _⟩ => ⟨S1x1024x256, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x1024x2048, .bf16⟩
  | .local _ .vmem, ⟨7, _⟩ => ⟨S1x1024x2048, .bf16⟩
  | .local _ .vmem, ⟨8, _⟩ => ⟨S1x2048x1024, .bf16⟩
  | .local _ .vmem, ⟨9, _⟩ => ⟨S1x2048x1024, .bf16⟩
  | .local _ .vmem, ⟨10, _⟩ => ⟨S1x1024x512, .bf16⟩
  | .local _ .vmem, ⟨11, _⟩ => ⟨S1x1024x512, .bf16⟩
  | _, _ => ⟨S32x2048x4x1x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_2 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_3 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_cst_4 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== MlaRefIdeal.lean ====
abbrev S32x2048x4x1x192 : Shape := ⟨5, ![32, 2048, 4, 1, 192]⟩
abbrev S32x256x4x192 : Shape := ⟨4, ![32, 256, 4, 192]⟩
abbrev S32x256x4x128 : Shape := ⟨4, ![32, 256, 4, 128]⟩
abbrev S32x2048x4x192 : Shape := ⟨4, ![32, 2048, 4, 192]⟩
abbrev S32x2048x4x128 : Shape := ⟨4, ![32, 2048, 4, 128]⟩
abbrev S32x2304x4x192 : Shape := ⟨4, ![32, 2304, 4, 192]⟩
abbrev S32x2304x4x128 : Shape := ⟨4, ![32, 2304, 4, 128]⟩
abbrev S32x4x2304x2048x1 : Shape := ⟨5, ![32, 4, 2304, 2048, 1]⟩
abbrev S32x4x1x2048x2304 : Shape := ⟨5, ![32, 4, 1, 2048, 2304]⟩
abbrev S_ : Shape := ⟨0, ![]⟩
abbrev S32x4x1x2048 : Shape := ⟨4, ![32, 4, 1, 2048]⟩
abbrev S32x4x1x2048x1 : Shape := ⟨5, ![32, 4, 1, 2048, 1]⟩
abbrev S32x4x128x1x2048 : Shape := ⟨5, ![32, 4, 128, 1, 2048]⟩
abbrev S32x2048x4x1x128 : Shape := ⟨5, ![32, 2048, 4, 1, 128]⟩
abbrev S32x2048x512 : Shape := ⟨3, ![32, 2048, 512]⟩

abbrev nBuf : Space → Nat
  | .hbm => 31
  | .vmem => 0
  | .smem => 0
  | _ => 0

abbrev bufTy : (tb : Table) → Fin (tcTables nBuf tb) → BufTy
  | .hbm, ⟨0, _⟩ => ⟨S32x2048x4x1x192, .f32⟩
  | .hbm, ⟨1, _⟩ => ⟨S32x256x4x192, .f32⟩
  | .hbm, ⟨2, _⟩ => ⟨S32x256x4x128, .f32⟩
  | .hbm, ⟨3, _⟩ => ⟨S32x2048x4x192, .f32⟩
  | .hbm, ⟨4, _⟩ => ⟨S32x2048x4x128, .f32⟩
  | .hbm, ⟨5, _⟩ => ⟨S32x2304x4x192, .f32⟩
  | .hbm, ⟨6, _⟩ => ⟨S32x2304x4x128, .f32⟩
  | .hbm, ⟨7, _⟩ => ⟨S32x4x2304x2048x1, .f32⟩
  | .hbm, ⟨8, _⟩ => ⟨S32x4x1x2048x2304, .f32⟩
  | .hbm, ⟨9, _⟩ => ⟨S_, .f32⟩
  | .hbm, ⟨10, _⟩ => ⟨S_, .f32⟩
  | .hbm, ⟨11, _⟩ => ⟨S32x4x1x2048x2304, .f32⟩
  | .hbm, ⟨12, _⟩ => ⟨S32x4x1x2048x2304, .f32⟩
  | .hbm, ⟨13, _⟩ => ⟨S_, .f32⟩
  | .hbm, ⟨14, _⟩ => ⟨S32x4x1x2048, .f32⟩
  | .hbm, ⟨15, _⟩ => ⟨S_, .f32⟩
  | .hbm, ⟨16, _⟩ => ⟨S32x4x1x2048, .f32⟩
  | .hbm, ⟨17, _⟩ => ⟨S32x4x1x2048, .f32⟩
  | .hbm, ⟨18, _⟩ => ⟨S32x4x1x2048x1, .f32⟩
  | .hbm, ⟨19, _⟩ => ⟨S32x4x1x2048x2304, .f32⟩
  | .hbm, ⟨20, _⟩ => ⟨S32x4x1x2048x2304, .f32⟩
  | .hbm, ⟨21, _⟩ => ⟨S32x4x1x2048x2304, .f32⟩
  | .hbm, ⟨22, _⟩ => ⟨S_, .f32⟩
  | .hbm, ⟨23, _⟩ => ⟨S32x4x1x2048, .f32⟩
  | .hbm, ⟨24, _⟩ => ⟨S32x4x1x2048x1, .f32⟩
  | .hbm, ⟨25, _⟩ => ⟨S32x4x1x2048x2304, .f32⟩
  | .hbm, ⟨26, _⟩ => ⟨S32x4x1x2048x2304, .f32⟩
  | .hbm, ⟨27, _⟩ => ⟨S32x4x128x1x2048, .f32⟩
  | .hbm, ⟨28, _⟩ => ⟨S32x2048x4x1x128, .f32⟩
  | .hbm, ⟨29, _⟩ => ⟨S32x2048x512, .f32⟩
  | .hbm, ⟨30, _⟩ => ⟨S32x2048x512, .bf16⟩
  | _, _ => ⟨S32x2048x4x1x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Gqa.lean ====
abbrev S32x2048x2x2x128 : Shape := ⟨5, ![32, 2048, 2, 2, 128]⟩
abbrev S32x256x2x128 : Shape := ⟨4, ![32, 256, 2, 128]⟩
abbrev S32x2048x2x128 : Shape := ⟨4, ![32, 2048, 2, 128]⟩
abbrev S_ : Shape := ⟨0, ![]⟩
abbrev S32x2048x512 : Shape := ⟨3, ![32, 2048, 512]⟩
abbrev S32x256x256 : Shape := ⟨3, ![32, 256, 256]⟩
abbrev S32x256x2x256 : Shape := ⟨4, ![32, 256, 2, 256]⟩
abbrev S32x256x512 : Shape := ⟨3, ![32, 256, 512]⟩
abbrev S32x2048x256 : Shape := ⟨3, ![32, 2048, 256]⟩
abbrev S32x256x2048 : Shape := ⟨3, ![32, 256, 2048]⟩
abbrev S32x2048x2x256 : Shape := ⟨4, ![32, 2048, 2, 256]⟩
abbrev S1x1024x512 : Shape := ⟨3, ![1, 1024, 512]⟩
abbrev S1x256x256 : Shape := ⟨3, ![1, 256, 256]⟩
abbrev S1x256x512 : Shape := ⟨3, ![1, 256, 512]⟩
abbrev S1x256x2048 : Shape := ⟨3, ![1, 256, 2048]⟩
abbrev S1x2048x512 : Shape := ⟨3, ![1, 2048, 512]⟩
abbrev S1x1024x128 : Shape := ⟨3, ![1, 1024, 128]⟩
abbrev S1024x128 : Shape := ⟨2, ![1024, 128]⟩
abbrev S1x128x256 : Shape := ⟨3, ![1, 128, 256]⟩
abbrev S128x256 : Shape := ⟨2, ![128, 256]⟩
abbrev S1024x256 : Shape := ⟨2, ![1024, 256]⟩
abbrev S1x128x2048 : Shape := ⟨3, ![1, 128, 2048]⟩
abbrev S128x2048 : Shape := ⟨2, ![128, 2048]⟩
abbrev S1024x2048 : Shape := ⟨2, ![1024, 2048]⟩
abbrev S1024 : Shape := ⟨1, ![1024]⟩
abbrev S1024x1 : Shape := ⟨2, ![1024, 1]⟩
abbrev S512x256 : Shape := ⟨2, ![512, 256]⟩
abbrev S256x256 : Shape := ⟨2, ![256, 256]⟩
abbrev S512x2048 : Shape := ⟨2, ![512, 2048]⟩
abbrev S1x2048x256 : Shape := ⟨3, ![1, 2048, 256]⟩
abbrev S2048x256 : Shape := ⟨2, ![2048, 256]⟩
abbrev S512x128 : Shape := ⟨2, ![512, 128]⟩
abbrev S1x512x128 : Shape := ⟨3, ![1, 512, 128]⟩

abbrev nBuf : Space → Nat
  | .hbm => 31
  | .vmem => 12
  | .smem => 0
  | _ => 0

abbrev bufTy : (tb : Table) → Fin (tcTables nBuf tb) → BufTy
  | .hbm, ⟨0, _⟩ => ⟨S32x2048x2x2x128, .f32⟩
  | .hbm, ⟨1, _⟩ => ⟨S32x256x2x128, .f32⟩
  | .hbm, ⟨2, _⟩ => ⟨S32x256x2x128, .f32⟩
  | .hbm, ⟨3, _⟩ => ⟨S32x2048x2x128, .f32⟩
  | .hbm, ⟨4, _⟩ => ⟨S32x2048x2x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S32x2048x2x2x128, .f32⟩
  | .hbm, ⟨11, _⟩ => ⟨S32x2048x2x2x128, .f32⟩
  | .hbm, ⟨12, _⟩ => ⟨S32x2048x2x2x128, .bf16⟩
  | .hbm, ⟨13, _⟩ => ⟨S32x2048x512, .bf16⟩
  | .hbm, ⟨14, _⟩ => ⟨S32x256x2x128, .bf16⟩
  | .hbm, ⟨15, _⟩ => ⟨S32x256x256, .bf16⟩
  | .hbm, ⟨16, _⟩ => ⟨S32x256x256, .bf16⟩
  | .hbm, ⟨17, _⟩ => ⟨S32x256x2x128, .bf16⟩
  | .hbm, ⟨18, _⟩ => ⟨S_, .bf16⟩
  | .hbm, ⟨19, _⟩ => ⟨S32x256x2x128, .bf16⟩
  | .hbm, ⟨20, _⟩ => ⟨S32x256x2x256, .bf16⟩
  | .hbm, ⟨21, _⟩ => ⟨S32x256x512, .bf16⟩
  | .hbm, ⟨22, _⟩ => ⟨S32x2048x2x128, .bf16⟩
  | .hbm, ⟨23, _⟩ => ⟨S32x2048x256, .bf16⟩
  | .hbm, ⟨24, _⟩ => ⟨S32x256x2048, .bf16⟩
  | .hbm, ⟨25, _⟩ => ⟨S32x2048x2x128, .bf16⟩
  | .hbm, ⟨26, _⟩ => ⟨S_, .bf16⟩
  | .hbm, ⟨27, _⟩ => ⟨S32x2048x2x128, .bf16⟩
  | .hbm, ⟨28, _⟩ => ⟨S32x2048x2x256, .bf16⟩
  | .hbm, ⟨29, _⟩ => ⟨S32x2048x512, .bf16⟩
  | .hbm, ⟨30, _⟩ => ⟨S32x2048x512, .bf16⟩
  | .local _ .vmem, ⟨0, _⟩ => ⟨S1x1024x512, .bf16⟩
  | .local _ .vmem, ⟨1, _⟩ => ⟨S1x1024x512, .bf16⟩
  | .local _ .vmem, ⟨2, _⟩ => ⟨S1x256x256, .bf16⟩
  | .local _ .vmem, ⟨3, _⟩ => ⟨S1x256x256, .bf16⟩
  | .local _ .vmem, ⟨4, _⟩ => ⟨S1x256x512, .bf16⟩
  | .local _ .vmem, ⟨5, _⟩ => ⟨S1x256x512, .bf16⟩
  | .local _ .vmem, ⟨6, _⟩ => ⟨S1x256x2048, .bf16⟩
  | .local _ .vmem, ⟨7, _⟩ => ⟨S1x256x2048, .bf16⟩
  | .local _ .vmem, ⟨8, _⟩ => ⟨S1x2048x512, .bf16⟩
  | .local _ .vmem, ⟨9, _⟩ => ⟨S1x2048x512, .bf16⟩
  | .local _ .vmem, ⟨10, _⟩ => ⟨S1x1024x512, .bf16⟩
  | .local _ .vmem, ⟨11, _⟩ => ⟨S1x1024x512, .bf16⟩
  | _, _ => ⟨S32x2048x2x2x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GqaRefIdeal.lean ====
abbrev S32x2048x2x2x128 : Shape := ⟨5, ![32, 2048, 2, 2, 128]⟩
abbrev S32x256x2x128 : Shape := ⟨4, ![32, 256, 2, 128]⟩
abbrev S32x2048x2x128 : Shape := ⟨4, ![32, 2048, 2, 128]⟩
abbrev S32x2304x2x128 : Shape := ⟨4, ![32, 2304, 2, 128]⟩
abbrev S32x2x2304x2048x2 : Shape := ⟨5, ![32, 2, 2304, 2048, 2]⟩
abbrev S32x2x2x2048x2304 : Shape := ⟨5, ![32, 2, 2, 2048, 2304]⟩
abbrev S_ : Shape := ⟨0, ![]⟩
abbrev S32x2x2x2048 : Shape := ⟨4, ![32, 2, 2, 2048]⟩
abbrev S32x2x2x2048x1 : Shape := ⟨5, ![32, 2, 2, 2048, 1]⟩
abbrev S32x2x128x2x2048 : Shape := ⟨5, ![32, 2, 128, 2, 2048]⟩
abbrev S32x2048x512 : Shape := ⟨3, ![32, 2048, 512]⟩

abbrev nBuf : Space → Nat
  | .hbm => 31
  | .vmem => 0
  | .smem => 0
  | _ => 0

abbrev bufTy : (tb : Table) → Fin (tcTables nBuf tb) → BufTy
  | .hbm, ⟨0, _⟩ => ⟨S32x2048x2x2x128, .f32⟩
  | .hbm, ⟨1, _⟩ => ⟨S32x256x2x128, .f32⟩
  | .hbm, ⟨2, _⟩ => ⟨S32x256x2x128, .f32⟩
  | .hbm, ⟨3, _⟩ => ⟨S32x2048x2x128, .f32⟩
  | .hbm, ⟨4, _⟩ => ⟨S32x2048x2x128, .f32⟩
  | .hbm, ⟨5, _⟩ => ⟨S32x2304x2x128, .f32⟩
  | .hbm, ⟨6, _⟩ => ⟨S32x2304x2x128, .f32⟩
  | .hbm, ⟨7, _⟩ => ⟨S32x2x2304x2048x2, .f32⟩
  | .hbm, ⟨8, _⟩ => ⟨S32x2x2x2048x2304, .f32⟩
  | .hbm, ⟨9, _⟩ => ⟨S_, .f32⟩
  | .hbm, ⟨10, _⟩ => ⟨S_, .f32⟩
  | .hbm, ⟨11, _⟩ => ⟨S32x2x2x2048x2304, .f32⟩
  | .hbm, ⟨12, _⟩ => ⟨S32x2x2x2048x2304, .f32⟩
  | .hbm, ⟨13, _⟩ => ⟨S_, .f32⟩
  | .hbm, ⟨14, _⟩ => ⟨S32x2x2x2048, .f32⟩
  | .hbm, ⟨15, _⟩ => ⟨S_, .f32⟩
  | .hbm, ⟨16, _⟩ => ⟨S32x2x2x2048, .f32⟩
  | .hbm, ⟨17, _⟩ => ⟨S32x2x2x2048, .f32⟩
  | .hbm, ⟨18, _⟩ => ⟨S32x2x2x2048x1, .f32⟩
  | .hbm, ⟨19, _⟩ => ⟨S32x2x2x2048x2304, .f32⟩
  | .hbm, ⟨20, _⟩ => ⟨S32x2x2x2048x2304, .f32⟩
  | .hbm, ⟨21, _⟩ => ⟨S32x2x2x2048x2304, .f32⟩
  | .hbm, ⟨22, _⟩ => ⟨S_, .f32⟩
  | .hbm, ⟨23, _⟩ => ⟨S32x2x2x2048, .f32⟩
  | .hbm, ⟨24, _⟩ => ⟨S32x2x2x2048x1, .f32⟩
  | .hbm, ⟨25, _⟩ => ⟨S32x2x2x2048x2304, .f32⟩
  | .hbm, ⟨26, _⟩ => ⟨S32x2x2x2048x2304, .f32⟩
  | .hbm, ⟨27, _⟩ => ⟨S32x2x128x2x2048, .f32⟩
  | .hbm, ⟨28, _⟩ => ⟨S32x2048x2x2x128, .f32⟩
  | .hbm, ⟨29, _⟩ => ⟨S32x2048x512, .f32⟩
  | .hbm, ⟨30, _⟩ => ⟨S32x2048x512, .bf16⟩
  | _, _ => ⟨S32x2048x2x2x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Post.lean ====
abbrev S32x2048x1024 : Shape := ⟨3, ![32, 2048, 1024]⟩
abbrev S32x2048x512 : Shape := ⟨3, ![32, 2048, 512]⟩
abbrev S32x6x1024 : Shape := ⟨3, ![32, 6, 1024]⟩
abbrev S1024x1024 : Shape := ⟨2, ![1024, 1024]⟩
abbrev S4x1024 : Shape := ⟨2, ![4, 1024]⟩
abbrev S4x1024x4096 : Shape := ⟨3, ![4, 1024, 4096]⟩
abbrev S4x4096x1024 : Shape := ⟨3, ![4, 4096, 1024]⟩
abbrev S1024 : Shape := ⟨1, ![1024]⟩
abbrev S1x1024 : Shape := ⟨2, ![1, 1024]⟩
abbrev S1x1024x1024 : Shape := ⟨3, ![1, 1024, 1024]⟩
abbrev S1x1024x512 : Shape := ⟨3, ![1, 1024, 512]⟩
abbrev S1x6x1024 : Shape := ⟨3, ![1, 6, 1024]⟩
abbrev S1x1024x4096 : Shape := ⟨3, ![1, 1024, 4096]⟩
abbrev S1x4096x1024 : Shape := ⟨3, ![1, 4096, 1024]⟩
abbrev S1024x512 : Shape := ⟨2, ![1024, 512]⟩
abbrev S512x1024 : Shape := ⟨2, ![512, 1024]⟩
abbrev S1x1x1024 : Shape := ⟨3, ![1, 1, 1024]⟩
abbrev S1024x1 : Shape := ⟨2, ![1024, 1]⟩

abbrev nBuf : Space → Nat
  | .hbm => 17
  | .vmem => 15
  | .smem => 0
  | _ => 0

abbrev bufTy : (tb : Table) → Fin (tcTables nBuf tb) → BufTy
  | .hbm, ⟨0, _⟩ => ⟨S32x2048x1024, .f32⟩
  | .hbm, ⟨1, _⟩ => ⟨S32x2048x512, .bf16⟩
  | .hbm, ⟨2, _⟩ => ⟨S32x2048x512, .bf16⟩
  | .hbm, ⟨3, _⟩ => ⟨S32x6x1024, .f32⟩
  | .hbm, ⟨4, _⟩ => ⟨S1024x1024, .f32⟩
  | .hbm, ⟨5, _⟩ => ⟨S4x1024, .f32⟩
  | .hbm, ⟨6, _⟩ => ⟨S4x1024x4096, .f32⟩
  | .hbm, ⟨7, _⟩ => ⟨S4x4096x1024, .f32⟩
  | .hbm, ⟨8, _⟩ => ⟨S1024, .f32⟩
  | .hbm, ⟨9, _⟩ => ⟨S1x1024, .f32⟩
  | .hbm, ⟨10, _⟩ => ⟨S1024, .f32⟩
  | .hbm, ⟨11, _⟩ => ⟨S1x1024, .f32⟩
  | .hbm, ⟨12, _⟩ => ⟨S1024x1024, .bf16⟩
  | .hbm, ⟨13, _⟩ => ⟨S4x1024x4096, .bf16⟩
  | .hbm, ⟨14, _⟩ => ⟨S4x4096x1024, .bf16⟩
  | .hbm, ⟨15, _⟩ => ⟨S1x1024, .f32⟩
  | .hbm, ⟨16, _⟩ => ⟨S32x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x6x1024, .f32⟩
  | .local _ .vmem, ⟨7, _⟩ => ⟨S1x6x1024, .f32⟩
  | .local _ .vmem, ⟨8, _⟩ => ⟨S1024x1024, .bf16⟩
  | .local _ .vmem, ⟨9, _⟩ => ⟨S1x1024, .f32⟩
  | .local _ .vmem, ⟨10, _⟩ => ⟨S1x1024x4096, .bf16⟩
  | .local _ .vmem, ⟨11, _⟩ => ⟨S1x4096x1024, .bf16⟩
  | .local _ .vmem, ⟨12, _⟩ => ⟨S1x1024, .f32⟩
  | .local _ .vmem, ⟨13, _⟩ => ⟨S1x1024x1024, .f32⟩
  | .local _ .vmem, ⟨14, _⟩ => ⟨S1x1024x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x4096x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== PostRefIdeal.lean ====
abbrev S32x2048x1024 : Shape := ⟨3, ![32, 2048, 1024]⟩
abbrev S32x2048x512 : Shape := ⟨3, ![32, 2048, 512]⟩
abbrev S32x6x1024 : Shape := ⟨3, ![32, 6, 1024]⟩
abbrev S1024x1024 : Shape := ⟨2, ![1024, 1024]⟩
abbrev S4x1024 : Shape := ⟨2, ![4, 1024]⟩
abbrev S4x1024x4096 : Shape := ⟨3, ![4, 1024, 4096]⟩
abbrev S4x4096x1024 : Shape := ⟨3, ![4, 4096, 1024]⟩
abbrev S1024 : Shape := ⟨1, ![1024]⟩
abbrev S32x1x1024 : Shape := ⟨3, ![32, 1, 1024]⟩
abbrev S1x1024 : Shape := ⟨2, ![1, 1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S32x2048x4096 : Shape := ⟨3, ![32, 2048, 4096]⟩

abbrev nBuf : Space → Nat
  | .hbm => 73
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x2048x512, .bf16⟩
  | .hbm, ⟨2, _⟩ => ⟨S32x2048x512, .bf16⟩
  | .hbm, ⟨3, _⟩ => ⟨S32x6x1024, .f32⟩
  | .hbm, ⟨4, _⟩ => ⟨S1024x1024, .f32⟩
  | .hbm, ⟨5, _⟩ => ⟨S4x1024, .f32⟩
  | .hbm, ⟨6, _⟩ => ⟨S4x1024x4096, .f32⟩
  | .hbm, ⟨7, _⟩ => ⟨S4x4096x1024, .f32⟩
  | .hbm, ⟨8, _⟩ => ⟨S1024, .f32⟩
  | .hbm, ⟨9, _⟩ => ⟨S32x1x1024, .f32⟩
  | .hbm, ⟨10, _⟩ => ⟨S32x1x1024, .f32⟩
  | .hbm, ⟨11, _⟩ => ⟨S32x1x1024, .f32⟩
  | .hbm, ⟨12, _⟩ => ⟨S32x1x1024, .f32⟩
  | .hbm, ⟨13, _⟩ => ⟨S32x2048x1024, .bf16⟩
  | .hbm, ⟨14, _⟩ => ⟨S32x2048x1024, .f32⟩
  | .hbm, ⟨15, _⟩ => ⟨S32x2048x1024, .f32⟩
  | .hbm, ⟨16, _⟩ => ⟨S32x2048x1024, .f32⟩
  | .hbm, ⟨17, _⟩ => ⟨S32x2048x1024, .f32⟩
  | .hbm, ⟨18, _⟩ => ⟨S32x2048x1024, .f32⟩
  | .hbm, ⟨19, _⟩ => ⟨S1x1024, .f32⟩
  | .hbm, ⟨20, _⟩ => ⟨S1024, .f32⟩
  | .hbm, ⟨21, _⟩ => ⟨S32x2048x1024, .f32⟩
  | .hbm, ⟨22, _⟩ => ⟨S_, .f32⟩
  | .hbm, ⟨23, _⟩ => ⟨S32x2048, .f32⟩
  | .hbm, ⟨24, _⟩ => ⟨S32x2048x1, .f32⟩
  | .hbm, ⟨25, _⟩ => ⟨S_, .f32⟩
  | .hbm, ⟨26, _⟩ => ⟨S32x2048x1, .f32⟩
  | .hbm, ⟨27, _⟩ => ⟨S32x2048x1, .f32⟩
  | .hbm, ⟨28, _⟩ => ⟨S_, .f32⟩
  | .hbm, ⟨29, _⟩ => ⟨S32x2048x1, .f32⟩
  | .hbm, ⟨30, _⟩ => ⟨S32x2048x1, .f32⟩
  | .hbm, ⟨31, _⟩ => ⟨S32x2048x1, .f32⟩
  | .hbm, ⟨32, _⟩ => ⟨S32x2048x1024, .f32⟩
  | .hbm, ⟨33, _⟩ => ⟨S32x2048x1024, .f32⟩
  | .hbm, ⟨34, _⟩ => ⟨S1x1x1024, .f32⟩
  | .hbm, ⟨35, _⟩ => ⟨S32x2048x1024, .f32⟩
  | .hbm, ⟨36, _⟩ => ⟨S32x2048x1024, .f32⟩
  | .hbm, ⟨37, _⟩ => ⟨S_, .f32⟩
  | .hbm, ⟨38, _⟩ => ⟨S32x1x1024, .f32⟩
  | .hbm, ⟨39, _⟩ => ⟨S32x1x1024, .f32⟩
  | .hbm, ⟨40, _⟩ => ⟨S32x2048x1024, .f32⟩
  | .hbm, ⟨41, _⟩ => ⟨S32x2048x1024, .f32⟩
  | .hbm, ⟨42, _⟩ => ⟨S32x2048x1024, .f32⟩
  | .hbm, ⟨43, _⟩ => ⟨S32x2048x1024, .f32⟩
  | .hbm, ⟨44, _⟩ => ⟨S1x1024x4096, .f32⟩
  | .hbm, ⟨45, _⟩ => ⟨S1024x4096, .f32⟩
  | .hbm, ⟨46, _⟩ => ⟨S1x4096x1024, .f32⟩
  | .hbm, ⟨47, _⟩ => ⟨S4096x1024, .f32⟩
  | .hbm, ⟨48, _⟩ => ⟨S32x2048x4096, .f32⟩
  | .hbm, ⟨49, _⟩ => ⟨S_, .f32⟩
  | .hbm, ⟨50, _⟩ => ⟨S32x2048x4096, .f32⟩
  | .hbm, ⟨51, _⟩ => ⟨S32x2048x4096, .f32⟩
  | .hbm, ⟨52, _⟩ => ⟨S32x2048x4096, .f32⟩
  | .hbm, ⟨53, _⟩ => ⟨S32x2048x1024, .f32⟩
  | .hbm, ⟨54, _⟩ => ⟨S32x2048x1024, .f32⟩
  | .hbm, ⟨55, _⟩ => ⟨S32x2048x1024, .f32⟩
  | .hbm, ⟨56, _⟩ => ⟨S32x2048x1024, .f32⟩
  | .hbm, ⟨57, _⟩ => ⟨S32x2048x1024, .f32⟩
  | .hbm, ⟨58, _⟩ => ⟨S_, .f32⟩
  | .hbm, ⟨59, _⟩ => ⟨S32x2048, .f32⟩
  | .hbm, ⟨60, _⟩ => ⟨S32x2048x1, .f32⟩
  | .hbm, ⟨61, _⟩ => ⟨S_, .f32⟩
  | .hbm, ⟨62, _⟩ => ⟨S32x2048x1, .f32⟩
  | .hbm, ⟨63, _⟩ => ⟨S32x2048x1, .f32⟩
  | .hbm, ⟨64, _⟩ => ⟨S_, .f32⟩
  | .hbm, ⟨65, _⟩ => ⟨S32x2048x1, .f32⟩
  | .hbm, ⟨66, _⟩ => ⟨S32x2048x1, .f32⟩
  | .hbm, ⟨67, _⟩ => ⟨S32x2048x1, .f32⟩
  | .hbm, ⟨68, _⟩ => ⟨S32x2048x1024, .f32⟩
  | .hbm, ⟨69, _⟩ => ⟨S32x2048x1024, .f32⟩
  | .hbm, ⟨70, _⟩ => ⟨S1x1x1024, .f32⟩
  | .hbm, ⟨71, _⟩ => ⟨S32x2048x1024, .f32⟩
  | .hbm, ⟨72, _⟩ => ⟨S32x2048x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_cst_0 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_2 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_call0_cst : Ref sig .tc := ⟨.hbm, 49, rfl⟩
abbrev main_call0_v0 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_3 : Ref sig .tc := ⟨.hbm, 58, rfl⟩
abbrev main_v43 : Ref sig .tc := ⟨.hbm, 59, rfl⟩
abbrev main_v44 : Ref sig .tc := ⟨.hbm, 60, rfl⟩
abbrev main_cst_4 : Ref sig .tc := ⟨.hbm, 61, rfl⟩
abbrev main_v45 : Ref sig .tc := ⟨.hbm, 62, rfl⟩
abbrev main_v46 : Ref sig .tc := ⟨.hbm, 63, rfl⟩
abbrev main_cst_5 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩

abbrev nD : Nat := 1
abbrev τ : Topo := Topo.v7x

variable {F : FTy → Type} [FloatOps F]
-- ==== Mid.lean ====
abbrev S32x2048x1024 : Shape := ⟨3, ![32, 2048, 1024]⟩
abbrev S32x2048x512 : Shape := ⟨3, ![32, 2048, 512]⟩
abbrev S32x6x1024 : Shape := ⟨3, ![32, 6, 1024]⟩
abbrev S1024x1024 : Shape := ⟨2, ![1024, 1024]⟩
abbrev S4x1024 : Shape := ⟨2, ![4, 1024]⟩
abbrev S4x1024x4096 : Shape := ⟨3, ![4, 1024, 4096]⟩
abbrev S4x4096x1024 : Shape := ⟨3, ![4, 4096, 1024]⟩
abbrev S1024 : Shape := ⟨1, ![1024]⟩
abbrev S1x1024 : Shape := ⟨2, ![1, 1024]⟩
abbrev S1x1024x1024 : Shape := ⟨3, ![1, 1024, 1024]⟩
abbrev S1x1024x512 : Shape := ⟨3, ![1, 1024, 512]⟩
abbrev S1x6x1024 : Shape := ⟨3, ![1, 6, 1024]⟩
abbrev S1x1024x4096 : Shape := ⟨3, ![1, 1024, 4096]⟩
abbrev S1x4096x1024 : Shape := ⟨3, ![1, 4096, 1024]⟩
abbrev S1024x512 : Shape := ⟨2, ![1024, 512]⟩
abbrev S512x1024 : Shape := ⟨2, ![512, 1024]⟩
abbrev S1x1x1024 : Shape := ⟨3, ![1, 1, 1024]⟩
abbrev S1024x1 : Shape := ⟨2, ![1024, 1]⟩

abbrev nBuf : Space → Nat
  | .hbm => 17
  | .vmem => 15
  | .smem => 0
  | _ => 0

abbrev bufTy : (tb : Table) → Fin (tcTables nBuf tb) → BufTy
  | .hbm, ⟨0, _⟩ => ⟨S32x2048x1024, .f32⟩
  | .hbm, ⟨1, _⟩ => ⟨S32x2048x512, .bf16⟩
  | .hbm, ⟨2, _⟩ => ⟨S32x2048x512, .bf16⟩
  | .hbm, ⟨3, _⟩ => ⟨S32x6x1024, .f32⟩
  | .hbm, ⟨4, _⟩ => ⟨S1024x1024, .f32⟩
  | .hbm, ⟨5, _⟩ => ⟨S4x1024, .f32⟩
  | .hbm, ⟨6, _⟩ => ⟨S4x1024x4096, .f32⟩
  | .hbm, ⟨7, _⟩ => ⟨S4x4096x1024, .f32⟩
  | .hbm, ⟨8, _⟩ => ⟨S1024, .f32⟩
  | .hbm, ⟨9, _⟩ => ⟨S1x1024, .f32⟩
  | .hbm, ⟨10, _⟩ => ⟨S1024, .f32⟩
  | .hbm, ⟨11, _⟩ => ⟨S1x1024, .f32⟩
  | .hbm, ⟨12, _⟩ => ⟨S1024x1024, .bf16⟩
  | .hbm, ⟨13, _⟩ => ⟨S4x1024x4096, .bf16⟩
  | .hbm, ⟨14, _⟩ => ⟨S4x4096x1024, .bf16⟩
  | .hbm, ⟨15, _⟩ => ⟨S1x1024, .f32⟩
  | .hbm, ⟨16, _⟩ => ⟨S32x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x6x1024, .f32⟩
  | .local _ .vmem, ⟨7, _⟩ => ⟨S1x6x1024, .f32⟩
  | .local _ .vmem, ⟨8, _⟩ => ⟨S1024x1024, .bf16⟩
  | .local _ .vmem, ⟨9, _⟩ => ⟨S1x1024, .f32⟩
  | .local _ .vmem, ⟨10, _⟩ => ⟨S1x1024x4096, .bf16⟩
  | .local _ .vmem, ⟨11, _⟩ => ⟨S1x4096x1024, .bf16⟩
  | .local _ .vmem, ⟨12, _⟩ => ⟨S1x1024, .f32⟩
  | .local _ .vmem, ⟨13, _⟩ => ⟨S1x1024x1024, .f32⟩
  | .local _ .vmem, ⟨14, _⟩ => ⟨S1x1024x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x4096x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== MidRefIdeal.lean ====
abbrev S32x2048x1024 : Shape := ⟨3, ![32, 2048, 1024]⟩
abbrev S32x2048x512 : Shape := ⟨3, ![32, 2048, 512]⟩
abbrev S32x6x1024 : Shape := ⟨3, ![32, 6, 1024]⟩
abbrev S1024x1024 : Shape := ⟨2, ![1024, 1024]⟩
abbrev S4x1024 : Shape := ⟨2, ![4, 1024]⟩
abbrev S4x1024x4096 : Shape := ⟨3, ![4, 1024, 4096]⟩
abbrev S4x4096x1024 : Shape := ⟨3, ![4, 4096, 1024]⟩
abbrev S1024 : Shape := ⟨1, ![1024]⟩
abbrev S32x1x1024 : Shape := ⟨3, ![32, 1, 1024]⟩
abbrev S1x1024 : Shape := ⟨2, ![1, 1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S32x2048x4096 : Shape := ⟨3, ![32, 2048, 4096]⟩

abbrev nBuf : Space → Nat
  | .hbm => 57
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x2048x512, .bf16⟩
  | .hbm, ⟨2, _⟩ => ⟨S32x2048x512, .bf16⟩
  | .hbm, ⟨3, _⟩ => ⟨S32x6x1024, .f32⟩
  | .hbm, ⟨4, _⟩ => ⟨S1024x1024, .f32⟩
  | .hbm, ⟨5, _⟩ => ⟨S4x1024, .f32⟩
  | .hbm, ⟨6, _⟩ => ⟨S4x1024x4096, .f32⟩
  | .hbm, ⟨7, _⟩ => ⟨S4x4096x1024, .f32⟩
  | .hbm, ⟨8, _⟩ => ⟨S1024, .f32⟩
  | .hbm, ⟨9, _⟩ => ⟨S32x1x1024, .f32⟩
  | .hbm, ⟨10, _⟩ => ⟨S32x1x1024, .f32⟩
  | .hbm, ⟨11, _⟩ => ⟨S32x1x1024, .f32⟩
  | .hbm, ⟨12, _⟩ => ⟨S32x1x1024, .f32⟩
  | .hbm, ⟨13, _⟩ => ⟨S32x2048x1024, .bf16⟩
  | .hbm, ⟨14, _⟩ => ⟨S32x2048x1024, .f32⟩
  | .hbm, ⟨15, _⟩ => ⟨S32x2048x1024, .f32⟩
  | .hbm, ⟨16, _⟩ => ⟨S32x2048x1024, .f32⟩
  | .hbm, ⟨17, _⟩ => ⟨S32x2048x1024, .f32⟩
  | .hbm, ⟨18, _⟩ => ⟨S32x2048x1024, .f32⟩
  | .hbm, ⟨19, _⟩ => ⟨S1x1024, .f32⟩
  | .hbm, ⟨20, _⟩ => ⟨S1024, .f32⟩
  | .hbm, ⟨21, _⟩ => ⟨S32x2048x1024, .f32⟩
  | .hbm, ⟨22, _⟩ => ⟨S_, .f32⟩
  | .hbm, ⟨23, _⟩ => ⟨S32x2048, .f32⟩
  | .hbm, ⟨24, _⟩ => ⟨S32x2048x1, .f32⟩
  | .hbm, ⟨25, _⟩ => ⟨S_, .f32⟩
  | .hbm, ⟨26, _⟩ => ⟨S32x2048x1, .f32⟩
  | .hbm, ⟨27, _⟩ => ⟨S32x2048x1, .f32⟩
  | .hbm, ⟨28, _⟩ => ⟨S_, .f32⟩
  | .hbm, ⟨29, _⟩ => ⟨S32x2048x1, .f32⟩
  | .hbm, ⟨30, _⟩ => ⟨S32x2048x1, .f32⟩
  | .hbm, ⟨31, _⟩ => ⟨S32x2048x1, .f32⟩
  | .hbm, ⟨32, _⟩ => ⟨S32x2048x1024, .f32⟩
  | .hbm, ⟨33, _⟩ => ⟨S32x2048x1024, .f32⟩
  | .hbm, ⟨34, _⟩ => ⟨S1x1x1024, .f32⟩
  | .hbm, ⟨35, _⟩ => ⟨S32x2048x1024, .f32⟩
  | .hbm, ⟨36, _⟩ => ⟨S32x2048x1024, .f32⟩
  | .hbm, ⟨37, _⟩ => ⟨S_, .f32⟩
  | .hbm, ⟨38, _⟩ => ⟨S32x1x1024, .f32⟩
  | .hbm, ⟨39, _⟩ => ⟨S32x1x1024, .f32⟩
  | .hbm, ⟨40, _⟩ => ⟨S32x2048x1024, .f32⟩
  | .hbm, ⟨41, _⟩ => ⟨S32x2048x1024, .f32⟩
  | .hbm, ⟨42, _⟩ => ⟨S32x2048x1024, .f32⟩
  | .hbm, ⟨43, _⟩ => ⟨S32x2048x1024, .f32⟩
  | .hbm, ⟨44, _⟩ => ⟨S1x1024x4096, .f32⟩
  | .hbm, ⟨45, _⟩ => ⟨S1024x4096, .f32⟩
  | .hbm, ⟨46, _⟩ => ⟨S1x4096x1024, .f32⟩
  | .hbm, ⟨47, _⟩ => ⟨S4096x1024, .f32⟩
  | .hbm, ⟨48, _⟩ => ⟨S32x2048x4096, .f32⟩
  | .hbm, ⟨49, _⟩ => ⟨S_, .f32⟩
  | .hbm, ⟨50, _⟩ => ⟨S32x2048x4096, .f32⟩
  | .hbm, ⟨51, _⟩ => ⟨S32x2048x4096, .f32⟩
  | .hbm, ⟨52, _⟩ => ⟨S32x2048x4096, .f32⟩
  | .hbm, ⟨53, _⟩ => ⟨S32x2048x1024, .f32⟩
  | .hbm, ⟨54, _⟩ => ⟨S32x2048x1024, .f32⟩
  | .hbm, ⟨55, _⟩ => ⟨S32x2048x1024, .f32⟩
  | .hbm, ⟨56, _⟩ => ⟨S32x2048x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_cst_0 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_2 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_call0_cst : Ref sig .tc := ⟨.hbm, 49, rfl⟩
abbrev main_call0_v0 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩

abbrev nD : Nat := 1
abbrev τ : Topo := Topo.v7x

variable {F : FTy → Type} [FloatOps F]
-- ==== Proof.Rotary.lean ====
/- A latent attention head's score over its 256 padded columns is the score over its 192: the other head's rotary columns
   meet zeros. -/
module

public import Idealize.ShloMosaic.Lib.Pointwise

@[expose] public section

noncomputable section

namespace Cert.Proof.Rotary

open Idealize.ShloMosaic

theorem rotary_sum (X K : Fin 256 → EReal) (Q A : Fin 192 → EReal) (p : ℕ) (hp : p < 2)
    (x0 : ∀ d : Fin 128, X ⟨d, by omega⟩ = Q ⟨d, by omega⟩) (k0 : ∀ d : Fin 128, K ⟨d, by omega⟩ = A ⟨d, by omega⟩)
    (x1 : ∀ d : Fin 64, X ⟨128 + (p * 64 + d), by omega⟩ = Q ⟨128 + d, by omega⟩)
    (k1 : ∀ d : Fin 64, K ⟨128 + (p * 64 + d), by omega⟩ = A ⟨128 + d, by omega⟩)
    (kz : ∀ d : Fin 64, K ⟨128 + ((1 - p) * 64 + d), by omega⟩ = 0) : ∑ d, X d * K d = ∑ d, Q d * A d := by
  have own : ∀ (d : Fin 64) (i : Fin 256) (hi : (i : ℕ) = 128 + (p * 64 + d)), X i * K i = Q ⟨128 + d, by omega⟩ * A ⟨128 + d, by omega⟩ := by
    intro d i hi
    have e : i = ⟨128 + (p * 64 + d), by omega⟩ := Fin.ext hi
    rw [e, x1, k1]
  have other : ∀ (d : Fin 64) (i : Fin 256) (hi : (i : ℕ) = 128 + ((1 - p) * 64 + d)), X i * K i = 0 := by
    intro d i hi
    have e : i = ⟨128 + ((1 - p) * 64 + d), by omega⟩ := Fin.ext hi
    rw [e, kz, mul_zero]
  rw [Fin.sum_univ_two_halves 128 128 rfl (fun d : Fin 256 => X d * K d), Fin.sum_univ_two_halves 128 64 rfl (fun d : Fin 192 => Q d * A d),
    Fin.sum_univ_two_halves 64 64 rfl (fun e : Fin 128 => X ⟨128 + e, by omega⟩ * K ⟨128 + e, by omega⟩)]
  refine congrArg₂ (· + ·) (Finset.sum_congr rfl fun d _ => by rw [x0, k0]) ?_
  rcases (by omega : p = 0 ∨ p = 1) with rfl | rfl
  · rw [Finset.sum_congr rfl fun d _ => own d ⟨128 + d, by omega⟩ (by show 128 + (d : ℕ) = 128 + (0 * 64 + d); omega),
      Finset.sum_eq_zero (s := Finset.univ) (f := fun d : Fin 64 => X ⟨128 + (64 + d), by omega⟩ * K ⟨128 + (64 + d), by omega⟩)
        fun d _ => other d ⟨128 + (64 + d), by omega⟩ (by show 128 + (64 + (d : ℕ)) = 128 + ((1 - 0) * 64 + d); omega), add_zero]
  · rw [Finset.sum_eq_zero (s := Finset.univ) (f := fun d : Fin 64 => X ⟨128 + d, by omega⟩ * K ⟨128 + d, by omega⟩)
        fun d _ => other d ⟨128 + d, by omega⟩ (by show 128 + (d : ℕ) = 128 + ((1 - 1) * 64 + d); omega), zero_add]
    exact Finset.sum_congr rfl fun d _ => own d ⟨128 + (64 + d), by omega⟩ (by show 128 + (64 + (d : ℕ)) = 128 + (1 * 64 + d); omega)

end Cert.Proof.Rotary

end
-- ==== Proof.Soft.lean ====
/- The softmax of one query, free of any program: weights that are exponentials of real scores, a row of values that may
   hold anything. The weights do not change when one real number is taken off every score, and a common positive factor
   may be divided out after the weighted sum or before it. -/
module

public import Idealize.ShloMosaic.PureOps.Ideal.Laws
public import Idealize.ShloMosaic.Lib.Pointwise

@[expose] public section

noncomputable section

namespace Cert.Proof.Soft

open Idealize.ShloMosaic

/-- A number that is neither infinity. -/
def Finite (x : EReal) : Prop := ∃ r : ℝ, x = (r : EReal)

theorem finite_coe (r : ℝ) : Finite (r : EReal) := ⟨r, rfl⟩

theorem Finite.coe_toReal {x : EReal} (h : Finite x) : ((x.toReal : ℝ) : EReal) = x := by
  obtain ⟨r, rfl⟩ := h
  simp

theorem Finite.ne_bot {x : EReal} (h : Finite x) : x ≠ ⊥ := by
  obtain ⟨r, rfl⟩ := h
  exact EReal.coe_ne_bot r

theorem Finite.ne_top {x : EReal} (h : Finite x) : x ≠ ⊤ := by
  obtain ⟨r, rfl⟩ := h
  exact EReal.coe_ne_top r

theorem finite_of_ne {x : EReal} (h1 : x ≠ ⊥) (h2 : x ≠ ⊤) : Finite x := ⟨x.toReal, (EReal.coe_toReal h2 h1).symm⟩

theorem Finite.mul {x y : EReal} (hx : Finite x) (hy : Finite y) : Finite (x * y) := by
  obtain ⟨a, rfl⟩ := hx
  obtain ⟨b, rfl⟩ := hy
  exact ⟨a * b, (EReal.coe_mul a b).symm⟩

theorem Finite.add {x y : EReal} (hx : Finite x) (hy : Finite y) : Finite (x + y) := by
  obtain ⟨a, rfl⟩ := hx
  obtain ⟨b, rfl⟩ := hy
  exact ⟨a + b, (EReal.coe_add a b).symm⟩

theorem Finite.max {x y : EReal} (hx : Finite x) (hy : Finite y) : Finite (max x y) := by
  rcases max_choice x y with h | h <;> rw [h] <;> assumption

theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

theorem finite_sum {ι : Type} (s : Finset ι) (f : ι → EReal) (h : ∀ k, Finite (f k)) : Finite (∑ k ∈ s, f k) := by
  refine ⟨∑ k ∈ s, (f k).toReal, ?_⟩
  rw [coe_sum]
  exact Finset.sum_congr rfl fun k _ => (h k).coe_toReal.symm

/-- The largest of finitely many finite numbers, at least one of them, is finite. -/
theorem finite_fold_max {n : ℕ} (hn : 0 < n) (b : EReal) (hb : b ≠ ⊤) (f : Fin n → EReal) (h : ∀ k, Finite (f k)) :
    Finite (Finset.univ.fold max b f) := by
  refine finite_of_ne ?_ ?_
  · refine ne_of_gt ((Finset.lt_fold_max _).2 (Or.inr ⟨⟨0, hn⟩, Finset.mem_univ _, bot_lt_iff_ne_bot.2 (h _).ne_bot⟩))
  · exact ne_of_lt ((Finset.fold_max_lt _).2 ⟨lt_top_iff_ne_top.2 hb, fun k _ => lt_top_iff_ne_top.2 (h k).ne_top⟩)

/-- A nonnegative real factor passes into a sum of anything. -/
theorem sum_mul_coe {ι : Type} (s : Finset ι) (f : ι → EReal) (c : ℝ) (hc : 0 ≤ c) :
    (∑ k ∈ s, f k) * (c : EReal) = ∑ k ∈ s, f k * (c : EReal) := by
  classical
  induction s using Finset.induction_on with
  | empty => simp
  | insert a s ha ih =>
    rw [Finset.sum_insert ha, Finset.sum_insert ha, ← ih,
      EReal.right_distrib_of_nonneg_of_ne_top (EReal.coe_nonneg.2 hc) (EReal.coe_ne_top c)]

/-- The softmax of the real scores `y`, applied to the values `v`. -/
def soft {ι : Type} [Fintype ι] (y : ι → ℝ) (v : ι → EReal) : EReal :=
  ∑ k, v k * ((Real.exp (y k) / ∑ l, Real.exp (y l) : ℝ) : EReal)

theorem soft_equiv {ι κ : Type} [Fintype ι] [Fintype κ] (e : κ ≃ ι) (y : ι → ℝ) (v : ι → EReal) :
    soft (fun k => y (e k)) (fun k => v (e k)) = soft y v := by
  unfold soft
  rw [Equiv.sum_comp e (fun l => Real.exp (y l))]
  exact Equiv.sum_comp e fun k => v k * ((Real.exp (y k) / ∑ l, Real.exp (y l) : ℝ) : EReal)

/-- Every weight multiplied by one factor: the quotients are the same. -/
theorem quotient_shift {ι : Type} [Fintype ι] [Nonempty ι] (y w : ι → ℝ) (c : ℝ) (hc : 0 < c)
    (hw : ∀ k, w k = Real.exp (y k) * c) (k : ι) : w k * (1 / ∑ l, w l) = Real.exp (y k) / ∑ l, Real.exp (y l) := by
  have hz : (∑ l, Real.exp (y l)) ≠ 0 := ne_of_gt (Finset.sum_pos (fun l _ => Real.exp_pos _) Finset.univ_nonempty)
  have hs : (∑ l, w l) = (∑ l, Real.exp (y l)) * c := by
    rw [Finset.sum_mul]
    exact Finset.sum_congr rfl fun l _ => hw l
  rw [hs, hw k]
  field_simp

theorem weights_pos {ι : Type} [Fintype ι] [Nonempty ι] (y w : ι → ℝ) (c : ℝ) (hc : 0 < c)
    (hw : ∀ k, w k = Real.exp (y k) * c) : 0 < ∑ l, w l :=
  Finset.sum_pos (fun l _ => by rw [hw l]; exact mul_pos (Real.exp_pos _) hc) Finset.univ_nonempty

/-- Weighted sum first, then the division by the sum of the weights. -/
theorem div_after {ι : Type} [Fintype ι] [Nonempty ι] (y w : ι → ℝ) (v : ι → EReal) (c : ℝ) (hc : 0 < c)
    (hw : ∀ k, w k = Real.exp (y k) * c) :
    Ideal.div (∑ k, (w k : EReal) * v k) (∑ k, (w k : EReal)) = soft y v := by
  have hp := weights_pos y w c hc hw
  rw [← coe_sum, Ideal.div_coe (ne_of_gt hp), sum_mul_coe _ _ _ (le_of_lt (one_div_pos.2 hp))]
  refine Finset.sum_congr rfl fun k _ => ?_
  rw [← quotient_shift y w c hc hw k, EReal.coe_mul, mul_comm (w k : EReal) (v k), mul_assoc]

/-- Every weight divided by the sum of the weights, then the weighted sum. -/
theorem div_before {ι : Type} [Fintype ι] [Nonempty ι] (y w : ι → ℝ) (v : ι → EReal) (c : ℝ) (hc : 0 < c)
    (hw : ∀ k, w k = Real.exp (y k) * c) :
    (∑ k, v k * Ideal.div (w k : EReal) (∑ l, (w l : EReal))) = soft y v := by
  have hp := weights_pos y w c hc hw
  refine Finset.sum_congr rfl fun k _ => ?_
  rw [← coe_sum, Ideal.div_coe (ne_of_gt hp), ← EReal.coe_mul, quotient_shift y w c hc hw k]

/-- The kernel's softmax: powers of two of scores carrying log₂ e, two segments of keys, the sum of the weights taken
    against ones. -/
theorem kernel_soft {n₁ n₂ : ℕ} (hn : 0 < n₁) (a₁ : Fin n₁ → EReal) (a₂ : Fin n₂ → EReal) (m : EReal)
    (y₁ : Fin n₁ → ℝ) (y₂ : Fin n₂ → ℝ) (h₁ : ∀ k, a₁ k = ((y₁ k / Real.log 2 : ℝ) : EReal))
    (h₂ : ∀ k, a₂ k = ((y₂ k / Real.log 2 : ℝ) : EReal)) (hm : Finite m) (v₁ o₁ : Fin n₁ → EReal) (v₂ o₂ : Fin n₂ → EReal)
    (ho₁ : ∀ k, o₁ k = 1) (ho₂ : ∀ k, o₂ k = 1) :
    Ideal.div ((∑ k, Ideal.exp2 (a₁ k - m) * v₁ k) + ∑ k, Ideal.exp2 (a₂ k - m) * v₂ k)
        ((∑ k, Ideal.exp2 (a₁ k - m) * o₁ k) + ∑ k, Ideal.exp2 (a₂ k - m) * o₂ k)
      = soft (Sum.elim y₁ y₂) (Sum.elim v₁ v₂) := by
  obtain ⟨μ, rfl⟩ := hm
  have : Nonempty (Fin n₁ ⊕ Fin n₂) := ⟨Sum.inl ⟨0, hn⟩⟩
  have hl : Real.log 2 ≠ 0 := ne_of_gt (Real.log_pos (by norm_num))
  have key : ∀ r : ℝ, Real.rpow 2 (r / Real.log 2 - μ) = Real.exp r * Real.exp (-(Real.log 2 * μ)) := fun r => by
    show (2 : ℝ) ^ (r / Real.log 2 - μ) = _
    rw [Real.rpow_def_of_pos (by norm_num), ← Real.exp_add]
    congr 1
    field_simp
    ring
  have := div_after (Sum.elim y₁ y₂) (fun k => Real.exp (Sum.elim y₁ y₂ k) * Real.exp (-(Real.log 2 * μ))) (Sum.elim v₁ v₂)
    _ (Real.exp_pos _) fun _ => rfl
  rw [← this, Fintype.sum_sum_type, Fintype.sum_sum_type]
  simp only [Sum.elim_inl, Sum.elim_inr, h₁, h₂, ho₁, ho₂, ← EReal.coe_sub, Ideal.exp2_coe, key, mul_one]

/-- The reference's softmax: the exponentials of the scores less a finite number, each divided by their sum. -/
theorem reference_soft {n : ℕ} (hn : 0 < n) (s : Fin n → EReal) (m : EReal) (y : Fin n → ℝ)
    (hs : ∀ k, s k = (y k : EReal)) (hm : Finite m) (v : Fin n → EReal) :
    (∑ k, v k * Ideal.div (Ideal.exp (s k - m)) (0 + ∑ l, Ideal.exp (s l - m))) = soft y v := by
  obtain ⟨μ, rfl⟩ := hm
  have : Nonempty (Fin n) := ⟨⟨0, hn⟩⟩
  have := div_before y (fun k => Real.exp (y k) * Real.exp (-μ)) v _ (Real.exp_pos _) fun _ => rfl
  rw [← this]
  have key : ∀ k, Ideal.exp (s k - (μ : EReal)) = ((Real.exp (y k) * Real.exp (-μ) : ℝ) : EReal) := fun k => by
    rw [hs k, ← EReal.coe_sub, Ideal.exp_coe, sub_eq_add_neg, Real.exp_add]
  simp only [key, zero_add]

/-- The two segments of keys as one list. -/
theorem soft_append {n₁ n₂ n : ℕ} (h : n₁ + n₂ = n) (y : Fin n → ℝ) (v : Fin n → EReal) :
    soft (Sum.elim (fun k : Fin n₁ => y ⟨k, by omega⟩) fun k : Fin n₂ => y ⟨n₁ + k, by omega⟩)
        (Sum.elim (fun k : Fin n₁ => v ⟨k, by omega⟩) fun k : Fin n₂ => v ⟨n₁ + k, by omega⟩) = soft y v := by
  subst h
  rw [← soft_equiv finSumFinEquiv y v]
  congr 1 <;> funext k <;> rcases k with k | k <;> rfl

/-- The score of a key against a query, over real numbers: their product over `c`. -/
def scoreOf {n : ℕ} (q k : Fin n → EReal) (c : ℝ) : ℝ := (∑ d, (k d).toReal * (q d).toReal) / c

/-- One score, on both sides: the reference divides the product of the key with the query by the root of their width,
    the kernel's query is divided beforehand by that root and by the logarithm of two. -/
theorem score_reference {n : ℕ} (q k : Fin n → EReal) (c : ℝ) (hc : 0 < c) (hq : ∀ d, Finite (q d)) (hk : ∀ d, Finite (k d)) :
    Ideal.div (∑ d, k d * q d) (c : EReal) = (scoreOf q k c : EReal) := by
  unfold scoreOf
  rw [Ideal.div_coe (ne_of_gt hc), div_eq_mul_one_div (∑ d, (k d).toReal * (q d).toReal), EReal.coe_mul, coe_sum]
  congr 1
  exact Finset.sum_congr rfl fun d _ => by rw [EReal.coe_mul, (hk d).coe_toReal, (hq d).coe_toReal]

theorem score_kernel {n : ℕ} (q k : Fin n → EReal) (c l : ℝ) (hc : 0 < c) (hl : 0 < l) (hq : ∀ d, Finite (q d))
    (hk : ∀ d, Finite (k d)) :
    (∑ d, Ideal.div (q d) ((c : EReal) * (l : EReal)) * k d)
      = ((scoreOf q k c / l : ℝ) : EReal) := by
  unfold scoreOf
  rw [div_div, div_eq_mul_one_div (∑ d, (k d).toReal * (q d).toReal), Finset.sum_mul, coe_sum]
  refine Finset.sum_congr rfl fun d _ => ?_
  rw [← EReal.coe_mul, Ideal.div_coe (ne_of_gt (mul_pos hc hl)), EReal.coe_mul, EReal.coe_mul, (hk d).coe_toReal,
    (hq d).coe_toReal, mul_right_comm, mul_comm (q d) (k d)]

/-- The pattern of minus infinity. -/
theorem ofBits_neg_infinity : Ideal.ofBits .f32 0xFF800000#32 = ⊥ := by simp [Ideal.ofBits, Ideal.ieee]

/-- A comparison of an absolute value with infinity that holds makes the number finite. -/
theorem finite_of_mask (x : EReal) (h : BitVec.ofBool (decide ((FloatOps.absf (F := Ideal) (φ := .f32) x : EReal) < Ideal.ofBits .f32 0x7F800000#32)) = 1#1) :
    Finite x := by
  have h' : (max x (-x) : EReal) < Ideal.ofBits .f32 0x7F800000#32 := by
    by_contra hn
    rw [show decide ((FloatOps.absf (F := Ideal) (φ := .f32) x : EReal) < Ideal.ofBits .f32 0x7F800000#32) = false from decide_eq_false hn] at h
    exact absurd h (by decide)
  rw [show Ideal.ofBits .f32 0x7F800000#32 = ⊤ by simp [Ideal.ofBits, Ideal.ieee]] at h'
  refine finite_of_ne ?_ ?_
  · rintro rfl
    simp at h'
  · rintro rfl
    simp at h'

theorem sqrt_128 : Ideal.sqrt (Ideal.ofBits .f32 0x43000000#32) = ((Real.sqrt 128 : ℝ) : EReal) := by
  rw [show Ideal.ofBits .f32 0x43000000#32 = ((128 : ℝ) : EReal) by
    simp [Ideal.ofBits, Ideal.ieee, -EReal.coe_mul]; norm_num, Ideal.sqrt_coe, if_neg (by norm_num)]

theorem sqrt_192 : Ideal.sqrt (Ideal.ofBits .f32 0x43400000#32) = ((Real.sqrt 192 : ℝ) : EReal) := by
  rw [show Ideal.ofBits .f32 0x43400000#32 = ((192 : ℝ) : EReal) by
    simp [Ideal.ofBits, Ideal.ieee, -EReal.coe_mul]; norm_num, Ideal.sqrt_coe, if_neg (by norm_num)]

theorem log_2 : Ideal.log (Ideal.ofBits .f32 0x40000000#32) = ((Real.log 2 : ℝ) : EReal) := by
  rw [show Ideal.ofBits .f32 0x40000000#32 = ((2 : ℝ) : EReal) by
    simp [Ideal.ofBits, Ideal.ieee, -EReal.coe_mul]; try norm_num, Ideal.log_coe, if_neg (by norm_num)]

/-- A host maximum along one axis of an array of finite numbers. -/
theorem finite_host_max {s t u : Shape} {a : Fin s.rank} (x : s.Idx → EReal) (init : u.Idx → EReal) (h' : s.ReducesTo [a] t)
    (h : s.Reduces [a] t) (hu : 0 < u.numel) (j : t.Idx) (hn : 0 < s.size a) (hi : init (Shape.Idx.first hu) = ⊥)
    (hx : ∀ i, Finite (x i)) : Finite (Host.reduce (max : EReal → EReal → EReal) x init h' hu j) := by
  rw [Host.reduce_eq_fold_single (max : EReal → EReal → EReal) x init h' h hu j, hi]
  exact finite_fold_max hn ⊥ bot_ne_top _ fun k => hx _

/-- A kernel's maximum along one axis, the numbers of the row finite. -/
theorem finite_row_max {s t : Shape} {a : Fin s.rank} (x : FVec Ideal s .f32) (h : s.Reduces [a] t)
    (hφ : FKind.Formats .f32) (hacc : (0xFF800000#32 : BitVec 32) = FKind.maximumf.neutral .f32 hφ) (j : t.Idx)
    (hn : 0 < s.size a) (hx : ∀ k, Finite (x (h.lift j k))) :
    Finite (multiReduction .maximumf [a] t x 0xFF800000#32 h hφ hacc j) := by
  rw [Ideal.multiReduction_maximumf_single]
  refine finite_fold_max hn _ ?_ _ fun k => hx k
  rw [Ideal.ofBits_def, ofBits_neg_infinity]
  exact bot_ne_top

end Cert.Proof.Soft

end
-- ==== Proof.MlaHead.lean ====
/- What one head of the latent attention kernel computes on one half of its rows: the softmax of the row's scores against the
   two key segments, applied to the values, from a block of queries, of keys and of values with columns of ones. -/
module

public import proofs.«01_k».proof.Proof.Soft
public import proofs.«01_k».proof.Proof.Gen.MlaIdeal.Skeleton
public import Idealize.ShloMosaic.Lib.Pointwise

@[expose] public section

set_option maxRecDepth 16384

noncomputable section

namespace Cert.Proof.MlaHead

open Idealize.ShloMosaic Cert.Proof.Soft
open Cert.MlaIdeal Cert.MlaIdeal.Gen

section
variable (x0 : Vec Ideal S1x1024x256 .bf16) (x1 : Vec Ideal S1x256x256 .bf16) (x3 : Vec Ideal S1x256x2048 .bf16)

theorem scores_context (r : Fin 1024) (k : Fin 256) :
    k0_pay3 x0 x1 (ix2 r k) = ∑ d : Fin 256, x0 (ix3 0 r d) * x1 (ix3 0 d k) := by
  pointwise [k0_pay3, k0_pay2]

theorem scores_stream (r : Fin 1024) (k : Fin 2048) :
    k0_pay4 x0 x3 (ix2 r k) = ∑ d : Fin 256, x0 (ix3 0 r d) * x3 (ix3 0 d k) := by
  pointwise [k0_pay4, k0_pay2]

/-- The row's largest score is finite. -/
theorem largest (r : Fin 1024) (h1 : ∀ k, Finite (k0_pay3 x0 x1 (ix2 r k))) (h3 : ∀ k, Finite (k0_pay4 x0 x3 (ix2 r k))) :
    Finite (k0_pay5 x0 x1 x3 (ix2 r 0)) := by
  unfold k0_pay5
  generalize k0_pay3 x0 x1 = a at h1 ⊢
  generalize k0_pay4 x0 x3 = b at h3 ⊢
  dsimp only
  rw [show ∀ (v : FVec Ideal S1024 .f32), shapeCast S1024x1 v shapeCasts_S1024_S1024x1 (ix2 r 0) = v (ix1 r) from fun v => by pointwise]
  refine finite_row_max _ _ _ _ _ (by decide) fun k => ?_
  obtain ⟨k, rfl⟩ : ∃ j : Fin 128, j = k := ⟨k, rfl⟩
  rw [show (reduces_S1024x128_S1024.lift (ix1 r) k : S1024x128.Idx) = ix2 r k from by ext a; fin_cases a <;> rfl]
  pointwise
  repeat' first | exact h1 _ | exact h3 _ | apply Finite.max

variable (s : FVec Ideal S1024x256 .f32) (u : FVec Ideal S1024x2048 .f32) (w : FVec Ideal S1024x1 .f32)
  (x2 : Vec Ideal S1x256x256 .bf16) (x4 : Vec Ideal S1x2048x256 .bf16)

theorem upper (z : FVec Ideal S1024x256 .f32) (r : Fin 512) (e : Fin 128) (hz : ∀ k, z (ix2 ⟨r, by omega⟩ k) = w (ix2 ⟨r, by omega⟩ 0)) :
    k0_pay9 s u w z x2 x4 (ix3 0 r e)
      = Ideal.div ((∑ k : Fin 256, Ideal.exp2 (s (ix2 ⟨r, by omega⟩ k) - w (ix2 ⟨r, by omega⟩ 0)) * x2 (ix3 0 k ⟨e, by omega⟩))
          + ∑ k : Fin 2048, Ideal.exp2 (u (ix2 ⟨r, by omega⟩ k) - w (ix2 ⟨r, by omega⟩ 0)) * x4 (ix3 0 k ⟨e, by omega⟩))
        ((∑ k : Fin 256, Ideal.exp2 (s (ix2 ⟨r, by omega⟩ k) - w (ix2 ⟨r, by omega⟩ 0)) * x2 (ix3 0 k ⟨128 + e, by omega⟩))
          + ∑ k : Fin 2048, Ideal.exp2 (u (ix2 ⟨r, by omega⟩ k) - w (ix2 ⟨r, by omega⟩ 0)) * x4 (ix3 0 k ⟨128 + e, by omega⟩)) := by
  pointwise [k0_pay9, k0_pay8, k0_pay7]
  simp only [hz]
  rfl

theorem lower (z : FVec Ideal S1024x256 .f32) (r : Fin 512) (e : Fin 128) (hz : ∀ k, z (ix2 ⟨512 + r, by omega⟩ k) = w (ix2 ⟨512 + r, by omega⟩ 0)) :
    k0_pay10 s u w z x2 x4 (ix2 r e)
      = Ideal.div ((∑ k : Fin 256, Ideal.exp2 (s (ix2 ⟨512 + r, by omega⟩ k) - w (ix2 ⟨512 + r, by omega⟩ 0)) * x2 (ix3 0 k ⟨e, by omega⟩))
          + ∑ k : Fin 2048, Ideal.exp2 (u (ix2 ⟨512 + r, by omega⟩ k) - w (ix2 ⟨512 + r, by omega⟩ 0)) * x4 (ix3 0 k ⟨e, by omega⟩))
        ((∑ k : Fin 256, Ideal.exp2 (s (ix2 ⟨512 + r, by omega⟩ k) - w (ix2 ⟨512 + r, by omega⟩ 0)) * x2 (ix3 0 k ⟨128 + e, by omega⟩))
          + ∑ k : Fin 2048, Ideal.exp2 (u (ix2 ⟨512 + r, by omega⟩ k) - w (ix2 ⟨512 + r, by omega⟩ 0)) * x4 (ix3 0 k ⟨128 + e, by omega⟩)) := by
  pointwise [k0_pay10, k0_pay8, k0_pay7]
  simp only [hz]
  rfl

end

section
variable (x0 : Vec Ideal S1x1024x256 .bf16) (x1 : Vec Ideal S1x256x256 .bf16) (x3 : Vec Ideal S1x256x2048 .bf16)

/-- The scores' two lists and the largest one, from what the blocks hold in a row and a head. -/
theorem kernel_row (s : FVec Ideal S1024x256 .f32) (u : FVec Ideal S1024x2048 .f32) (w : FVec Ideal S1024x1 .f32)
    (hs : s = k0_pay3 x0 x1) (hu : u = k0_pay4 x0 x3) (hw : w = k0_pay5 x0 x1 x3)
    (Q : Fin 192 → EReal) (A : Fin 256 → Fin 192 → EReal) (B : Fin 2048 → Fin 192 → EReal)
    (hQ : ∀ d, Finite (Q d)) (hA : ∀ k d, Finite (A k d)) (hB : ∀ k d, Finite (B k d)) (r : Fin 1024)
    (h1 : ∀ k, ∑ d : Fin 256, x0 (ix3 0 r d) * x1 (ix3 0 d k) = ∑ d : Fin 192, Ideal.div (Q d) (((Real.sqrt 192 : ℝ) : EReal) * ((Real.log 2 : ℝ) : EReal)) * A k d)
    (h3 : ∀ k, ∑ d : Fin 256, x0 (ix3 0 r d) * x3 (ix3 0 d k) = ∑ d : Fin 192, Ideal.div (Q d) (((Real.sqrt 192 : ℝ) : EReal) * ((Real.log 2 : ℝ) : EReal)) * B k d) :
    (∀ k, s (ix2 r k) = ((scoreOf Q (A k) (Real.sqrt 192) / Real.log 2 : ℝ) : EReal))
      ∧ (∀ k, u (ix2 r k) = ((scoreOf Q (B k) (Real.sqrt 192) / Real.log 2 : ℝ) : EReal)) ∧ Finite (w (ix2 r 0)) := by
  have hc : (0 : ℝ) < Real.sqrt 192 := Real.sqrt_pos.2 (by norm_num)
  have hl : (0 : ℝ) < Real.log 2 := Real.log_pos (by norm_num)
  have e1 : ∀ k, s (ix2 r k) = ((scoreOf Q (A k) (Real.sqrt 192) / Real.log 2 : ℝ) : EReal) := fun k => by
    rw [hs, scores_context, h1]
    exact score_kernel _ _ _ _ hc hl hQ (hA k)
  have e2 : ∀ k, u (ix2 r k) = ((scoreOf Q (B k) (Real.sqrt 192) / Real.log 2 : ℝ) : EReal) := fun k => by
    rw [hu, scores_stream, h3]
    exact score_kernel _ _ _ _ hc hl hQ (hB k)
  refine ⟨e1, e2, ?_⟩
  rw [hw]
  exact largest x0 x1 x3 r (fun k => ⟨_, hs ▸ e1 k⟩) fun k => ⟨_, hu ▸ e2 k⟩

/-- The row's largest score, repeated along the row. -/
theorem repeated (r : Fin 1024) (k : Fin 256) : k0_pay6 x0 x1 x3 (ix2 r k) = k0_pay5 x0 x1 x3 (ix2 r 0) := by
  unfold k0_pay6
  generalize k0_pay5 x0 x1 x3 = w
  pointwise

variable (x2 : Vec Ideal S1x256x256 .bf16) (x4 : Vec Ideal S1x2048x256 .bf16)

theorem head_upper (Q : Fin 192 → EReal) (A : Fin 256 → Fin 192 → EReal) (B : Fin 2048 → Fin 192 → EReal)
    (v1 : Fin 256 → EReal) (v2 : Fin 2048 → EReal)
    (hQ : ∀ d, Finite (Q d)) (hA : ∀ k d, Finite (A k d)) (hB : ∀ k d, Finite (B k d)) (r : Fin 512) (e : Fin 128)
    (h1 : ∀ k, ∑ d : Fin 256, x0 (ix3 0 ⟨r, by omega⟩ d) * x1 (ix3 0 d k) = ∑ d : Fin 192, Ideal.div (Q d) (((Real.sqrt 192 : ℝ) : EReal) * ((Real.log 2 : ℝ) : EReal)) * A k d)
    (h3 : ∀ k, ∑ d : Fin 256, x0 (ix3 0 ⟨r, by omega⟩ d) * x3 (ix3 0 d k) = ∑ d : Fin 192, Ideal.div (Q d) (((Real.sqrt 192 : ℝ) : EReal) * ((Real.log 2 : ℝ) : EReal)) * B k d)
    (h2 : ∀ k, x2 (ix3 0 k ⟨e, by omega⟩) = v1 k) (o2 : ∀ k, x2 (ix3 0 k ⟨128 + e, by omega⟩) = 1)
    (h4 : ∀ k, x4 (ix3 0 k ⟨e, by omega⟩) = v2 k) (o4 : ∀ k, x4 (ix3 0 k ⟨128 + e, by omega⟩) = 1) :
    k0_pay9 (k0_pay3 x0 x1) (k0_pay4 x0 x3) (k0_pay5 x0 x1 x3) (k0_pay6 x0 x1 x3) x2 x4 (ix3 0 r e)
      = soft (Sum.elim (fun k => scoreOf Q (A k) (Real.sqrt 192)) fun k => scoreOf Q (B k) (Real.sqrt 192)) (Sum.elim v1 v2) := by
  obtain ⟨e1, e2, e3⟩ := kernel_row x0 x1 x3 _ _ _ rfl rfl rfl Q A B hQ hA hB ⟨r, by omega⟩ h1 h3
  rw [upper _ _ (k0_pay5 x0 x1 x3) _ _ _ r e (fun k => repeated x0 x1 x3 _ k)]
  simp only [h2, h4]
  exact kernel_soft (by norm_num) _ _ _ _ _ e1 e2 e3 _ _ _ _ o2 o4

theorem head_lower (Q : Fin 192 → EReal) (A : Fin 256 → Fin 192 → EReal) (B : Fin 2048 → Fin 192 → EReal)
    (v1 : Fin 256 → EReal) (v2 : Fin 2048 → EReal)
    (hQ : ∀ d, Finite (Q d)) (hA : ∀ k d, Finite (A k d)) (hB : ∀ k d, Finite (B k d)) (r : Fin 512) (e : Fin 128)
    (h1 : ∀ k, ∑ d : Fin 256, x0 (ix3 0 ⟨512 + r, by omega⟩ d) * x1 (ix3 0 d k) = ∑ d : Fin 192, Ideal.div (Q d) (((Real.sqrt 192 : ℝ) : EReal) * ((Real.log 2 : ℝ) : EReal)) * A k d)
    (h3 : ∀ k, ∑ d : Fin 256, x0 (ix3 0 ⟨512 + r, by omega⟩ d) * x3 (ix3 0 d k) = ∑ d : Fin 192, Ideal.div (Q d) (((Real.sqrt 192 : ℝ) : EReal) * ((Real.log 2 : ℝ) : EReal)) * B k d)
    (h2 : ∀ k, x2 (ix3 0 k ⟨e, by omega⟩) = v1 k) (o2 : ∀ k, x2 (ix3 0 k ⟨128 + e, by omega⟩) = 1)
    (h4 : ∀ k, x4 (ix3 0 k ⟨e, by omega⟩) = v2 k) (o4 : ∀ k, x4 (ix3 0 k ⟨128 + e, by omega⟩) = 1) :
    k0_pay10 (k0_pay3 x0 x1) (k0_pay4 x0 x3) (k0_pay5 x0 x1 x3) (k0_pay6 x0 x1 x3) x2 x4 (ix2 r e)
      = soft (Sum.elim (fun k => scoreOf Q (A k) (Real.sqrt 192)) fun k => scoreOf Q (B k) (Real.sqrt 192)) (Sum.elim v1 v2) := by
  obtain ⟨e1, e2, e3⟩ := kernel_row x0 x1 x3 _ _ _ rfl rfl rfl Q A B hQ hA hB ⟨512 + r, by omega⟩ h1 h3
  rw [lower _ _ (k0_pay5 x0 x1 x3) _ _ _ r e (fun k => repeated x0 x1 x3 _ k)]
  simp only [h2, h4]
  exact kernel_soft (by norm_num) _ _ _ _ _ e1 e2 e3 _ _ _ _ o2 o4

end

end Cert.Proof.MlaHead

end
-- ==== Proof.MlaOperands.lean ====
/- What the latent attention call's prepared operands hold, entry by entry: scaled queries with the rotary halves of a pair of heads,
   transposed keys with a half of zeros, values with
   columns of ones. -/
module

public import proofs.«01_k».proof.Proof.Soft
public import proofs.«01_k».proof.Proof.Gen.MlaIdeal.Frame
public import Idealize.ShloMosaic.Lib.Pipeline.ValueKit

@[expose] public section

set_option maxRecDepth 16384

noncomputable section

namespace Cert.Proof.MlaOperands

open Idealize.ShloMosaic Idealize.ShloMosaic.TcCoe Idealize.SL.Sem Cert.Proof.Soft
open Cert.MlaIdeal Cert.MlaIdeal.Gen

variable (m : (ℓ : Loc nD τ sig) → Buf (Elt Ideal) ℓ) (c : Dev nD)

theorem queries_plain (b : Fin 32) (t : Fin 2048) (h : Fin 4) (d : Fin 128) (j : Fin 1024) (hj : (j : ℕ) = h * 256 + d) :
    V m c main_v13 (ix3 b t j) = Ideal.div (m ((c : Thread nD τ).loc main_arg0) (ix5 b t h 0 ⟨d, by omega⟩))
      (((Real.sqrt 192 : ℝ) : EReal) * ((Real.log 2 : ℝ) : EReal)) := by
  have n0 : (j : ℕ) % 256 < 128 := by omega
  have f0 : (j : ℕ) / 256 = h := by omega
  have f1 : (j : ℕ) % 256 = d := by omega
  clear hj
  entry_read
  pointwise
  exact (dif_pos n0).trans (congrArg₂ Ideal.div (congrArg₂ (fun a e => m ((c : Thread nD τ).loc main_arg0) (ix5 b t a 0 e)) (Fin.ext f0)
    (Fin.ext f1)) (congrArg₂ (· * ·) sqrt_192 log_2))

theorem queries_rotary (b : Fin 32) (t : Fin 2048) (h : Fin 4) (d : Fin 64) (j : Fin 1024) (hj : (j : ℕ) = h * 256 + (128 + (h % 2 * 64 + d))) :
    V m c main_v13 (ix3 b t j) = Ideal.div (m ((c : Thread nD τ).loc main_arg0) (ix5 b t h 0 ⟨128 + d, by omega⟩))
      (((Real.sqrt 192 : ℝ) : EReal) * ((Real.log 2 : ℝ) : EReal)) := by
  have q : (j : ℕ) / 256 = h := by omega
  have r : (j : ℕ) % 256 = 128 + (h % 2 * 64 + d) := by omega
  have n0 : ¬ (j : ℕ) % 256 < 128 := by rw [r]; omega
  have f0 : (j : ℕ) / 256 / 2 * 2 + ((j : ℕ) % 256 - 128) / 64 = h := by rw [q, r]; omega
  have f1 : 128 + ((j : ℕ) % 256 - 128) % 64 = 128 + d := by rw [r]; omega
  clear hj q r
  entry_read
  pointwise
  exact (dif_neg n0).trans (congrArg₂ Ideal.div (congrArg₂ (fun a e => m ((c : Thread nD τ).loc main_arg0) (ix5 b t a 0 e)) (Fin.ext f0)
    (Fin.ext f1)) (congrArg₂ (· * ·) sqrt_192 log_2))

theorem keys_context_plain (b : Fin 32) (h : Fin 4) (d : Fin 128) (k : Fin 256) (j : Fin 1024) (hj : (j : ℕ) = h * 256 + d) :
    V m c main_v26 (ix3 b j k) = m ((c : Thread nD τ).loc main_arg1) (ix4 b k h ⟨d, by omega⟩) := by
  have n0 : (j : ℕ) % 256 < 128 := by omega
  have f0 : (j : ℕ) / 512 * 2 + (j : ℕ) / 256 % 2 = h := by omega
  have f1 : (j : ℕ) % 256 = d := by omega
  clear hj
  entry_read
  pointwise
  exact (dif_pos n0).trans (congrArg₂ (fun a e => m ((c : Thread nD τ).loc main_arg1) (ix4 b k a e)) (Fin.ext f0) (Fin.ext f1))

theorem keys_context_rotary (b : Fin 32) (h : Fin 4) (d : Fin 64) (k : Fin 256) (j : Fin 1024) (hj : (j : ℕ) = h * 256 + (128 + (h % 2 * 64 + d))) :
    V m c main_v26 (ix3 b j k) = m ((c : Thread nD τ).loc main_arg1) (ix4 b k h ⟨128 + d, by omega⟩) := by
  rcases (by omega : (h : ℕ) % 2 = 0 ∨ (h : ℕ) % 2 = 1) with p | p <;> rw [p] at hj
  · have n0 : ¬ (j : ℕ) % 256 < 128 := by omega
    have n1 : (j : ℕ) % 256 - 128 < 64 := by omega
    have n2 : (j : ℕ) / 256 % 2 < 1 := by omega
    have f0 : (j : ℕ) / 512 * 2 + (j : ℕ) / 256 % 2 = h := by omega
    have f1 : 128 + ((j : ℕ) % 256 - 128) = 128 + d := by omega
    clear hj p
    entry_read
    pointwise
    exact (dif_neg n0).trans ((dif_pos n1).trans ((dif_pos n2).trans (congrArg₂ (fun a e => m ((c : Thread nD τ).loc main_arg1) (ix4 b k a e)) (Fin.ext f0) (Fin.ext f1))))
  · have n0 : ¬ (j : ℕ) % 256 < 128 := by omega
    have n1 : ¬ (j : ℕ) % 256 - 128 < 64 := by omega
    have n2 : ¬ (j : ℕ) / 256 % 2 < 1 := by omega
    have f0 : (j : ℕ) / 512 * 2 + (1 + ((j : ℕ) / 256 % 2 - 1)) = h := by omega
    have f1 : 128 + ((j : ℕ) % 256 - 128 - 64) = 128 + d := by omega
    clear hj p
    entry_read
    pointwise
    exact (dif_neg n0).trans ((dif_neg n1).trans ((dif_neg n2).trans (congrArg₂ (fun a e => m ((c : Thread nD τ).loc main_arg1) (ix4 b k a e)) (Fin.ext f0) (Fin.ext f1))))

theorem keys_context_zero (b : Fin 32) (h : Fin 4) (d : Fin 64) (k : Fin 256) (j : Fin 1024) (hj : (j : ℕ) = h * 256 + (128 + ((1 - h % 2) * 64 + d))) :
    V m c main_v26 (ix3 b j k) = (0 : EReal) := by
  rcases (by omega : (h : ℕ) % 2 = 0 ∨ (h : ℕ) % 2 = 1) with p | p <;> rw [p] at hj
  · have n0 : ¬ (j : ℕ) % 256 < 128 := by omega
    have n1 : ¬ (j : ℕ) % 256 - 128 < 64 := by omega
    have n2 : (j : ℕ) / 256 % 2 < 1 := by omega
    clear hj p
    entry_read
    pointwise
    exact (dif_neg n0).trans ((dif_neg n1).trans (dif_pos n2))
  · have n0 : ¬ (j : ℕ) % 256 < 128 := by omega
    have n1 : (j : ℕ) % 256 - 128 < 64 := by omega
    have n2 : ¬ (j : ℕ) / 256 % 2 < 1 := by omega
    clear hj p
    entry_read
    pointwise
    exact (dif_neg n0).trans ((dif_pos n1).trans (dif_neg n2))

theorem values_context (b : Fin 32) (k : Fin 256) (h : Fin 4) (e : Fin 128) (j : Fin 1024) (hj : (j : ℕ) = h * 256 + e) :
    V m c main_v30 (ix3 b k j) = m ((c : Thread nD τ).loc main_arg2) (ix4 b k h e) := by
  entry_read
  pointwise
  have e0 : (j : ℕ) % 256 = e := by omega
  have e1 : (⟨(j : ℕ) / 256, by omega⟩ : Fin 4) = h := Fin.ext (by show (j : ℕ) / 256 = h; omega)
  rw [dif_pos (by omega), e1]
  simp only [e0]

theorem ones_context (b : Fin 32) (k : Fin 256) (h : Fin 4) (e : Fin 128) (j : Fin 1024) (hj : (j : ℕ) = h * 256 + (128 + e)) :
    V m c main_v30 (ix3 b k j) = (1 : EReal) := by
  entry_read
  pointwise
  rw [dif_neg (by omega)]

theorem keys_stream_plain (b : Fin 32) (h : Fin 4) (d : Fin 128) (k : Fin 2048) (j : Fin 1024) (hj : (j : ℕ) = h * 256 + d) :
    V m c main_v43 (ix3 b j k) = m ((c : Thread nD τ).loc main_arg3) (ix4 b k h ⟨d, by omega⟩) := by
  have n0 : (j : ℕ) % 256 < 128 := by omega
  have f0 : (j : ℕ) / 512 * 2 + (j : ℕ) / 256 % 2 = h := by omega
  have f1 : (j : ℕ) % 256 = d := by omega
  clear hj
  entry_read
  pointwise
  exact (dif_pos n0).trans (congrArg₂ (fun a e => m ((c : Thread nD τ).loc main_arg3) (ix4 b k a e)) (Fin.ext f0) (Fin.ext f1))

theorem keys_stream_rotary (b : Fin 32) (h : Fin 4) (d : Fin 64) (k : Fin 2048) (j : Fin 1024) (hj : (j : ℕ) = h * 256 + (128 + (h % 2 * 64 + d))) :
    V m c main_v43 (ix3 b j k) = m ((c : Thread nD τ).loc main_arg3) (ix4 b k h ⟨128 + d, by omega⟩) := by
  rcases (by omega : (h : ℕ) % 2 = 0 ∨ (h : ℕ) % 2 = 1) with p | p <;> rw [p] at hj
  · have n0 : ¬ (j : ℕ) % 256 < 128 := by omega
    have n1 : (j : ℕ) % 256 - 128 < 64 := by omega
    have n2 : (j : ℕ) / 256 % 2 < 1 := by omega
    have f0 : (j : ℕ) / 512 * 2 + (j : ℕ) / 256 % 2 = h := by omega
    have f1 : 128 + ((j : ℕ) % 256 - 128) = 128 + d := by omega
    clear hj p
    entry_read
    pointwise
    exact (dif_neg n0).trans ((dif_pos n1).trans ((dif_pos n2).trans (congrArg₂ (fun a e => m ((c : Thread nD τ).loc main_arg3) (ix4 b k a e)) (Fin.ext f0) (Fin.ext f1))))
  · have n0 : ¬ (j : ℕ) % 256 < 128 := by omega
    have n1 : ¬ (j : ℕ) % 256 - 128 < 64 := by omega
    have n2 : ¬ (j : ℕ) / 256 % 2 < 1 := by omega
    have f0 : (j : ℕ) / 512 * 2 + (1 + ((j : ℕ) / 256 % 2 - 1)) = h := by omega
    have f1 : 128 + ((j : ℕ) % 256 - 128 - 64) = 128 + d := by omega
    clear hj p
    entry_read
    pointwise
    exact (dif_neg n0).trans ((dif_neg n1).trans ((dif_neg n2).trans (congrArg₂ (fun a e => m ((c : Thread nD τ).loc main_arg3) (ix4 b k a e)) (Fin.ext f0) (Fin.ext f1))))

theorem keys_stream_zero (b : Fin 32) (h : Fin 4) (d : Fin 64) (k : Fin 2048) (j : Fin 1024) (hj : (j : ℕ) = h * 256 + (128 + ((1 - h % 2) * 64 + d))) :
    V m c main_v43 (ix3 b j k) = (0 : EReal) := by
  rcases (by omega : (h : ℕ) % 2 = 0 ∨ (h : ℕ) % 2 = 1) with p | p <;> rw [p] at hj
  · have n0 : ¬ (j : ℕ) % 256 < 128 := by omega
    have n1 : ¬ (j : ℕ) % 256 - 128 < 64 := by omega
    have n2 : (j : ℕ) / 256 % 2 < 1 := by omega
    clear hj p
    entry_read
    pointwise
    exact (dif_neg n0).trans ((dif_neg n1).trans (dif_pos n2))
  · have n0 : ¬ (j : ℕ) % 256 < 128 := by omega
    have n1 : (j : ℕ) % 256 - 128 < 64 := by omega
    have n2 : ¬ (j : ℕ) / 256 % 2 < 1 := by omega
    clear hj p
    entry_read
    pointwise
    exact (dif_neg n0).trans ((dif_pos n1).trans (dif_neg n2))

theorem values_stream (b : Fin 32) (k : Fin 2048) (h : Fin 4) (e : Fin 128) (j : Fin 1024) (hj : (j : ℕ) = h * 256 + e) :
    V m c main_v47 (ix3 b k j) = m ((c : Thread nD τ).loc main_arg4) (ix4 b k h e) := by
  entry_read
  pointwise
  have e0 : (j : ℕ) % 256 = e := by omega
  have e1 : (⟨(j : ℕ) / 256, by omega⟩ : Fin 4) = h := Fin.ext (by show (j : ℕ) / 256 = h; omega)
  rw [dif_pos (by omega), e1]
  simp only [e0]

theorem ones_stream (b : Fin 32) (k : Fin 2048) (h : Fin 4) (e : Fin 128) (j : Fin 1024) (hj : (j : ℕ) = h * 256 + (128 + e)) :
    V m c main_v47 (ix3 b k j) = (1 : EReal) := by
  entry_read
  pointwise
  rw [dif_neg (by omega)]

end Cert.Proof.MlaOperands

end
-- ==== Proof.MlaReference.lean ====
/- What the reference of the latent attention call computes: at a query and an output column, the softmax of that query's
   scores against the keys of its head, applied to that column of the values. -/
module

public import proofs.«01_k».proof.Proof.Soft
public import proofs.«01_k».proof.Proof.Gen.MlaRefIdeal.Read
public import Idealize.ShloMosaic.Lib.Pointwise

@[expose] public section

set_option maxRecDepth 16384

noncomputable section

namespace Cert.Proof.MlaReference

open Idealize.ShloMosaic Cert.Proof.Soft
open Cert.MlaRefIdeal Cert.MlaRefIdeal.Gen Cert.MlaRefIdeal.Read

variable (q : FVec Ideal S32x2048x4x1x192 .f32) (kc : FVec Ideal S32x256x4x192 .f32) (vc : FVec Ideal S32x256x4x128 .f32)
  (kx : FVec Ideal S32x2048x4x192 .f32) (vx : FVec Ideal S32x2048x4x128 .f32)

/-- The entries of both segments of the keys or values, one list. -/
def joined {n : ℕ} (x : (Shape.mk 4 ![32, 256, 4, n]).Idx → EReal) (y : (Shape.mk 4 ![32, 2048, 4, n]).Idx → EReal) (b : Fin 32) (h : Fin 4)
    (k : Fin 2304) (d : Fin n) : EReal :=
  if hk : (k : ℕ) < 256 then x (ix4 b ⟨k, hk⟩ h d) else y (ix4 b ⟨(k : ℕ) - 256, by omega⟩ h d)

theorem score (b : Fin 32) (h : Fin 4) (t : Fin 2048) (k : Fin 2304) :
    val_main_v6 (F := Ideal) q kc kx (ix5 b h 0 t k)
      = Ideal.div (∑ d : Fin 192, joined kc kx b h k d * q (ix5 b t h 0 d)) ((Real.sqrt 192 : ℝ) : EReal) := by
  pointwise [val_main_v6, val_main_v5, val_main_v4, val_main_cst, val_main_v3, val_main_v2, val_main_v0, joined]
  rw [sqrt_192]

theorem score_real (hq : ∀ i, Finite (q i)) (hc : ∀ i, Finite (kc i)) (hx : ∀ i, Finite (kx i)) (b : Fin 32) (h : Fin 4)
    (t : Fin 2048) (k : Fin 2304) :
    val_main_v6 (F := Ideal) q kc kx (ix5 b h 0 t k)
      = (scoreOf (fun d => q (ix5 b t h 0 d)) (joined kc kx b h k) (Real.sqrt 192) : EReal) := by
  rw [score]
  refine score_reference (fun d => q (ix5 b t h 0 d)) (joined kc kx b h k) _ (Real.sqrt_pos.2 (by norm_num)) (fun d => hq _) fun d => ?_
  unfold joined
  split
  · exact hc _
  · exact hx _

theorem largest (hq : ∀ i, Finite (q i)) (hc : ∀ i, Finite (kc i)) (hx : ∀ i, Finite (kx i)) (i : S32x4x1x2048.Idx) :
    Finite (val_main_v9 (F := Ideal) q kc kx i) := by
  have hv : ∀ j, Finite (val_main_v6 (F := Ideal) q kc kx j) := fun j => by
    rw [eq_ix5 j, show j 2 = (0 : Fin 1) from Subsingleton.elim (α := Fin 1) (j 2 : Fin 1) 0]
    exact ⟨_, score_real q kc kx hq hc hx (j 0) (j 1) (j 3) (j 4)⟩
  have h7 : Finite (val_main_v7 (F := Ideal) q kc kx i) := by
    unfold val_main_v7
    exact finite_host_max _ _ _ (by decide) _ i (by decide) ofBits_neg_infinity hv
  have h8 : val_main_v8 (F := Ideal) i = ⊥ := ofBits_neg_infinity
  rw [val_main_v9_apply, Ideal.maximumf_def, h8, max_eq_right bot_le]
  exact h7

theorem column (b : Fin 32) (t : Fin 2048) (h : Fin 4) (e : Fin 128) (c : Fin 512)
    (hc : (c : ℕ) = h * 128 + e) :
    val_main_v21 (F := Ideal) q kc vc kx vx (ix3 b t c)
      = ∑ k : Fin 2304, joined vc vx b h k e * Ideal.div (Ideal.exp (val_main_v6 (F := Ideal) q kc kx (ix5 b h 0 t k) - val_main_v9 (F := Ideal) q kc kx (ix4 b h 0 t)))
        (0 + ∑ l, Ideal.exp (val_main_v6 (F := Ideal) q kc kx (ix5 b h 0 t l) - val_main_v9 (F := Ideal) q kc kx (ix4 b h 0 t))) := by
  pointwise [joined, val_main_v1, val_main_v21, val_main_v20, val_main_v19, val_main_v18, val_main_v17, val_main_v16, val_main_v15, val_main_v14, val_main_cst_2, val_main_v13, val_main_v12, val_main_v11, val_main_v10]
  have e1 : (⟨(c : ℕ) / 128, by omega⟩ : Fin 4) = h := Fin.ext (by show (c : ℕ) / 128 = h; omega)
  have e3 : (⟨(c : ℕ) % 128, by omega⟩ : Fin 128) = e := Fin.ext (by show (c : ℕ) % 128 = e; omega)
  simp only [e1, e3]

/-- The reference at a query and an output column. -/
theorem value (hq : ∀ i, Finite (q i)) (hc : ∀ i, Finite (kc i)) (hx : ∀ i, Finite (kx i)) (b : Fin 32) (t : Fin 2048)
    (h : Fin 4) (e : Fin 128) (c : Fin 512) (hcol : (c : ℕ) = h * 128 + e) :
    val_main_v21 (F := Ideal) q kc vc kx vx (ix3 b t c)
      = soft (Sum.elim (fun k : Fin 256 => scoreOf (fun d => q (ix5 b t h 0 d)) (fun d => kc (ix4 b k h d)) (Real.sqrt 192))
            fun k : Fin 2048 => scoreOf (fun d => q (ix5 b t h 0 d)) (fun d => kx (ix4 b k h d)) (Real.sqrt 192))
          (Sum.elim (fun k : Fin 256 => vc (ix4 b k h e)) fun k : Fin 2048 => vx (ix4 b k h e)) := by
  rw [column q kc vc kx vx b t h e c hcol,
    reference_soft (by norm_num) _ _ _ (score_real q kc kx hq hc hx b h t) (largest q kc kx hq hc hx _),
    ← soft_append (n₁ := 256) (n₂ := 2048) rfl]
  have n (k : Fin 2048) : ¬ 256 + (k : ℕ) < 256 := by omega
  congr 1 <;> funext k <;> rcases k with k | k
  · exact congrArg (fun u => scoreOf (fun d => q (ix5 b t h 0 d)) u (Real.sqrt 192)) (funext fun d => dif_pos k.2)
  · refine congrArg (fun u => scoreOf (fun d => q (ix5 b t h 0 d)) u (Real.sqrt 192)) (funext fun d => ?_)
    simp [joined]
  · exact dif_pos k.2
  · simp [joined]

end Cert.Proof.MlaReference

end
-- ==== Proof.MlaBlock.lean ====
/- What the latent attention kernel's blocks hold: the batch row's part of each prepared operand. -/
module

public import proofs.«01_k».proof.Proof.Gen.MlaIdeal.Frame
public import proofs.«01_k».proof.Proof.Soft
public import Idealize.ShloMosaic.Lib.Pipeline.ValueKit

@[expose] public section

set_option maxRecDepth 16384

noncomputable section

namespace Cert.Proof.MlaBlock

open Idealize.ShloMosaic Idealize.ShloMosaic.TcCoe Idealize.SL.Sem Cert.Proof.Soft
open Cert.MlaIdeal Cert.MlaIdeal.Gen

variable (m : (ℓ : Loc nD τ sig) → Buf (Elt Ideal) ℓ) (c : Dev nD)

theorem idx : ∀ t : Fin cfg0.N, win0_0.index t = ![t.val / 2, t.val % 2, 0] ∧ win0_1.index t = ![t.val / 2, 0, 0]
    ∧ win0_2.index t = ![t.val / 2, 0, 0] ∧ win0_3.index t = ![t.val / 2, 0, 0] ∧ win0_4.index t = ![t.val / 2, 0, 0]
    ∧ win0_5.index t = ![t.val / 2, t.val % 2, 0] :=
  (by decide +kernel : ∀ t : Fin grid0.N, _)

/-- A read of a load is a read of the block the load is taken from. -/
theorem load_at {s : Shape} (x : Vec Ideal s .bf16) (R : Rect s) (i : R.shape.Idx) (j : s.Idx) (h : R.emb i = j) : View.ld x R i = x j := by
  subst h; rfl

theorem place_queries (t : Fin cfg0.N) (b : Fin 32) (hb : (b : ℕ) = t.val / 2) (r : Fin 1024) (j : Fin 1024) (i : Fin 2048) (hi : (i : ℕ) = t.val % 2 * 1024 + r) :
    ((cfg0.win 0).blk t).view.emb (ix3 0 r j) = ix3 b i j := by
  funext a
  apply Fin.ext
  match a with
  | ⟨0, _⟩ =>
    blk_simp [idx t]
    exact hb.symm
  | ⟨1, _⟩ => blk_simp [idx t]
              exact hi.symm
  | ⟨2, _⟩ => blk_simp [idx t]

theorem read_queries (t : Fin cfg0.N) (y : S1x1024x1024.Idx) (X : S32x2048x1024.Idx → EReal) :
    ((cfg0.win 0).blk t).view.read (Elt Ideal) X y = X (((cfg0.win 0).blk t).view.emb y) := rfl

theorem array_queries (t : Fin cfg0.N) (y : S1x1024x1024.Idx) :
    iblk m c 0 t y = ((cfg0.win 0).blk t).view.read (Elt Ideal) (V m c main_v13) y := rfl

theorem block_queries (t : Fin cfg0.N) (b : Fin 32) (hb : (b : ℕ) = t.val / 2) (r : Fin 1024) (j : Fin 1024) (i : Fin 2048) (hi : (i : ℕ) = t.val % 2 * 1024 + r) :
    iblk m c 0 t (ix3 0 r j) = V m c main_v13 (ix3 b i j) := by
  rw [array_queries, read_queries, place_queries t b hb r j i hi]

theorem place_keys_context (t : Fin cfg0.N) (b : Fin 32) (hb : (b : ℕ) = t.val / 2) (r : Fin 1024) (j : Fin 256) :
    ((cfg0.win 1).blk t).view.emb (ix3 0 r j) = ix3 b r j := by
  funext a
  apply Fin.ext
  match a with
  | ⟨0, _⟩ =>
    blk_simp [idx t]
    exact hb.symm
  | ⟨1, _⟩ => blk_simp [idx t]
  | ⟨2, _⟩ => blk_simp [idx t]

theorem read_keys_context (t : Fin cfg0.N) (y : S1x1024x256.Idx) (X : S32x1024x256.Idx → EReal) :
    ((cfg0.win 1).blk t).view.read (Elt Ideal) X y = X (((cfg0.win 1).blk t).view.emb y) := rfl

theorem array_keys_context (t : Fin cfg0.N) (y : S1x1024x256.Idx) :
    iblk m c 1 t y = ((cfg0.win 1).blk t).view.read (Elt Ideal) (V m c main_v26) y := rfl

theorem block_keys_context (t : Fin cfg0.N) (b : Fin 32) (hb : (b : ℕ) = t.val / 2) (r : Fin 1024) (j : Fin 256) :
    iblk m c 1 t (ix3 0 r j) = V m c main_v26 (ix3 b r j) := by
  rw [array_keys_context, read_keys_context, place_keys_context t b hb r j]

theorem place_values_context (t : Fin cfg0.N) (b : Fin 32) (hb : (b : ℕ) = t.val / 2) (r : Fin 256) (j : Fin 1024) :
    ((cfg0.win 2).blk t).view.emb (ix3 0 r j) = ix3 b r j := by
  funext a
  apply Fin.ext
  match a with
  | ⟨0, _⟩ =>
    blk_simp [idx t]
    exact hb.symm
  | ⟨1, _⟩ => blk_simp [idx t]
  | ⟨2, _⟩ => blk_simp [idx t]

theorem read_values_context (t : Fin cfg0.N) (y : S1x256x1024.Idx) (X : S32x256x1024.Idx → EReal) :
    ((cfg0.win 2).blk t).view.read (Elt Ideal) X y = X (((cfg0.win 2).blk t).view.emb y) := rfl

theorem array_values_context (t : Fin cfg0.N) (y : S1x256x1024.Idx) :
    iblk m c 2 t y = ((cfg0.win 2).blk t).view.read (Elt Ideal) (V m c main_v30) y := rfl

theorem block_values_context (t : Fin cfg0.N) (b : Fin 32) (hb : (b : ℕ) = t.val / 2) (r : Fin 256) (j : Fin 1024) :
    iblk m c 2 t (ix3 0 r j) = V m c main_v30 (ix3 b r j) := by
  rw [array_values_context, read_values_context, place_values_context t b hb r j]

theorem place_keys_stream (t : Fin cfg0.N) (b : Fin 32) (hb : (b : ℕ) = t.val / 2) (r : Fin 1024) (j : Fin 2048) :
    ((cfg0.win 3).blk t).view.emb (ix3 0 r j) = ix3 b r j := by
  funext a
  apply Fin.ext
  match a with
  | ⟨0, _⟩ =>
    blk_simp [idx t]
    exact hb.symm
  | ⟨1, _⟩ => blk_simp [idx t]
  | ⟨2, _⟩ => blk_simp [idx t]

theorem read_keys_stream (t : Fin cfg0.N) (y : S1x1024x2048.Idx) (X : S32x1024x2048.Idx → EReal) :
    ((cfg0.win 3).blk t).view.read (Elt Ideal) X y = X (((cfg0.win 3).blk t).view.emb y) := rfl

theorem array_keys_stream (t : Fin cfg0.N) (y : S1x1024x2048.Idx) :
    iblk m c 3 t y = ((cfg0.win 3).blk t).view.read (Elt Ideal) (V m c main_v43) y := rfl

theorem block_keys_stream (t : Fin cfg0.N) (b : Fin 32) (hb : (b : ℕ) = t.val / 2) (r : Fin 1024) (j : Fin 2048) :
    iblk m c 3 t (ix3 0 r j) = V m c main_v43 (ix3 b r j) := by
  rw [array_keys_stream, read_keys_stream, place_keys_stream t b hb r j]

theorem place_values_stream (t : Fin cfg0.N) (b : Fin 32) (hb : (b : ℕ) = t.val / 2) (r : Fin 2048) (j : Fin 1024) :
    ((cfg0.win 4).blk t).view.emb (ix3 0 r j) = ix3 b r j := by
  funext a
  apply Fin.ext
  match a with
  | ⟨0, _⟩ =>
    blk_simp [idx t]
    exact hb.symm
  | ⟨1, _⟩ => blk_simp [idx t]
  | ⟨2, _⟩ => blk_simp [idx t]

theorem read_values_stream (t : Fin cfg0.N) (y : S1x2048x1024.Idx) (X : S32x2048x1024.Idx → EReal) :
    ((cfg0.win 4).blk t).view.read (Elt Ideal) X y = X (((cfg0.win 4).blk t).view.emb y) := rfl

theorem array_values_stream (t : Fin cfg0.N) (y : S1x2048x1024.Idx) :
    iblk m c 4 t y = ((cfg0.win 4).blk t).view.read (Elt Ideal) (V m c main_v47) y := rfl

theorem block_values_stream (t : Fin cfg0.N) (b : Fin 32) (hb : (b : ℕ) = t.val / 2) (r : Fin 2048) (j : Fin 1024) :
    iblk m c 4 t (ix3 0 r j) = V m c main_v47 (ix3 b r j) := by
  rw [array_values_stream, read_values_stream, place_values_stream t b hb r j]

end Cert.Proof.MlaBlock

end
-- ==== Proof.MlaKernel.lean ====
/- What the latent attention kernel's result array holds: every block is the reference's, head by head and half by half. -/
module

public import proofs.«01_k».proof.Proof.Rotary
public import proofs.«01_k».proof.Proof.MlaHead
public import proofs.«01_k».proof.Proof.MlaOperands
public import proofs.«01_k».proof.Proof.MlaReference
public import proofs.«01_k».proof.Proof.MlaBlock

@[expose] public section

set_option maxRecDepth 16384

noncomputable section

namespace Cert.Proof.MlaKernel

open Idealize.ShloMosaic Idealize.ShloMosaic.TcCoe Idealize.SL.Sem Cert.Proof.Soft
open Cert.MlaIdeal Cert.MlaIdeal.Gen
open Cert.Proof.MlaOperands Cert.Proof.MlaHead Cert.Proof.MlaBlock

variable (m : (ℓ : Loc nD τ sig) → Buf (Elt Ideal) ℓ) (c : Dev nD)

/-- The reference's result, from the call's arguments. -/
abbrev result : FVec Ideal Cert.MlaRefIdeal.S32x2048x512 .bf16 :=
  Cert.MlaRefIdeal.Read.val_main_v21 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- A score against the context keys, over the head's own columns. -/
theorem score_context (b : Fin 32) (h : Fin 4) (i : Fin 2048) (k : Fin 256) (X : Fin 256 → EReal) (K : Fin 256 → EReal)
    (hX : ∀ d : Fin 256, X d = V m c main_v13 (ix3 b i ⟨h * 256 + d, by omega⟩)) (hK : ∀ d : Fin 256, K d = V m c main_v26 (ix3 b ⟨h * 256 + d, by omega⟩ k)) :
    ∑ d, X d * K d = ∑ d : Fin 192, Ideal.div (m ((c : Thread nD τ).loc main_arg0) (ix5 b i h 0 d))
      (((Real.sqrt 192 : ℝ) : EReal) * ((Real.log 2 : ℝ) : EReal)) * m ((c : Thread nD τ).loc main_arg1) (ix4 b k h d) :=
  Rotary.rotary_sum X K (fun d => Ideal.div (m ((c : Thread nD τ).loc main_arg0) (ix5 b i h 0 d))
      (((Real.sqrt 192 : ℝ) : EReal) * ((Real.log 2 : ℝ) : EReal))) (fun d => m ((c : Thread nD τ).loc main_arg1) (ix4 b k h d)) (h % 2) (by omega)
    (fun d => (hX _).trans (queries_plain m c b i h d _ rfl)) (fun d => (hK _).trans (keys_context_plain m c b h d k _ rfl))
    (fun d => (hX _).trans (queries_rotary m c b i h d _ rfl)) (fun d => (hK _).trans (keys_context_rotary m c b h d k _ rfl))
    (fun d => (hK _).trans (keys_context_zero m c b h d k _ rfl))

/-- A score against the stream keys, over the head's own columns. -/
theorem score_stream (b : Fin 32) (h : Fin 4) (i : Fin 2048) (k : Fin 2048) (X : Fin 256 → EReal) (K : Fin 256 → EReal)
    (hX : ∀ d : Fin 256, X d = V m c main_v13 (ix3 b i ⟨h * 256 + d, by omega⟩)) (hK : ∀ d : Fin 256, K d = V m c main_v43 (ix3 b ⟨h * 256 + d, by omega⟩ k)) :
    ∑ d, X d * K d = ∑ d : Fin 192, Ideal.div (m ((c : Thread nD τ).loc main_arg0) (ix5 b i h 0 d))
      (((Real.sqrt 192 : ℝ) : EReal) * ((Real.log 2 : ℝ) : EReal)) * m ((c : Thread nD τ).loc main_arg3) (ix4 b k h d) :=
  Rotary.rotary_sum X K (fun d => Ideal.div (m ((c : Thread nD τ).loc main_arg0) (ix5 b i h 0 d))
      (((Real.sqrt 192 : ℝ) : EReal) * ((Real.log 2 : ℝ) : EReal))) (fun d => m ((c : Thread nD τ).loc main_arg3) (ix4 b k h d)) (h % 2) (by omega)
    (fun d => (hX _).trans (queries_plain m c b i h d _ rfl)) (fun d => (hK _).trans (keys_stream_plain m c b h d k _ rfl))
    (fun d => (hX _).trans (queries_rotary m c b i h d _ rfl)) (fun d => (hK _).trans (keys_stream_rotary m c b h d k _ rfl))
    (fun d => (hK _).trans (keys_stream_zero m c b h d k _ rfl))

variable (hq : ∀ i, Finite (m ((c : Thread nD τ).loc main_arg0) i)) (hc : ∀ i, Finite (m ((c : Thread nD τ).loc main_arg1) i))
  (hx : ∀ i, Finite (m ((c : Thread nD τ).loc main_arg3) i))

include hq hc hx in
/-- A piece of the upper rows, from the loads it reads. -/
theorem piece_upper (b : Fin 32) (h : Fin 4) (X0 : Vec Ideal S1x1024x256 .bf16) (X1 : Vec Ideal S1x256x256 .bf16)
    (X3 : Vec Ideal S1x256x2048 .bf16) (X2 : Vec Ideal S1x256x256 .bf16) (X4 : Vec Ideal S1x2048x256 .bf16)
    (r : Fin 512) (e : Fin 128) (i : Fin 2048) (j : Fin 512) (hj : (j : ℕ) = h * 128 + e)
    (h0 : ∀ (d : Fin 256), X0 (ix3 0 ⟨r, by omega⟩ d) = V m c main_v13 (ix3 b i ⟨h * 256 + d, by omega⟩))
    (h1 : ∀ (d : Fin 256) (k : Fin 256), X1 (ix3 0 d k) = V m c main_v26 (ix3 b ⟨h * 256 + d, by omega⟩ k))
    (h3 : ∀ (d : Fin 256) (k : Fin 2048), X3 (ix3 0 d k) = V m c main_v43 (ix3 b ⟨h * 256 + d, by omega⟩ k))
    (h2 : ∀ (k : Fin 256) (e : Fin 256), X2 (ix3 0 k e) = V m c main_v30 (ix3 b k ⟨h * 256 + e, by omega⟩))
    (h4 : ∀ (k : Fin 2048) (e : Fin 256), X4 (ix3 0 k e) = V m c main_v47 (ix3 b k ⟨h * 256 + e, by omega⟩)) :
    k0_pay9 (k0_pay3 X0 X1) (k0_pay4 X0 X3) (k0_pay5 X0 X1 X3) (k0_pay6 X0 X1 X3) X2 X4 (ix3 0 r e) = result m c (ix3 b i j) := by
  refine Eq.trans ?_ (MlaReference.value _ _ _ _ _ hq hc hx b i h e j hj).symm
  exact head_upper X0 X1 X3 X2 X4 _ _ _ _ _ (fun d => hq (ix5 b i h 0 d))
    (fun k d => hc (ix4 b k h d)) (fun k d => hx (ix4 b k h d)) r e
    (fun k => score_context m c b h i k _ _ h0 (fun d => h1 d k)) (fun k => score_stream m c b h i k _ _ h0 (fun d => h3 d k))
    (fun k => (h2 k ⟨e, by omega⟩).trans (values_context m c b k h e _ rfl)) (fun k => (h2 k ⟨128 + e, by omega⟩).trans (ones_context m c b k h e _ rfl))
    (fun k => (h4 k ⟨e, by omega⟩).trans (values_stream m c b k h e _ rfl)) (fun k => (h4 k ⟨128 + e, by omega⟩).trans (ones_stream m c b k h e _ rfl))

include hq hc hx in
/-- A piece of the lower rows, from the loads it reads. -/
theorem piece_lower (b : Fin 32) (h : Fin 4) (X0 : Vec Ideal S1x1024x256 .bf16) (X1 : Vec Ideal S1x256x256 .bf16)
    (X3 : Vec Ideal S1x256x2048 .bf16) (X2 : Vec Ideal S1x256x256 .bf16) (X4 : Vec Ideal S1x2048x256 .bf16)
    (r : Fin 512) (e : Fin 128) (i : Fin 2048) (j : Fin 512) (hj : (j : ℕ) = h * 128 + e)
    (h0 : ∀ (d : Fin 256), X0 (ix3 0 ⟨512 + r, by omega⟩ d) = V m c main_v13 (ix3 b i ⟨h * 256 + d, by omega⟩))
    (h1 : ∀ (d : Fin 256) (k : Fin 256), X1 (ix3 0 d k) = V m c main_v26 (ix3 b ⟨h * 256 + d, by omega⟩ k))
    (h3 : ∀ (d : Fin 256) (k : Fin 2048), X3 (ix3 0 d k) = V m c main_v43 (ix3 b ⟨h * 256 + d, by omega⟩ k))
    (h2 : ∀ (k : Fin 256) (e : Fin 256), X2 (ix3 0 k e) = V m c main_v30 (ix3 b k ⟨h * 256 + e, by omega⟩))
    (h4 : ∀ (k : Fin 2048) (e : Fin 256), X4 (ix3 0 k e) = V m c main_v47 (ix3 b k ⟨h * 256 + e, by omega⟩)) :
    k0_pay11 (k0_pay10 (k0_pay3 X0 X1) (k0_pay4 X0 X3) (k0_pay5 X0 X1 X3) (k0_pay6 X0 X1 X3) X2 X4) (ix3 0 r e) = result m c (ix3 b i j) := by
  refine Eq.trans ?_ (MlaReference.value _ _ _ _ _ hq hc hx b i h e j hj).symm
  rw [show ∀ v : FVec Ideal S512x128 .bf16, k0_pay11 v (ix3 0 r e) = v (ix2 r e) from fun v => by pointwise [k0_pay11]]
  exact head_lower X0 X1 X3 X2 X4 _ _ _ _ _ (fun d => hq (ix5 b i h 0 d))
    (fun k d => hc (ix4 b k h d)) (fun k d => hx (ix4 b k h d)) r e
    (fun k => score_context m c b h i k _ _ h0 (fun d => h1 d k)) (fun k => score_stream m c b h i k _ _ h0 (fun d => h3 d k))
    (fun k => (h2 k ⟨e, by omega⟩).trans (values_context m c b k h e _ rfl)) (fun k => (h2 k ⟨128 + e, by omega⟩).trans (ones_context m c b k h e _ rfl))
    (fun k => (h4 k ⟨e, by omega⟩).trans (values_stream m c b k h e _ rfl)) (fun k => (h4 k ⟨128 + e, by omega⟩).trans (ones_stream m c b k h e _ rfl))

set_option maxHeartbeats 2000000 in
include hq hc hx in
theorem point (t : Fin cfg0.N) (y : S1x1024x512.Idx) :
    out0_5 (iblk m c 0 t) (iblk m c 1 t) (iblk m c 2 t) (iblk m c 3 t) (iblk m c 4 t) y
      = result m c (((cfg0.win 5).blk t).view.emb y) := by
  have ht : t.val < 64 := lt_of_lt_of_eq t.isLt N_0
  have hy : (y 1 : ℕ) < 1024 := (y 1).isLt
  have hz : (y 2 : ℕ) < 512 := (y 2).isLt
  have he : ((cfg0.win 5).blk t).view.emb y
      = ix3 (⟨t.val / 2, by omega⟩ : Fin 32) (⟨t.val % 2 * 1024 + y 1, by omega⟩ : Fin 2048) (⟨y 2, hz⟩ : Fin 512) := by
    blk_ext [idx t]
  rw [he]
  canon_tiles x h
  case piece0 =>
    idx_vars x
    obtain rfl : x0 = 0 := Subsingleton.elim _ _
    refine piece_lower m c hq hc hx ⟨t.val / 2, by omega⟩ 3 (View.ld (iblk m c 0 t) r0_21)
      (View.ld (iblk m c 1 t) r0_22) (View.ld (iblk m c 3 t) r0_23) (View.ld (iblk m c 2 t) r0_24) (View.ld (iblk m c 4 t) r0_25)
      x1 x2 _ _ ?_ (fun d => ?_) (fun d k => ?_) (fun d k => ?_) (fun k e => ?_) (fun k e => ?_)
    · show (y 2 : ℕ) = 3 * 128 + (x2 : ℕ)
      omega
    · exact (load_at _ _ _ (ix3 0 ⟨512 + x1, by omega⟩ ⟨768 + d, by omega⟩) (by blk_ext)).trans
        (block_queries m c t _ rfl _ _ _ (by show t.val % 2 * 1024 + (y 1 : ℕ) = t.val % 2 * 1024 + (512 + (x1 : ℕ)); omega))
    · exact (load_at _ _ _ (ix3 0 ⟨768 + d, by omega⟩ k) (by blk_ext)).trans (block_keys_context m c t _ rfl _ _)
    · exact (load_at _ _ _ (ix3 0 ⟨768 + d, by omega⟩ k) (by blk_ext)).trans (block_keys_stream m c t _ rfl _ _)
    · exact (load_at _ _ _ (ix3 0 k ⟨768 + e, by omega⟩) (by blk_ext)).trans (block_values_context m c t _ rfl _ _)
    · exact (load_at _ _ _ (ix3 0 k ⟨768 + e, by omega⟩) (by blk_ext)).trans (block_values_stream m c t _ rfl _ _)
  case piece1 =>
    idx_vars x
    obtain rfl : x0 = 0 := Subsingleton.elim _ _
    refine piece_upper m c hq hc hx ⟨t.val / 2, by omega⟩ 3 (View.ld (iblk m c 0 t) r0_21)
      (View.ld (iblk m c 1 t) r0_22) (View.ld (iblk m c 3 t) r0_23) (View.ld (iblk m c 2 t) r0_24) (View.ld (iblk m c 4 t) r0_25)
      x1 x2 _ _ ?_ (fun d => ?_) (fun d k => ?_) (fun d k => ?_) (fun k e => ?_) (fun k e => ?_)
    · show (y 2 : ℕ) = 3 * 128 + (x2 : ℕ)
      omega
    · exact (load_at _ _ _ (ix3 0 ⟨0 + x1, by omega⟩ ⟨768 + d, by omega⟩) (by blk_ext)).trans
        (block_queries m c t _ rfl _ _ _ (by show t.val % 2 * 1024 + (y 1 : ℕ) = t.val % 2 * 1024 + (0 + (x1 : ℕ)); omega))
    · exact (load_at _ _ _ (ix3 0 ⟨768 + d, by omega⟩ k) (by blk_ext)).trans (block_keys_context m c t _ rfl _ _)
    · exact (load_at _ _ _ (ix3 0 ⟨768 + d, by omega⟩ k) (by blk_ext)).trans (block_keys_stream m c t _ rfl _ _)
    · exact (load_at _ _ _ (ix3 0 k ⟨768 + e, by omega⟩) (by blk_ext)).trans (block_values_context m c t _ rfl _ _)
    · exact (load_at _ _ _ (ix3 0 k ⟨768 + e, by omega⟩) (by blk_ext)).trans (block_values_stream m c t _ rfl _ _)
  case piece2 =>
    idx_vars x
    obtain rfl : x0 = 0 := Subsingleton.elim _ _
    refine piece_lower m c hq hc hx ⟨t.val / 2, by omega⟩ 2 (View.ld (iblk m c 0 t) r0_14)
      (View.ld (iblk m c 1 t) r0_15) (View.ld (iblk m c 3 t) r0_16) (View.ld (iblk m c 2 t) r0_17) (View.ld (iblk m c 4 t) r0_18)
      x1 x2 _ _ ?_ (fun d => ?_) (fun d k => ?_) (fun d k => ?_) (fun k e => ?_) (fun k e => ?_)
    · show (y 2 : ℕ) = 2 * 128 + (x2 : ℕ)
      omega
    · exact (load_at _ _ _ (ix3 0 ⟨512 + x1, by omega⟩ ⟨512 + d, by omega⟩) (by blk_ext)).trans
        (block_queries m c t _ rfl _ _ _ (by show t.val % 2 * 1024 + (y 1 : ℕ) = t.val % 2 * 1024 + (512 + (x1 : ℕ)); omega))
    · exact (load_at _ _ _ (ix3 0 ⟨512 + d, by omega⟩ k) (by blk_ext)).trans (block_keys_context m c t _ rfl _ _)
    · exact (load_at _ _ _ (ix3 0 ⟨512 + d, by omega⟩ k) (by blk_ext)).trans (block_keys_stream m c t _ rfl _ _)
    · exact (load_at _ _ _ (ix3 0 k ⟨512 + e, by omega⟩) (by blk_ext)).trans (block_values_context m c t _ rfl _ _)
    · exact (load_at _ _ _ (ix3 0 k ⟨512 + e, by omega⟩) (by blk_ext)).trans (block_values_stream m c t _ rfl _ _)
  case piece3 =>
    idx_vars x
    obtain rfl : x0 = 0 := Subsingleton.elim _ _
    refine piece_upper m c hq hc hx ⟨t.val / 2, by omega⟩ 2 (View.ld (iblk m c 0 t) r0_14)
      (View.ld (iblk m c 1 t) r0_15) (View.ld (iblk m c 3 t) r0_16) (View.ld (iblk m c 2 t) r0_17) (View.ld (iblk m c 4 t) r0_18)
      x1 x2 _ _ ?_ (fun d => ?_) (fun d k => ?_) (fun d k => ?_) (fun k e => ?_) (fun k e => ?_)
    · show (y 2 : ℕ) = 2 * 128 + (x2 : ℕ)
      omega
    · exact (load_at _ _ _ (ix3 0 ⟨0 + x1, by omega⟩ ⟨512 + d, by omega⟩) (by blk_ext)).trans
        (block_queries m c t _ rfl _ _ _ (by show t.val % 2 * 1024 + (y 1 : ℕ) = t.val % 2 * 1024 + (0 + (x1 : ℕ)); omega))
    · exact (load_at _ _ _ (ix3 0 ⟨512 + d, by omega⟩ k) (by blk_ext)).trans (block_keys_context m c t _ rfl _ _)
    · exact (load_at _ _ _ (ix3 0 ⟨512 + d, by omega⟩ k) (by blk_ext)).trans (block_keys_stream m c t _ rfl _ _)
    · exact (load_at _ _ _ (ix3 0 k ⟨512 + e, by omega⟩) (by blk_ext)).trans (block_values_context m c t _ rfl _ _)
    · exact (load_at _ _ _ (ix3 0 k ⟨512 + e, by omega⟩) (by blk_ext)).trans (block_values_stream m c t _ rfl _ _)
  case piece4 =>
    idx_vars x
    obtain rfl : x0 = 0 := Subsingleton.elim _ _
    refine piece_lower m c hq hc hx ⟨t.val / 2, by omega⟩ 1 (View.ld (iblk m c 0 t) r0_7)
      (View.ld (iblk m c 1 t) r0_8) (View.ld (iblk m c 3 t) r0_9) (View.ld (iblk m c 2 t) r0_10) (View.ld (iblk m c 4 t) r0_11)
      x1 x2 _ _ ?_ (fun d => ?_) (fun d k => ?_) (fun d k => ?_) (fun k e => ?_) (fun k e => ?_)
    · show (y 2 : ℕ) = 1 * 128 + (x2 : ℕ)
      omega
    · exact (load_at _ _ _ (ix3 0 ⟨512 + x1, by omega⟩ ⟨256 + d, by omega⟩) (by blk_ext)).trans
        (block_queries m c t _ rfl _ _ _ (by show t.val % 2 * 1024 + (y 1 : ℕ) = t.val % 2 * 1024 + (512 + (x1 : ℕ)); omega))
    · exact (load_at _ _ _ (ix3 0 ⟨256 + d, by omega⟩ k) (by blk_ext)).trans (block_keys_context m c t _ rfl _ _)
    · exact (load_at _ _ _ (ix3 0 ⟨256 + d, by omega⟩ k) (by blk_ext)).trans (block_keys_stream m c t _ rfl _ _)
    · exact (load_at _ _ _ (ix3 0 k ⟨256 + e, by omega⟩) (by blk_ext)).trans (block_values_context m c t _ rfl _ _)
    · exact (load_at _ _ _ (ix3 0 k ⟨256 + e, by omega⟩) (by blk_ext)).trans (block_values_stream m c t _ rfl _ _)
  case piece5 =>
    idx_vars x
    obtain rfl : x0 = 0 := Subsingleton.elim _ _
    refine piece_upper m c hq hc hx ⟨t.val / 2, by omega⟩ 1 (View.ld (iblk m c 0 t) r0_7)
      (View.ld (iblk m c 1 t) r0_8) (View.ld (iblk m c 3 t) r0_9) (View.ld (iblk m c 2 t) r0_10) (View.ld (iblk m c 4 t) r0_11)
      x1 x2 _ _ ?_ (fun d => ?_) (fun d k => ?_) (fun d k => ?_) (fun k e => ?_) (fun k e => ?_)
    · show (y 2 : ℕ) = 1 * 128 + (x2 : ℕ)
      omega
    · exact (load_at _ _ _ (ix3 0 ⟨0 + x1, by omega⟩ ⟨256 + d, by omega⟩) (by blk_ext)).trans
        (block_queries m c t _ rfl _ _ _ (by show t.val % 2 * 1024 + (y 1 : ℕ) = t.val % 2 * 1024 + (0 + (x1 : ℕ)); omega))
    · exact (load_at _ _ _ (ix3 0 ⟨256 + d, by omega⟩ k) (by blk_ext)).trans (block_keys_context m c t _ rfl _ _)
    · exact (load_at _ _ _ (ix3 0 ⟨256 + d, by omega⟩ k) (by blk_ext)).trans (block_keys_stream m c t _ rfl _ _)
    · exact (load_at _ _ _ (ix3 0 k ⟨256 + e, by omega⟩) (by blk_ext)).trans (block_values_context m c t _ rfl _ _)
    · exact (load_at _ _ _ (ix3 0 k ⟨256 + e, by omega⟩) (by blk_ext)).trans (block_values_stream m c t _ rfl _ _)
  case piece6 =>
    idx_vars x
    obtain rfl : x0 = 0 := Subsingleton.elim _ _
    refine piece_lower m c hq hc hx ⟨t.val / 2, by omega⟩ 0 (View.ld (iblk m c 0 t) r0_0)
      (View.ld (iblk m c 1 t) r0_1) (View.ld (iblk m c 3 t) r0_2) (View.ld (iblk m c 2 t) r0_3) (View.ld (iblk m c 4 t) r0_4)
      x1 x2 _ _ ?_ (fun d => ?_) (fun d k => ?_) (fun d k => ?_) (fun k e => ?_) (fun k e => ?_)
    · show (y 2 : ℕ) = 0 * 128 + (x2 : ℕ)
      omega
    · exact (load_at _ _ _ (ix3 0 ⟨512 + x1, by omega⟩ ⟨0 + d, by omega⟩) (by blk_ext)).trans
        (block_queries m c t _ rfl _ _ _ (by show t.val % 2 * 1024 + (y 1 : ℕ) = t.val % 2 * 1024 + (512 + (x1 : ℕ)); omega))
    · exact (load_at _ _ _ (ix3 0 ⟨0 + d, by omega⟩ k) (by blk_ext)).trans (block_keys_context m c t _ rfl _ _)
    · exact (load_at _ _ _ (ix3 0 ⟨0 + d, by omega⟩ k) (by blk_ext)).trans (block_keys_stream m c t _ rfl _ _)
    · exact (load_at _ _ _ (ix3 0 k ⟨0 + e, by omega⟩) (by blk_ext)).trans (block_values_context m c t _ rfl _ _)
    · exact (load_at _ _ _ (ix3 0 k ⟨0 + e, by omega⟩) (by blk_ext)).trans (block_values_stream m c t _ rfl _ _)
  case piece7 =>
    idx_vars x
    obtain rfl : x0 = 0 := Subsingleton.elim _ _
    refine piece_upper m c hq hc hx ⟨t.val / 2, by omega⟩ 0 (View.ld (iblk m c 0 t) r0_0)
      (View.ld (iblk m c 1 t) r0_1) (View.ld (iblk m c 3 t) r0_2) (View.ld (iblk m c 2 t) r0_3) (View.ld (iblk m c 4 t) r0_4)
      x1 x2 _ _ ?_ (fun d => ?_) (fun d k => ?_) (fun d k => ?_) (fun k e => ?_) (fun k e => ?_)
    · show (y 2 : ℕ) = 0 * 128 + (x2 : ℕ)
      omega
    · exact (load_at _ _ _ (ix3 0 ⟨0 + x1, by omega⟩ ⟨0 + d, by omega⟩) (by blk_ext)).trans
        (block_queries m c t _ rfl _ _ _ (by show t.val % 2 * 1024 + (y 1 : ℕ) = t.val % 2 * 1024 + (0 + (x1 : ℕ)); omega))
    · exact (load_at _ _ _ (ix3 0 ⟨0 + d, by omega⟩ k) (by blk_ext)).trans (block_keys_context m c t _ rfl _ _)
    · exact (load_at _ _ _ (ix3 0 ⟨0 + d, by omega⟩ k) (by blk_ext)).trans (block_keys_stream m c t _ rfl _ _)
    · exact (load_at _ _ _ (ix3 0 k ⟨0 + e, by omega⟩) (by blk_ext)).trans (block_values_context m c t _ rfl _ _)
    · exact (load_at _ _ _ (ix3 0 k ⟨0 + e, by omega⟩) (by blk_ext)).trans (block_values_stream m c t _ rfl _ _)

theorem final (c : Dev nD) (hq : ∀ i, Finite (m ((c : Thread nD τ).loc main_arg0) i)) (hc : ∀ i, Finite (m ((c : Thread nD τ).loc main_arg1) i))
    (hx : ∀ i, Finite (m ((c : Thread nD τ).loc main_arg3) i)) : (dats m 0 c).arrAt 5 (cfgs 0).N = result m c := by
  refine (dats m 0 c).arrAt_eq_of_covers 5 _ (by decide +kernel) fun t _ y => ?_
  blk_simp
  rw [after0_5]
  exact point m c hq hc hx t y

end Cert.Proof.MlaKernel

end
-- ==== Proof.MlaClaim.lean ====
/- The latent attention call's equation: under the precondition, the kernel's result is the reference's. -/
module

public import proofs.«01_k».proof.Proof.MlaKernel
public import proofs.«01_k».proof.Proof.Gen.MlaRefIdeal.Run
public import proofs.«01_k».proof.Proof.Gen.MlaIdeal.Value
public import proofs.«01_k».proof.Proof.Gen.Pre_finite_mla
public import proofs.«01_k».proof.Defs
public import Idealize.ShloMosaic.Lib.Claim

@[expose] public section

set_option maxRecDepth 16384

noncomputable section

namespace Cert.Proof.MlaClaim

open Idealize.ShloMosaic Idealize.ShloMosaic.TcCoe Idealize.SL.Sem Cert.Proof.Soft

/-- The precondition makes the queries and the keys finite. -/
theorem finite (m : (ℓ : Loc Cert.MlaIdeal.nD Cert.MlaIdeal.τ Cert.MlaIdeal.sig) → Buf (Elt Ideal) ℓ) (h : Cert.Pre_MlaIdeal_finite_mla m)
    (c : Dev Cert.MlaIdeal.nD) :
    (∀ i, Finite (m ((c : Thread Cert.MlaIdeal.nD Cert.MlaIdeal.τ).loc Cert.MlaIdeal.main_arg0) i))
    ∧ (∀ i, Finite (m ((c : Thread Cert.MlaIdeal.nD Cert.MlaIdeal.τ).loc Cert.MlaIdeal.main_arg1) i))
    ∧ ∀ i, Finite (m ((c : Thread Cert.MlaIdeal.nD Cert.MlaIdeal.τ).loc Cert.MlaIdeal.main_arg3) i) := by
  obtain ⟨h0, h1, h3⟩ := h c
  refine ⟨fun i => ?_, fun i => ?_, fun i => ?_⟩
  · have e := congrFun h0 i
    simp only [Cert.Pre_finite_mla.fn] at e
    pointwise at e
    exact finite_of_mask _ e
  · have e := congrFun h1 i
    simp only [Cert.Pre_finite_mla.fn] at e
    pointwise at e
    exact finite_of_mask _ e
  · have e := congrFun h3 i
    simp only [Cert.Pre_finite_mla.fn] at e
    pointwise at e
    exact finite_of_mask _ e

/-- The reference's term at arguments that agree with the kernel's. -/
theorem equation (m : (ℓ : Loc Cert.MlaIdeal.nD Cert.MlaIdeal.τ Cert.MlaIdeal.sig) → Buf (Elt Ideal) ℓ) (h : Cert.Pre_MlaIdeal_finite_mla m)
    (c : Dev Cert.MlaIdeal.nD)
    (x0 : FVec Ideal Cert.MlaRefIdeal.S32x2048x4x1x192 .f32) (x1 : FVec Ideal Cert.MlaRefIdeal.S32x256x4x192 .f32)
    (x2 : FVec Ideal Cert.MlaRefIdeal.S32x256x4x128 .f32) (x3 : FVec Ideal Cert.MlaRefIdeal.S32x2048x4x192 .f32)
    (x4 : FVec Ideal Cert.MlaRefIdeal.S32x2048x4x128 .f32)
    (e0 : x0 = m ((c : Thread Cert.MlaIdeal.nD Cert.MlaIdeal.τ).loc Cert.MlaIdeal.main_arg0))
    (e1 : x1 = m ((c : Thread Cert.MlaIdeal.nD Cert.MlaIdeal.τ).loc Cert.MlaIdeal.main_arg1))
    (e2 : x2 = m ((c : Thread Cert.MlaIdeal.nD Cert.MlaIdeal.τ).loc Cert.MlaIdeal.main_arg2))
    (e3 : x3 = m ((c : Thread Cert.MlaIdeal.nD Cert.MlaIdeal.τ).loc Cert.MlaIdeal.main_arg3))
    (e4 : x4 = m ((c : Thread Cert.MlaIdeal.nD Cert.MlaIdeal.τ).loc Cert.MlaIdeal.main_arg4)) :
    Cert.MlaRefIdeal.Read.val_main_v21 (F := Ideal) x0 x1 x2 x3 x4
      = (Cert.MlaIdeal.Gen.dats m 0 c).arrAt 5 Cert.MlaIdeal.cfg0.N := by
  obtain ⟨f0, f1, f3⟩ := finite m h c
  rw [e0, e1, e2, e3, e4]
  exact (MlaKernel.final m c f0 f1 f3).symm

theorem algebraic : Cert.algebraic_MlaIdeal_MlaRefIdeal_pre_finite_mla := by
  intro m g m' g' hpre hagree
  refine ⟨fun c => (Cert.MlaIdeal.Gen.dats m 0 c).arrAt 5 Cert.MlaIdeal.cfg0.N, Cert.MlaIdeal.Value.run_blocks m g, ?_⟩
  refine (θ_run _ _ _).mono (fun r h c => ⟨(h c).1.trans ?_, (h c).2⟩) (Cert.MlaRefIdeal.Value.run m' g')
  obtain ⟨a0, a1, a2, a3, a4⟩ := hagree c
  exact (Cert.MlaRefIdeal.Read.val_main_v21_eq _ _ _ _ _).trans (equation m hpre c _ _ _ _ _ a0 a1 a2 a3 a4)

end Cert.Proof.MlaClaim

end
-- ==== Proof.GqaHead.lean ====
/- What one head of the grouped-query kernel computes on one half of its rows: the softmax of the row's scores against the
   two key segments, applied to the values, from a block of queries, of keys and of values with columns of ones. -/
module

public import proofs.«01_k».proof.Proof.Soft
public import proofs.«01_k».proof.Proof.Gen.GqaIdeal.Skeleton
public import Idealize.ShloMosaic.Lib.Pointwise

@[expose] public section

set_option maxRecDepth 16384

noncomputable section

namespace Cert.Proof.GqaHead

open Idealize.ShloMosaic Cert.Proof.Soft
open Cert.GqaIdeal Cert.GqaIdeal.Gen

section
variable (x0 : Vec Ideal S1x1024x128 .bf16) (x1 : Vec Ideal S1x128x256 .bf16) (x3 : Vec Ideal S1x128x2048 .bf16)

theorem scores_context (r : Fin 1024) (k : Fin 256) :
    k0_pay3 x0 x1 (ix2 r k) = ∑ d : Fin 128, x0 (ix3 0 r d) * x1 (ix3 0 d k) := by
  pointwise [k0_pay3, k0_pay2]

theorem scores_stream (r : Fin 1024) (k : Fin 2048) :
    k0_pay4 x0 x3 (ix2 r k) = ∑ d : Fin 128, x0 (ix3 0 r d) * x3 (ix3 0 d k) := by
  pointwise [k0_pay4, k0_pay2]

/-- The row's largest score is finite. -/
theorem largest (r : Fin 1024) (h1 : ∀ k, Finite (k0_pay3 x0 x1 (ix2 r k))) (h3 : ∀ k, Finite (k0_pay4 x0 x3 (ix2 r k))) :
    Finite (k0_pay5 x0 x1 x3 (ix2 r 0)) := by
  unfold k0_pay5
  generalize k0_pay3 x0 x1 = a at h1 ⊢
  generalize k0_pay4 x0 x3 = b at h3 ⊢
  dsimp only
  rw [show ∀ (v : FVec Ideal S1024 .f32), shapeCast S1024x1 v shapeCasts_S1024_S1024x1 (ix2 r 0) = v (ix1 r) from fun v => by pointwise]
  refine finite_row_max _ _ _ _ _ (by decide) fun k => ?_
  obtain ⟨k, rfl⟩ : ∃ j : Fin 128, j = k := ⟨k, rfl⟩
  rw [show (reduces_S1024x128_S1024.lift (ix1 r) k : S1024x128.Idx) = ix2 r k from by ext a; fin_cases a <;> rfl]
  pointwise
  repeat' first | exact h1 _ | exact h3 _ | apply Finite.max

variable (s : FVec Ideal S1024x256 .f32) (u : FVec Ideal S1024x2048 .f32) (w : FVec Ideal S1024x1 .f32)
  (x2 : Vec Ideal S1x256x256 .bf16) (x4 : Vec Ideal S1x2048x256 .bf16)

theorem upper (z : FVec Ideal S1024x256 .f32) (r : Fin 512) (e : Fin 128) (hz : ∀ k, z (ix2 ⟨r, by omega⟩ k) = w (ix2 ⟨r, by omega⟩ 0)) :
    k0_pay9 s u w z x2 x4 (ix3 0 r e)
      = Ideal.div ((∑ k : Fin 256, Ideal.exp2 (s (ix2 ⟨r, by omega⟩ k) - w (ix2 ⟨r, by omega⟩ 0)) * x2 (ix3 0 k ⟨e, by omega⟩))
          + ∑ k : Fin 2048, Ideal.exp2 (u (ix2 ⟨r, by omega⟩ k) - w (ix2 ⟨r, by omega⟩ 0)) * x4 (ix3 0 k ⟨e, by omega⟩))
        ((∑ k : Fin 256, Ideal.exp2 (s (ix2 ⟨r, by omega⟩ k) - w (ix2 ⟨r, by omega⟩ 0)) * x2 (ix3 0 k ⟨128 + e, by omega⟩))
          + ∑ k : Fin 2048, Ideal.exp2 (u (ix2 ⟨r, by omega⟩ k) - w (ix2 ⟨r, by omega⟩ 0)) * x4 (ix3 0 k ⟨128 + e, by omega⟩)) := by
  pointwise [k0_pay9, k0_pay8, k0_pay7]
  simp only [hz]
  rfl

theorem lower (z : FVec Ideal S1024x256 .f32) (r : Fin 512) (e : Fin 128) (hz : ∀ k, z (ix2 ⟨512 + r, by omega⟩ k) = w (ix2 ⟨512 + r, by omega⟩ 0)) :
    k0_pay10 s u w z x2 x4 (ix2 r e)
      = Ideal.div ((∑ k : Fin 256, Ideal.exp2 (s (ix2 ⟨512 + r, by omega⟩ k) - w (ix2 ⟨512 + r, by omega⟩ 0)) * x2 (ix3 0 k ⟨e, by omega⟩))
          + ∑ k : Fin 2048, Ideal.exp2 (u (ix2 ⟨512 + r, by omega⟩ k) - w (ix2 ⟨512 + r, by omega⟩ 0)) * x4 (ix3 0 k ⟨e, by omega⟩))
        ((∑ k : Fin 256, Ideal.exp2 (s (ix2 ⟨512 + r, by omega⟩ k) - w (ix2 ⟨512 + r, by omega⟩ 0)) * x2 (ix3 0 k ⟨128 + e, by omega⟩))
          + ∑ k : Fin 2048, Ideal.exp2 (u (ix2 ⟨512 + r, by omega⟩ k) - w (ix2 ⟨512 + r, by omega⟩ 0)) * x4 (ix3 0 k ⟨128 + e, by omega⟩)) := by
  pointwise [k0_pay10, k0_pay8, k0_pay7]
  simp only [hz]
  rfl

end

section
variable (x0 : Vec Ideal S1x1024x128 .bf16) (x1 : Vec Ideal S1x128x256 .bf16) (x3 : Vec Ideal S1x128x2048 .bf16)

/-- The scores' two lists and the largest one, from what the blocks hold in a row and a head. -/
theorem kernel_row (s : FVec Ideal S1024x256 .f32) (u : FVec Ideal S1024x2048 .f32) (w : FVec Ideal S1024x1 .f32)
    (hs : s = k0_pay3 x0 x1) (hu : u = k0_pay4 x0 x3) (hw : w = k0_pay5 x0 x1 x3)
    (Q : Fin 128 → EReal) (A : Fin 256 → Fin 128 → EReal) (B : Fin 2048 → Fin 128 → EReal)
    (hQ : ∀ d, Finite (Q d)) (hA : ∀ k d, Finite (A k d)) (hB : ∀ k d, Finite (B k d)) (r : Fin 1024)
    (h0 : ∀ d, x0 (ix3 0 r d) = Ideal.div (Q d) (((Real.sqrt 128 : ℝ) : EReal) * ((Real.log 2 : ℝ) : EReal)))
    (h1 : ∀ d k, x1 (ix3 0 d k) = A k d) (h3 : ∀ d k, x3 (ix3 0 d k) = B k d) :
    (∀ k, s (ix2 r k) = ((scoreOf Q (A k) (Real.sqrt 128) / Real.log 2 : ℝ) : EReal))
      ∧ (∀ k, u (ix2 r k) = ((scoreOf Q (B k) (Real.sqrt 128) / Real.log 2 : ℝ) : EReal)) ∧ Finite (w (ix2 r 0)) := by
  have hc : (0 : ℝ) < Real.sqrt 128 := Real.sqrt_pos.2 (by norm_num)
  have hl : (0 : ℝ) < Real.log 2 := Real.log_pos (by norm_num)
  have e1 : ∀ k, s (ix2 r k) = ((scoreOf Q (A k) (Real.sqrt 128) / Real.log 2 : ℝ) : EReal) := fun k => by
    rw [hs, scores_context]
    simp only [h0, h1]
    exact score_kernel _ _ _ _ hc hl hQ (hA k)
  have e2 : ∀ k, u (ix2 r k) = ((scoreOf Q (B k) (Real.sqrt 128) / Real.log 2 : ℝ) : EReal) := fun k => by
    rw [hu, scores_stream]
    simp only [h0, h3]
    exact score_kernel _ _ _ _ hc hl hQ (hB k)
  refine ⟨e1, e2, ?_⟩
  rw [hw]
  exact largest x0 x1 x3 r (fun k => ⟨_, hs ▸ e1 k⟩) fun k => ⟨_, hu ▸ e2 k⟩

/-- The row's largest score, repeated along the row. -/
theorem repeated (r : Fin 1024) (k : Fin 256) : k0_pay6 x0 x1 x3 (ix2 r k) = k0_pay5 x0 x1 x3 (ix2 r 0) := by
  unfold k0_pay6
  generalize k0_pay5 x0 x1 x3 = w
  pointwise

variable (x2 : Vec Ideal S1x256x256 .bf16) (x4 : Vec Ideal S1x2048x256 .bf16)

theorem head_upper (Q : Fin 128 → EReal) (A : Fin 256 → Fin 128 → EReal) (B : Fin 2048 → Fin 128 → EReal)
    (v1 : Fin 256 → EReal) (v2 : Fin 2048 → EReal)
    (hQ : ∀ d, Finite (Q d)) (hA : ∀ k d, Finite (A k d)) (hB : ∀ k d, Finite (B k d)) (r : Fin 512) (e : Fin 128)
    (h0 : ∀ d, x0 (ix3 0 ⟨r, by omega⟩ d) = Ideal.div (Q d) (((Real.sqrt 128 : ℝ) : EReal) * ((Real.log 2 : ℝ) : EReal)))
    (h1 : ∀ d k, x1 (ix3 0 d k) = A k d) (h3 : ∀ d k, x3 (ix3 0 d k) = B k d)
    (h2 : ∀ k, x2 (ix3 0 k ⟨e, by omega⟩) = v1 k) (o2 : ∀ k, x2 (ix3 0 k ⟨128 + e, by omega⟩) = 1)
    (h4 : ∀ k, x4 (ix3 0 k ⟨e, by omega⟩) = v2 k) (o4 : ∀ k, x4 (ix3 0 k ⟨128 + e, by omega⟩) = 1) :
    k0_pay9 (k0_pay3 x0 x1) (k0_pay4 x0 x3) (k0_pay5 x0 x1 x3) (k0_pay6 x0 x1 x3) x2 x4 (ix3 0 r e)
      = soft (Sum.elim (fun k => scoreOf Q (A k) (Real.sqrt 128)) fun k => scoreOf Q (B k) (Real.sqrt 128)) (Sum.elim v1 v2) := by
  obtain ⟨e1, e2, e3⟩ := kernel_row x0 x1 x3 _ _ _ rfl rfl rfl Q A B hQ hA hB ⟨r, by omega⟩ h0 h1 h3
  rw [upper _ _ (k0_pay5 x0 x1 x3) _ _ _ r e (fun k => repeated x0 x1 x3 _ k)]
  simp only [h2, h4]
  exact kernel_soft (by norm_num) _ _ _ _ _ e1 e2 e3 _ _ _ _ o2 o4

theorem head_lower (Q : Fin 128 → EReal) (A : Fin 256 → Fin 128 → EReal) (B : Fin 2048 → Fin 128 → EReal)
    (v1 : Fin 256 → EReal) (v2 : Fin 2048 → EReal)
    (hQ : ∀ d, Finite (Q d)) (hA : ∀ k d, Finite (A k d)) (hB : ∀ k d, Finite (B k d)) (r : Fin 512) (e : Fin 128)
    (h0 : ∀ d, x0 (ix3 0 ⟨512 + r, by omega⟩ d) = Ideal.div (Q d) (((Real.sqrt 128 : ℝ) : EReal) * ((Real.log 2 : ℝ) : EReal)))
    (h1 : ∀ d k, x1 (ix3 0 d k) = A k d) (h3 : ∀ d k, x3 (ix3 0 d k) = B k d)
    (h2 : ∀ k, x2 (ix3 0 k ⟨e, by omega⟩) = v1 k) (o2 : ∀ k, x2 (ix3 0 k ⟨128 + e, by omega⟩) = 1)
    (h4 : ∀ k, x4 (ix3 0 k ⟨e, by omega⟩) = v2 k) (o4 : ∀ k, x4 (ix3 0 k ⟨128 + e, by omega⟩) = 1) :
    k0_pay10 (k0_pay3 x0 x1) (k0_pay4 x0 x3) (k0_pay5 x0 x1 x3) (k0_pay6 x0 x1 x3) x2 x4 (ix2 r e)
      = soft (Sum.elim (fun k => scoreOf Q (A k) (Real.sqrt 128)) fun k => scoreOf Q (B k) (Real.sqrt 128)) (Sum.elim v1 v2) := by
  obtain ⟨e1, e2, e3⟩ := kernel_row x0 x1 x3 _ _ _ rfl rfl rfl Q A B hQ hA hB ⟨512 + r, by omega⟩ h0 h1 h3
  rw [lower _ _ (k0_pay5 x0 x1 x3) _ _ _ r e (fun k => repeated x0 x1 x3 _ k)]
  simp only [h2, h4]
  exact kernel_soft (by norm_num) _ _ _ _ _ e1 e2 e3 _ _ _ _ o2 o4

end

end Cert.Proof.GqaHead

end
-- ==== Proof.GqaOperands.lean ====
/- What the grouped-query call's prepared operands hold, entry by entry: scaled queries, transposed keys, values with
   columns of ones. -/
module

public import proofs.«01_k».proof.Proof.Soft
public import proofs.«01_k».proof.Proof.Gen.GqaIdeal.Frame
public import Idealize.ShloMosaic.Lib.Pipeline.ValueKit

@[expose] public section

set_option maxRecDepth 16384

noncomputable section

namespace Cert.Proof.GqaOperands

open Idealize.ShloMosaic Idealize.ShloMosaic.TcCoe Idealize.SL.Sem Cert.Proof.Soft
open Cert.GqaIdeal Cert.GqaIdeal.Gen

variable (m : (ℓ : Loc nD τ sig) → Buf (Elt Ideal) ℓ) (c : Dev nD)

theorem queries (b : Fin 32) (t : Fin 2048) (h g : Fin 2) (d : Fin 128) (j : Fin 512) (hj : (j : ℕ) = (h * 2 + g) * 128 + d) :
    V m c main_v6 (ix3 b t j) = Ideal.div (m ((c : Thread nD τ).loc main_arg0) (ix5 b t h g d))
      (((Real.sqrt 128 : ℝ) : EReal) * ((Real.log 2 : ℝ) : EReal)) := by
  entry_read
  pointwise
  have e1 : (⟨(j : ℕ) / 256, by omega⟩ : Fin 2) = h := Fin.ext (by show (j : ℕ) / 256 = h; omega)
  have e2 : (⟨(j : ℕ) / 128 % 2, by omega⟩ : Fin 2) = g := Fin.ext (by show (j : ℕ) / 128 % 2 = g; omega)
  have e3 : (⟨(j : ℕ) % 128, by omega⟩ : Fin 128) = d := Fin.ext (by show (j : ℕ) % 128 = d; omega)
  rw [e1, e2, e3, sqrt_128, log_2]

theorem keys_context (b : Fin 32) (h : Fin 2) (d : Fin 128) (k : Fin 256) (j : Fin 256) (hj : (j : ℕ) = h * 128 + d) :
    V m c main_v9 (ix3 b j k) = m ((c : Thread nD τ).loc main_arg1) (ix4 b k h d) := by
  entry_read
  pointwise
  have e1 : (⟨(j : ℕ) / 128, by omega⟩ : Fin 2) = h := Fin.ext (by show (j : ℕ) / 128 = h; omega)
  have e2 : (⟨(j : ℕ) % 128, by omega⟩ : Fin 128) = d := Fin.ext (by show (j : ℕ) % 128 = d; omega)
  rw [e1, e2]

theorem values_context (b : Fin 32) (k : Fin 256) (h : Fin 2) (e : Fin 128) (j : Fin 512) (hj : (j : ℕ) = h * 256 + e) :
    V m c main_v13 (ix3 b k j) = m ((c : Thread nD τ).loc main_arg2) (ix4 b k h e) := by
  entry_read
  pointwise
  have e0 : (j : ℕ) % 256 = e := by omega
  have e1 : (⟨(j : ℕ) / 256, by omega⟩ : Fin 2) = h := Fin.ext (by show (j : ℕ) / 256 = h; omega)
  rw [dif_pos (by omega), e1]
  simp only [e0]

theorem ones_context (b : Fin 32) (k : Fin 256) (h : Fin 2) (e : Fin 128) (j : Fin 512) (hj : (j : ℕ) = h * 256 + (128 + e)) :
    V m c main_v13 (ix3 b k j) = (1 : EReal) := by
  entry_read
  pointwise
  rw [dif_neg (by omega)]

theorem keys_stream (b : Fin 32) (h : Fin 2) (d : Fin 128) (k : Fin 2048) (j : Fin 256) (hj : (j : ℕ) = h * 128 + d) :
    V m c main_v16 (ix3 b j k) = m ((c : Thread nD τ).loc main_arg3) (ix4 b k h d) := by
  entry_read
  pointwise
  have e1 : (⟨(j : ℕ) / 128, by omega⟩ : Fin 2) = h := Fin.ext (by show (j : ℕ) / 128 = h; omega)
  have e2 : (⟨(j : ℕ) % 128, by omega⟩ : Fin 128) = d := Fin.ext (by show (j : ℕ) % 128 = d; omega)
  rw [e1, e2]

theorem values_stream (b : Fin 32) (k : Fin 2048) (h : Fin 2) (e : Fin 128) (j : Fin 512) (hj : (j : ℕ) = h * 256 + e) :
    V m c main_v20 (ix3 b k j) = m ((c : Thread nD τ).loc main_arg4) (ix4 b k h e) := by
  entry_read
  pointwise
  have e0 : (j : ℕ) % 256 = e := by omega
  have e1 : (⟨(j : ℕ) / 256, by omega⟩ : Fin 2) = h := Fin.ext (by show (j : ℕ) / 256 = h; omega)
  rw [dif_pos (by omega), e1]
  simp only [e0]

theorem ones_stream (b : Fin 32) (k : Fin 2048) (h : Fin 2) (e : Fin 128) (j : Fin 512) (hj : (j : ℕ) = h * 256 + (128 + e)) :
    V m c main_v20 (ix3 b k j) = (1 : EReal) := by
  entry_read
  pointwise
  rw [dif_neg (by omega)]

end Cert.Proof.GqaOperands

end
-- ==== Proof.GqaReference.lean ====
/- What the reference of the grouped-query call computes: at a query and an output column, the softmax of that query's
   scores against the keys of its group, applied to that column of the values. -/
module

public import proofs.«01_k».proof.Proof.Soft
public import proofs.«01_k».proof.Proof.Gen.GqaRefIdeal.Read
public import Idealize.ShloMosaic.Lib.Pointwise

@[expose] public section

set_option maxRecDepth 16384

noncomputable section

namespace Cert.Proof.GqaReference

open Idealize.ShloMosaic Cert.Proof.Soft
open Cert.GqaRefIdeal Cert.GqaRefIdeal.Gen Cert.GqaRefIdeal.Read

variable (q : FVec Ideal S32x2048x2x2x128 .f32) (kc vc : FVec Ideal S32x256x2x128 .f32)
  (kx vx : FVec Ideal S32x2048x2x128 .f32)

/-- The keys of both segments, one list. -/
def key (kc : FVec Ideal S32x256x2x128 .f32) (kx : FVec Ideal S32x2048x2x128 .f32) (b : Fin 32) (h : Fin 2) (k : Fin 2304)
    (d : Fin 128) : EReal :=
  if hk : (k : ℕ) < 256 then kc (ix4 b ⟨k, hk⟩ h d) else kx (ix4 b ⟨(k : ℕ) - 256, by omega⟩ h d)

theorem score (b : Fin 32) (h g : Fin 2) (t : Fin 2048) (k : Fin 2304) :
    val_main_v6 (F := Ideal) q kc kx (ix5 b h g t k)
      = Ideal.div (∑ d : Fin 128, key kc kx b h k d * q (ix5 b t h g d)) ((Real.sqrt 128 : ℝ) : EReal) := by
  pointwise [val_main_v6, val_main_v5, val_main_v4, val_main_cst, val_main_v3, val_main_v2, val_main_v0, key]
  rw [sqrt_128]

theorem score_real (hq : ∀ i, Finite (q i)) (hc : ∀ i, Finite (kc i)) (hx : ∀ i, Finite (kx i)) (b : Fin 32) (h g : Fin 2)
    (t : Fin 2048) (k : Fin 2304) :
    val_main_v6 (F := Ideal) q kc kx (ix5 b h g t k)
      = (scoreOf (fun d => q (ix5 b t h g d)) (key kc kx b h k) (Real.sqrt 128) : EReal) := by
  rw [score]
  refine score_reference (fun d => q (ix5 b t h g d)) (key kc kx b h k) _ (Real.sqrt_pos.2 (by norm_num)) (fun d => hq _) fun d => ?_
  unfold key
  split
  · exact hc _
  · exact hx _

theorem largest (hq : ∀ i, Finite (q i)) (hc : ∀ i, Finite (kc i)) (hx : ∀ i, Finite (kx i)) (i : S32x2x2x2048.Idx) :
    Finite (val_main_v9 (F := Ideal) q kc kx i) := by
  have hv : ∀ j, Finite (val_main_v6 (F := Ideal) q kc kx j) := fun j => by
    rw [eq_ix5 j]
    exact ⟨_, score_real q kc kx hq hc hx (j 0) (j 1) (j 2) (j 3) (j 4)⟩
  have h7 : Finite (val_main_v7 (F := Ideal) q kc kx i) := by
    unfold val_main_v7
    exact finite_host_max _ _ _ (by decide) _ i (by decide) ofBits_neg_infinity hv
  have h8 : val_main_v8 (F := Ideal) i = ⊥ := ofBits_neg_infinity
  rw [val_main_v9_apply, Ideal.maximumf_def, h8, max_eq_right bot_le]
  exact h7

theorem column (b : Fin 32) (t : Fin 2048) (h g : Fin 2) (e : Fin 128) (c : Fin 512)
    (hc : (c : ℕ) = (h * 2 + g) * 128 + e) :
    val_main_v21 (F := Ideal) q kc vc kx vx (ix3 b t c)
      = ∑ k : Fin 2304, key vc vx b h k e * Ideal.div (Ideal.exp (val_main_v6 (F := Ideal) q kc kx (ix5 b h g t k) - val_main_v9 (F := Ideal) q kc kx (ix4 b h g t)))
        (0 + ∑ l, Ideal.exp (val_main_v6 (F := Ideal) q kc kx (ix5 b h g t l) - val_main_v9 (F := Ideal) q kc kx (ix4 b h g t))) := by
  pointwise [key, val_main_v1, val_main_v21, val_main_v20, val_main_v19, val_main_v18, val_main_v17, val_main_v16, val_main_v15, val_main_v14, val_main_cst_2, val_main_v13, val_main_v12, val_main_v11, val_main_v10]
  have e1 : (⟨(c : ℕ) / 256, by omega⟩ : Fin 2) = h := Fin.ext (by show (c : ℕ) / 256 = h; omega)
  have e2 : (⟨(c : ℕ) / 128 % 2, by omega⟩ : Fin 2) = g := Fin.ext (by show (c : ℕ) / 128 % 2 = g; omega)
  have e3 : (⟨(c : ℕ) % 128, by omega⟩ : Fin 128) = e := Fin.ext (by show (c : ℕ) % 128 = e; omega)
  simp only [e1, e2, e3]

/-- The reference at a query and an output column. -/
theorem value (hq : ∀ i, Finite (q i)) (hc : ∀ i, Finite (kc i)) (hx : ∀ i, Finite (kx i)) (b : Fin 32) (t : Fin 2048)
    (h g : Fin 2) (e : Fin 128) (c : Fin 512) (hcol : (c : ℕ) = (h * 2 + g) * 128 + e) :
    val_main_v21 (F := Ideal) q kc vc kx vx (ix3 b t c)
      = soft (Sum.elim (fun k : Fin 256 => scoreOf (fun d => q (ix5 b t h g d)) (fun d => kc (ix4 b k h d)) (Real.sqrt 128))
            fun k : Fin 2048 => scoreOf (fun d => q (ix5 b t h g d)) (fun d => kx (ix4 b k h d)) (Real.sqrt 128))
          (Sum.elim (fun k : Fin 256 => vc (ix4 b k h e)) fun k : Fin 2048 => vx (ix4 b k h e)) := by
  rw [column q kc vc kx vx b t h g e c hcol,
    reference_soft (by norm_num) _ _ _ (score_real q kc kx hq hc hx b h g t) (largest q kc kx hq hc hx _),
    ← soft_append (n₁ := 256) (n₂ := 2048) rfl]
  have n (k : Fin 2048) : ¬ 256 + (k : ℕ) < 256 := by omega
  congr 1 <;> funext k <;> rcases k with k | k
  · exact congrArg (fun u => scoreOf (fun d => q (ix5 b t h g d)) u (Real.sqrt 128)) (funext fun d => dif_pos k.2)
  · refine congrArg (fun u => scoreOf (fun d => q (ix5 b t h g d)) u (Real.sqrt 128)) (funext fun d => ?_)
    simp [key]
  · exact dif_pos k.2
  · simp [key]

end Cert.Proof.GqaReference

end
-- ==== Proof.GqaBlock.lean ====
/- What the grouped-query kernel's blocks hold: the batch row's part of each prepared operand. -/
module

public import proofs.«01_k».proof.Proof.Gen.GqaIdeal.Frame
public import proofs.«01_k».proof.Proof.Soft
public import Idealize.ShloMosaic.Lib.Pipeline.ValueKit

@[expose] public section

set_option maxRecDepth 16384

noncomputable section

namespace Cert.Proof.GqaBlock

open Idealize.ShloMosaic Idealize.ShloMosaic.TcCoe Idealize.SL.Sem Cert.Proof.Soft
open Cert.GqaIdeal Cert.GqaIdeal.Gen

variable (m : (ℓ : Loc nD τ sig) → Buf (Elt Ideal) ℓ) (c : Dev nD)

theorem idx : ∀ t : Fin cfg0.N, win0_0.index t = ![t.val / 2, t.val % 2, 0] ∧ win0_1.index t = ![t.val / 2, 0, 0]
    ∧ win0_2.index t = ![t.val / 2, 0, 0] ∧ win0_3.index t = ![t.val / 2, 0, 0] ∧ win0_4.index t = ![t.val / 2, 0, 0]
    ∧ win0_5.index t = ![t.val / 2, t.val % 2, 0] :=
  (by decide +kernel : ∀ t : Fin grid0.N, _)

/-- A read of a load is a read of the block the load is taken from. -/
theorem load_at {s : Shape} (x : Vec Ideal s .bf16) (R : Rect s) (i : R.shape.Idx) (j : s.Idx) (h : R.emb i = j) : View.ld x R i = x j := by
  subst h; rfl

theorem place_queries (t : Fin cfg0.N) (b : Fin 32) (hb : (b : ℕ) = t.val / 2) (r : Fin 1024) (j : Fin 512) (i : Fin 2048) (hi : (i : ℕ) = t.val % 2 * 1024 + r) :
    ((cfg0.win 0).blk t).view.emb (ix3 0 r j) = ix3 b i j := by
  funext a
  apply Fin.ext
  match a with
  | ⟨0, _⟩ =>
    blk_simp [idx t]
    exact hb.symm
  | ⟨1, _⟩ => blk_simp [idx t]
              exact hi.symm
  | ⟨2, _⟩ => blk_simp [idx t]

theorem read_queries (t : Fin cfg0.N) (y : S1x1024x512.Idx) (X : S32x2048x512.Idx → EReal) :
    ((cfg0.win 0).blk t).view.read (Elt Ideal) X y = X (((cfg0.win 0).blk t).view.emb y) := rfl

theorem array_queries (t : Fin cfg0.N) (y : S1x1024x512.Idx) :
    iblk m c 0 t y = ((cfg0.win 0).blk t).view.read (Elt Ideal) (V m c main_v6) y := rfl

theorem block_queries (t : Fin cfg0.N) (b : Fin 32) (hb : (b : ℕ) = t.val / 2) (r : Fin 1024) (j : Fin 512) (i : Fin 2048) (hi : (i : ℕ) = t.val % 2 * 1024 + r) :
    iblk m c 0 t (ix3 0 r j) = V m c main_v6 (ix3 b i j) := by
  rw [array_queries, read_queries, place_queries t b hb r j i hi]

theorem place_keys_context (t : Fin cfg0.N) (b : Fin 32) (hb : (b : ℕ) = t.val / 2) (r : Fin 256) (j : Fin 256) :
    ((cfg0.win 1).blk t).view.emb (ix3 0 r j) = ix3 b r j := by
  funext a
  apply Fin.ext
  match a with
  | ⟨0, _⟩ =>
    blk_simp [idx t]
    exact hb.symm
  | ⟨1, _⟩ => blk_simp [idx t]
  | ⟨2, _⟩ => blk_simp [idx t]

theorem read_keys_context (t : Fin cfg0.N) (y : S1x256x256.Idx) (X : S32x256x256.Idx → EReal) :
    ((cfg0.win 1).blk t).view.read (Elt Ideal) X y = X (((cfg0.win 1).blk t).view.emb y) := rfl

theorem array_keys_context (t : Fin cfg0.N) (y : S1x256x256.Idx) :
    iblk m c 1 t y = ((cfg0.win 1).blk t).view.read (Elt Ideal) (V m c main_v9) y := rfl

theorem block_keys_context (t : Fin cfg0.N) (b : Fin 32) (hb : (b : ℕ) = t.val / 2) (r : Fin 256) (j : Fin 256) :
    iblk m c 1 t (ix3 0 r j) = V m c main_v9 (ix3 b r j) := by
  rw [array_keys_context, read_keys_context, place_keys_context t b hb r j]

theorem place_values_context (t : Fin cfg0.N) (b : Fin 32) (hb : (b : ℕ) = t.val / 2) (r : Fin 256) (j : Fin 512) :
    ((cfg0.win 2).blk t).view.emb (ix3 0 r j) = ix3 b r j := by
  funext a
  apply Fin.ext
  match a with
  | ⟨0, _⟩ =>
    blk_simp [idx t]
    exact hb.symm
  | ⟨1, _⟩ => blk_simp [idx t]
  | ⟨2, _⟩ => blk_simp [idx t]

theorem read_values_context (t : Fin cfg0.N) (y : S1x256x512.Idx) (X : S32x256x512.Idx → EReal) :
    ((cfg0.win 2).blk t).view.read (Elt Ideal) X y = X (((cfg0.win 2).blk t).view.emb y) := rfl

theorem array_values_context (t : Fin cfg0.N) (y : S1x256x512.Idx) :
    iblk m c 2 t y = ((cfg0.win 2).blk t).view.read (Elt Ideal) (V m c main_v13) y := rfl

theorem block_values_context (t : Fin cfg0.N) (b : Fin 32) (hb : (b : ℕ) = t.val / 2) (r : Fin 256) (j : Fin 512) :
    iblk m c 2 t (ix3 0 r j) = V m c main_v13 (ix3 b r j) := by
  rw [array_values_context, read_values_context, place_values_context t b hb r j]

theorem place_keys_stream (t : Fin cfg0.N) (b : Fin 32) (hb : (b : ℕ) = t.val / 2) (r : Fin 256) (j : Fin 2048) :
    ((cfg0.win 3).blk t).view.emb (ix3 0 r j) = ix3 b r j := by
  funext a
  apply Fin.ext
  match a with
  | ⟨0, _⟩ =>
    blk_simp [idx t]
    exact hb.symm
  | ⟨1, _⟩ => blk_simp [idx t]
  | ⟨2, _⟩ => blk_simp [idx t]

theorem read_keys_stream (t : Fin cfg0.N) (y : S1x256x2048.Idx) (X : S32x256x2048.Idx → EReal) :
    ((cfg0.win 3).blk t).view.read (Elt Ideal) X y = X (((cfg0.win 3).blk t).view.emb y) := rfl

theorem array_keys_stream (t : Fin cfg0.N) (y : S1x256x2048.Idx) :
    iblk m c 3 t y = ((cfg0.win 3).blk t).view.read (Elt Ideal) (V m c main_v16) y := rfl

theorem block_keys_stream (t : Fin cfg0.N) (b : Fin 32) (hb : (b : ℕ) = t.val / 2) (r : Fin 256) (j : Fin 2048) :
    iblk m c 3 t (ix3 0 r j) = V m c main_v16 (ix3 b r j) := by
  rw [array_keys_stream, read_keys_stream, place_keys_stream t b hb r j]

theorem place_values_stream (t : Fin cfg0.N) (b : Fin 32) (hb : (b : ℕ) = t.val / 2) (r : Fin 2048) (j : Fin 512) :
    ((cfg0.win 4).blk t).view.emb (ix3 0 r j) = ix3 b r j := by
  funext a
  apply Fin.ext
  match a with
  | ⟨0, _⟩ =>
    blk_simp [idx t]
    exact hb.symm
  | ⟨1, _⟩ => blk_simp [idx t]
  | ⟨2, _⟩ => blk_simp [idx t]

theorem read_values_stream (t : Fin cfg0.N) (y : S1x2048x512.Idx) (X : S32x2048x512.Idx → EReal) :
    ((cfg0.win 4).blk t).view.read (Elt Ideal) X y = X (((cfg0.win 4).blk t).view.emb y) := rfl

theorem array_values_stream (t : Fin cfg0.N) (y : S1x2048x512.Idx) :
    iblk m c 4 t y = ((cfg0.win 4).blk t).view.read (Elt Ideal) (V m c main_v20) y := rfl

theorem block_values_stream (t : Fin cfg0.N) (b : Fin 32) (hb : (b : ℕ) = t.val / 2) (r : Fin 2048) (j : Fin 512) :
    iblk m c 4 t (ix3 0 r j) = V m c main_v20 (ix3 b r j) := by
  rw [array_values_stream, read_values_stream, place_values_stream t b hb r j]

end Cert.Proof.GqaBlock

end
-- ==== Proof.GqaKernel.lean ====
/- What the grouped-query kernel's result array holds: every block is the reference's, head by head and half by half. -/
module

public import proofs.«01_k».proof.Proof.GqaHead
public import proofs.«01_k».proof.Proof.GqaOperands
public import proofs.«01_k».proof.Proof.GqaReference
public import proofs.«01_k».proof.Proof.GqaBlock

@[expose] public section

set_option maxRecDepth 16384

noncomputable section

namespace Cert.Proof.GqaKernel

open Idealize.ShloMosaic Idealize.ShloMosaic.TcCoe Idealize.SL.Sem Cert.Proof.Soft
open Cert.GqaIdeal Cert.GqaIdeal.Gen
open Cert.Proof.GqaOperands Cert.Proof.GqaHead Cert.Proof.GqaBlock

variable (m : (ℓ : Loc nD τ sig) → Buf (Elt Ideal) ℓ) (c : Dev nD)

/-- The reference's result, from the call's arguments. -/
abbrev result : FVec Ideal Cert.GqaRefIdeal.S32x2048x512 .bf16 :=
  Cert.GqaRefIdeal.Read.val_main_v21 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

variable (hq : ∀ i, Finite (m ((c : Thread nD τ).loc main_arg0) i)) (hc : ∀ i, Finite (m ((c : Thread nD τ).loc main_arg1) i))
  (hx : ∀ i, Finite (m ((c : Thread nD τ).loc main_arg3) i))

include hq hc hx in
/-- A piece of the upper rows, from the loads it reads. -/
theorem piece_upper (b : Fin 32) (h g : Fin 2) (X0 : Vec Ideal S1x1024x128 .bf16) (X1 : Vec Ideal S1x128x256 .bf16)
    (X3 : Vec Ideal S1x128x2048 .bf16) (X2 : Vec Ideal S1x256x256 .bf16) (X4 : Vec Ideal S1x2048x256 .bf16)
    (r : Fin 512) (e : Fin 128) (i : Fin 2048) (j : Fin 512) (hj : (j : ℕ) = (h * 2 + g) * 128 + e)
    (h0 : ∀ (d : Fin 128), X0 (ix3 0 ⟨r, by omega⟩ d) = V m c main_v6 (ix3 b i ⟨(h * 2 + g) * 128 + d, by omega⟩))
    (h1 : ∀ (d : Fin 128) (k : Fin 256), X1 (ix3 0 d k) = V m c main_v9 (ix3 b ⟨h * 128 + d, by omega⟩ k))
    (h3 : ∀ (d : Fin 128) (k : Fin 2048), X3 (ix3 0 d k) = V m c main_v16 (ix3 b ⟨h * 128 + d, by omega⟩ k))
    (h2 : ∀ (k : Fin 256) (e : Fin 256), X2 (ix3 0 k e) = V m c main_v13 (ix3 b k ⟨h * 256 + e, by omega⟩))
    (h4 : ∀ (k : Fin 2048) (e : Fin 256), X4 (ix3 0 k e) = V m c main_v20 (ix3 b k ⟨h * 256 + e, by omega⟩)) :
    k0_pay9 (k0_pay3 X0 X1) (k0_pay4 X0 X3) (k0_pay5 X0 X1 X3) (k0_pay6 X0 X1 X3) X2 X4 (ix3 0 r e) = result m c (ix3 b i j) := by
  refine Eq.trans ?_ (GqaReference.value _ _ _ _ _ hq hc hx b i h g e j hj).symm
  exact head_upper X0 X1 X3 X2 X4 _ _ _ _ _ (fun d => hq (ix5 b i h g d))
    (fun k d => hc (ix4 b k h d)) (fun k d => hx (ix4 b k h d)) r e
    (fun d => (h0 d).trans (queries m c b i h g d _ rfl))
    (fun d k => (h1 d k).trans (keys_context m c b h d k _ rfl)) (fun d k => (h3 d k).trans (keys_stream m c b h d k _ rfl))
    (fun k => (h2 k ⟨e, by omega⟩).trans (values_context m c b k h e _ rfl)) (fun k => (h2 k ⟨128 + e, by omega⟩).trans (ones_context m c b k h e _ rfl))
    (fun k => (h4 k ⟨e, by omega⟩).trans (values_stream m c b k h e _ rfl)) (fun k => (h4 k ⟨128 + e, by omega⟩).trans (ones_stream m c b k h e _ rfl))

include hq hc hx in
/-- A piece of the lower rows, from the loads it reads. -/
theorem piece_lower (b : Fin 32) (h g : Fin 2) (X0 : Vec Ideal S1x1024x128 .bf16) (X1 : Vec Ideal S1x128x256 .bf16)
    (X3 : Vec Ideal S1x128x2048 .bf16) (X2 : Vec Ideal S1x256x256 .bf16) (X4 : Vec Ideal S1x2048x256 .bf16)
    (r : Fin 512) (e : Fin 128) (i : Fin 2048) (j : Fin 512) (hj : (j : ℕ) = (h * 2 + g) * 128 + e)
    (h0 : ∀ (d : Fin 128), X0 (ix3 0 ⟨512 + r, by omega⟩ d) = V m c main_v6 (ix3 b i ⟨(h * 2 + g) * 128 + d, by omega⟩))
    (h1 : ∀ (d : Fin 128) (k : Fin 256), X1 (ix3 0 d k) = V m c main_v9 (ix3 b ⟨h * 128 + d, by omega⟩ k))
    (h3 : ∀ (d : Fin 128) (k : Fin 2048), X3 (ix3 0 d k) = V m c main_v16 (ix3 b ⟨h * 128 + d, by omega⟩ k))
    (h2 : ∀ (k : Fin 256) (e : Fin 256), X2 (ix3 0 k e) = V m c main_v13 (ix3 b k ⟨h * 256 + e, by omega⟩))
    (h4 : ∀ (k : Fin 2048) (e : Fin 256), X4 (ix3 0 k e) = V m c main_v20 (ix3 b k ⟨h * 256 + e, by omega⟩)) :
    k0_pay11 (k0_pay10 (k0_pay3 X0 X1) (k0_pay4 X0 X3) (k0_pay5 X0 X1 X3) (k0_pay6 X0 X1 X3) X2 X4) (ix3 0 r e) = result m c (ix3 b i j) := by
  refine Eq.trans ?_ (GqaReference.value _ _ _ _ _ hq hc hx b i h g e j hj).symm
  rw [show ∀ v : FVec Ideal S512x128 .bf16, k0_pay11 v (ix3 0 r e) = v (ix2 r e) from fun v => by pointwise [k0_pay11]]
  exact head_lower X0 X1 X3 X2 X4 _ _ _ _ _ (fun d => hq (ix5 b i h g d))
    (fun k d => hc (ix4 b k h d)) (fun k d => hx (ix4 b k h d)) r e
    (fun d => (h0 d).trans (queries m c b i h g d _ rfl))
    (fun d k => (h1 d k).trans (keys_context m c b h d k _ rfl)) (fun d k => (h3 d k).trans (keys_stream m c b h d k _ rfl))
    (fun k => (h2 k ⟨e, by omega⟩).trans (values_context m c b k h e _ rfl)) (fun k => (h2 k ⟨128 + e, by omega⟩).trans (ones_context m c b k h e _ rfl))
    (fun k => (h4 k ⟨e, by omega⟩).trans (values_stream m c b k h e _ rfl)) (fun k => (h4 k ⟨128 + e, by omega⟩).trans (ones_stream m c b k h e _ rfl))

set_option maxHeartbeats 1000000 in
include hq hc hx in
theorem point (t : Fin cfg0.N) (y : S1x1024x512.Idx) :
    out0_5 (iblk m c 0 t) (iblk m c 1 t) (iblk m c 2 t) (iblk m c 3 t) (iblk m c 4 t) y
      = result m c (((cfg0.win 5).blk t).view.emb y) := by
  have ht : t.val < 64 := lt_of_lt_of_eq t.isLt N_0
  have hy : (y 1 : ℕ) < 1024 := (y 1).isLt
  have hz : (y 2 : ℕ) < 512 := (y 2).isLt
  have he : ((cfg0.win 5).blk t).view.emb y
      = ix3 (⟨t.val / 2, by omega⟩ : Fin 32) (⟨t.val % 2 * 1024 + y 1, by omega⟩ : Fin 2048) (⟨y 2, hz⟩ : Fin 512) := by
    blk_ext [idx t]
  rw [he]
  canon_tiles x h
  case piece0 =>
    idx_vars x
    obtain rfl : x0 = 0 := Subsingleton.elim _ _
    refine piece_lower m c hq hc hx ⟨t.val / 2, by omega⟩ 1 1 (View.ld (iblk m c 0 t) r0_17)
      (View.ld (iblk m c 1 t) r0_11) (View.ld (iblk m c 3 t) r0_12) (View.ld (iblk m c 2 t) r0_13) (View.ld (iblk m c 4 t) r0_14)
      x1 x2 _ _ ?_ (fun d => ?_) (fun d k => ?_) (fun d k => ?_) (fun k e => ?_) (fun k e => ?_)
    · show (y 2 : ℕ) = (1 * 2 + 1) * 128 + (x2 : ℕ)
      omega
    · exact (load_at _ _ _ (ix3 0 ⟨512 + x1, by omega⟩ ⟨384 + d, by omega⟩) (by blk_ext)).trans
        (block_queries m c t _ rfl _ _ _ (by show t.val % 2 * 1024 + (y 1 : ℕ) = t.val % 2 * 1024 + (512 + (x1 : ℕ)); omega))
    · exact (load_at _ _ _ (ix3 0 ⟨128 + d, by omega⟩ k) (by blk_ext)).trans (block_keys_context m c t _ rfl _ _)
    · exact (load_at _ _ _ (ix3 0 ⟨128 + d, by omega⟩ k) (by blk_ext)).trans (block_keys_stream m c t _ rfl _ _)
    · exact (load_at _ _ _ (ix3 0 k ⟨256 + e, by omega⟩) (by blk_ext)).trans (block_values_context m c t _ rfl _ _)
    · exact (load_at _ _ _ (ix3 0 k ⟨256 + e, by omega⟩) (by blk_ext)).trans (block_values_stream m c t _ rfl _ _)
  case piece1 =>
    idx_vars x
    obtain rfl : x0 = 0 := Subsingleton.elim _ _
    refine piece_upper m c hq hc hx ⟨t.val / 2, by omega⟩ 1 1 (View.ld (iblk m c 0 t) r0_17)
      (View.ld (iblk m c 1 t) r0_11) (View.ld (iblk m c 3 t) r0_12) (View.ld (iblk m c 2 t) r0_13) (View.ld (iblk m c 4 t) r0_14)
      x1 x2 _ _ ?_ (fun d => ?_) (fun d k => ?_) (fun d k => ?_) (fun k e => ?_) (fun k e => ?_)
    · show (y 2 : ℕ) = (1 * 2 + 1) * 128 + (x2 : ℕ)
      omega
    · exact (load_at _ _ _ (ix3 0 ⟨0 + x1, by omega⟩ ⟨384 + d, by omega⟩) (by blk_ext)).trans
        (block_queries m c t _ rfl _ _ _ (by show t.val % 2 * 1024 + (y 1 : ℕ) = t.val % 2 * 1024 + (0 + (x1 : ℕ)); omega))
    · exact (load_at _ _ _ (ix3 0 ⟨128 + d, by omega⟩ k) (by blk_ext)).trans (block_keys_context m c t _ rfl _ _)
    · exact (load_at _ _ _ (ix3 0 ⟨128 + d, by omega⟩ k) (by blk_ext)).trans (block_keys_stream m c t _ rfl _ _)
    · exact (load_at _ _ _ (ix3 0 k ⟨256 + e, by omega⟩) (by blk_ext)).trans (block_values_context m c t _ rfl _ _)
    · exact (load_at _ _ _ (ix3 0 k ⟨256 + e, by omega⟩) (by blk_ext)).trans (block_values_stream m c t _ rfl _ _)
  case piece2 =>
    idx_vars x
    obtain rfl : x0 = 0 := Subsingleton.elim _ _
    refine piece_lower m c hq hc hx ⟨t.val / 2, by omega⟩ 1 0 (View.ld (iblk m c 0 t) r0_10)
      (View.ld (iblk m c 1 t) r0_11) (View.ld (iblk m c 3 t) r0_12) (View.ld (iblk m c 2 t) r0_13) (View.ld (iblk m c 4 t) r0_14)
      x1 x2 _ _ ?_ (fun d => ?_) (fun d k => ?_) (fun d k => ?_) (fun k e => ?_) (fun k e => ?_)
    · show (y 2 : ℕ) = (1 * 2 + 0) * 128 + (x2 : ℕ)
      omega
    · exact (load_at _ _ _ (ix3 0 ⟨512 + x1, by omega⟩ ⟨256 + d, by omega⟩) (by blk_ext)).trans
        (block_queries m c t _ rfl _ _ _ (by show t.val % 2 * 1024 + (y 1 : ℕ) = t.val % 2 * 1024 + (512 + (x1 : ℕ)); omega))
    · exact (load_at _ _ _ (ix3 0 ⟨128 + d, by omega⟩ k) (by blk_ext)).trans (block_keys_context m c t _ rfl _ _)
    · exact (load_at _ _ _ (ix3 0 ⟨128 + d, by omega⟩ k) (by blk_ext)).trans (block_keys_stream m c t _ rfl _ _)
    · exact (load_at _ _ _ (ix3 0 k ⟨256 + e, by omega⟩) (by blk_ext)).trans (block_values_context m c t _ rfl _ _)
    · exact (load_at _ _ _ (ix3 0 k ⟨256 + e, by omega⟩) (by blk_ext)).trans (block_values_stream m c t _ rfl _ _)
  case piece3 =>
    idx_vars x
    obtain rfl : x0 = 0 := Subsingleton.elim _ _
    refine piece_upper m c hq hc hx ⟨t.val / 2, by omega⟩ 1 0 (View.ld (iblk m c 0 t) r0_10)
      (View.ld (iblk m c 1 t) r0_11) (View.ld (iblk m c 3 t) r0_12) (View.ld (iblk m c 2 t) r0_13) (View.ld (iblk m c 4 t) r0_14)
      x1 x2 _ _ ?_ (fun d => ?_) (fun d k => ?_) (fun d k => ?_) (fun k e => ?_) (fun k e => ?_)
    · show (y 2 : ℕ) = (1 * 2 + 0) * 128 + (x2 : ℕ)
      omega
    · exact (load_at _ _ _ (ix3 0 ⟨0 + x1, by omega⟩ ⟨256 + d, by omega⟩) (by blk_ext)).trans
        (block_queries m c t _ rfl _ _ _ (by show t.val % 2 * 1024 + (y 1 : ℕ) = t.val % 2 * 1024 + (0 + (x1 : ℕ)); omega))
    · exact (load_at _ _ _ (ix3 0 ⟨128 + d, by omega⟩ k) (by blk_ext)).trans (block_keys_context m c t _ rfl _ _)
    · exact (load_at _ _ _ (ix3 0 ⟨128 + d, by omega⟩ k) (by blk_ext)).trans (block_keys_stream m c t _ rfl _ _)
    · exact (load_at _ _ _ (ix3 0 k ⟨256 + e, by omega⟩) (by blk_ext)).trans (block_values_context m c t _ rfl _ _)
    · exact (load_at _ _ _ (ix3 0 k ⟨256 + e, by omega⟩) (by blk_ext)).trans (block_values_stream m c t _ rfl _ _)
  case piece4 =>
    idx_vars x
    obtain rfl : x0 = 0 := Subsingleton.elim _ _
    refine piece_lower m c hq hc hx ⟨t.val / 2, by omega⟩ 0 1 (View.ld (iblk m c 0 t) r0_7)
      (View.ld (iblk m c 1 t) r0_1) (View.ld (iblk m c 3 t) r0_2) (View.ld (iblk m c 2 t) r0_3) (View.ld (iblk m c 4 t) r0_4)
      x1 x2 _ _ ?_ (fun d => ?_) (fun d k => ?_) (fun d k => ?_) (fun k e => ?_) (fun k e => ?_)
    · show (y 2 : ℕ) = (0 * 2 + 1) * 128 + (x2 : ℕ)
      omega
    · exact (load_at _ _ _ (ix3 0 ⟨512 + x1, by omega⟩ ⟨128 + d, by omega⟩) (by blk_ext)).trans
        (block_queries m c t _ rfl _ _ _ (by show t.val % 2 * 1024 + (y 1 : ℕ) = t.val % 2 * 1024 + (512 + (x1 : ℕ)); omega))
    · exact (load_at _ _ _ (ix3 0 ⟨0 + d, by omega⟩ k) (by blk_ext)).trans (block_keys_context m c t _ rfl _ _)
    · exact (load_at _ _ _ (ix3 0 ⟨0 + d, by omega⟩ k) (by blk_ext)).trans (block_keys_stream m c t _ rfl _ _)
    · exact (load_at _ _ _ (ix3 0 k ⟨0 + e, by omega⟩) (by blk_ext)).trans (block_values_context m c t _ rfl _ _)
    · exact (load_at _ _ _ (ix3 0 k ⟨0 + e, by omega⟩) (by blk_ext)).trans (block_values_stream m c t _ rfl _ _)
  case piece5 =>
    idx_vars x
    obtain rfl : x0 = 0 := Subsingleton.elim _ _
    refine piece_upper m c hq hc hx ⟨t.val / 2, by omega⟩ 0 1 (View.ld (iblk m c 0 t) r0_7)
      (View.ld (iblk m c 1 t) r0_1) (View.ld (iblk m c 3 t) r0_2) (View.ld (iblk m c 2 t) r0_3) (View.ld (iblk m c 4 t) r0_4)
      x1 x2 _ _ ?_ (fun d => ?_) (fun d k => ?_) (fun d k => ?_) (fun k e => ?_) (fun k e => ?_)
    · show (y 2 : ℕ) = (0 * 2 + 1) * 128 + (x2 : ℕ)
      omega
    · exact (load_at _ _ _ (ix3 0 ⟨0 + x1, by omega⟩ ⟨128 + d, by omega⟩) (by blk_ext)).trans
        (block_queries m c t _ rfl _ _ _ (by show t.val % 2 * 1024 + (y 1 : ℕ) = t.val % 2 * 1024 + (0 + (x1 : ℕ)); omega))
    · exact (load_at _ _ _ (ix3 0 ⟨0 + d, by omega⟩ k) (by blk_ext)).trans (block_keys_context m c t _ rfl _ _)
    · exact (load_at _ _ _ (ix3 0 ⟨0 + d, by omega⟩ k) (by blk_ext)).trans (block_keys_stream m c t _ rfl _ _)
    · exact (load_at _ _ _ (ix3 0 k ⟨0 + e, by omega⟩) (by blk_ext)).trans (block_values_context m c t _ rfl _ _)
    · exact (load_at _ _ _ (ix3 0 k ⟨0 + e, by omega⟩) (by blk_ext)).trans (block_values_stream m c t _ rfl _ _)
  case piece6 =>
    idx_vars x
    obtain rfl : x0 = 0 := Subsingleton.elim _ _
    refine piece_lower m c hq hc hx ⟨t.val / 2, by omega⟩ 0 0 (View.ld (iblk m c 0 t) r0_0)
      (View.ld (iblk m c 1 t) r0_1) (View.ld (iblk m c 3 t) r0_2) (View.ld (iblk m c 2 t) r0_3) (View.ld (iblk m c 4 t) r0_4)
      x1 x2 _ _ ?_ (fun d => ?_) (fun d k => ?_) (fun d k => ?_) (fun k e => ?_) (fun k e => ?_)
    · show (y 2 : ℕ) = (0 * 2 + 0) * 128 + (x2 : ℕ)
      omega
    · exact (load_at _ _ _ (ix3 0 ⟨512 + x1, by omega⟩ ⟨0 + d, by omega⟩) (by blk_ext)).trans
        (block_queries m c t _ rfl _ _ _ (by show t.val % 2 * 1024 + (y 1 : ℕ) = t.val % 2 * 1024 + (512 + (x1 : ℕ)); omega))
    · exact (load_at _ _ _ (ix3 0 ⟨0 + d, by omega⟩ k) (by blk_ext)).trans (block_keys_context m c t _ rfl _ _)
    · exact (load_at _ _ _ (ix3 0 ⟨0 + d, by omega⟩ k) (by blk_ext)).trans (block_keys_stream m c t _ rfl _ _)
    · exact (load_at _ _ _ (ix3 0 k ⟨0 + e, by omega⟩) (by blk_ext)).trans (block_values_context m c t _ rfl _ _)
    · exact (load_at _ _ _ (ix3 0 k ⟨0 + e, by omega⟩) (by blk_ext)).trans (block_values_stream m c t _ rfl _ _)
  case piece7 =>
    idx_vars x
    obtain rfl : x0 = 0 := Subsingleton.elim _ _
    refine piece_upper m c hq hc hx ⟨t.val / 2, by omega⟩ 0 0 (View.ld (iblk m c 0 t) r0_0)
      (View.ld (iblk m c 1 t) r0_1) (View.ld (iblk m c 3 t) r0_2) (View.ld (iblk m c 2 t) r0_3) (View.ld (iblk m c 4 t) r0_4)
      x1 x2 _ _ ?_ (fun d => ?_) (fun d k => ?_) (fun d k => ?_) (fun k e => ?_) (fun k e => ?_)
    · show (y 2 : ℕ) = (0 * 2 + 0) * 128 + (x2 : ℕ)
      omega
    · exact (load_at _ _ _ (ix3 0 ⟨0 + x1, by omega⟩ ⟨0 + d, by omega⟩) (by blk_ext)).trans
        (block_queries m c t _ rfl _ _ _ (by show t.val % 2 * 1024 + (y 1 : ℕ) = t.val % 2 * 1024 + (0 + (x1 : ℕ)); omega))
    · exact (load_at _ _ _ (ix3 0 ⟨0 + d, by omega⟩ k) (by blk_ext)).trans (block_keys_context m c t _ rfl _ _)
    · exact (load_at _ _ _ (ix3 0 ⟨0 + d, by omega⟩ k) (by blk_ext)).trans (block_keys_stream m c t _ rfl _ _)
    · exact (load_at _ _ _ (ix3 0 k ⟨0 + e, by omega⟩) (by blk_ext)).trans (block_values_context m c t _ rfl _ _)
    · exact (load_at _ _ _ (ix3 0 k ⟨0 + e, by omega⟩) (by blk_ext)).trans (block_values_stream m c t _ rfl _ _)

theorem final (c : Dev nD) (hq : ∀ i, Finite (m ((c : Thread nD τ).loc main_arg0) i)) (hc : ∀ i, Finite (m ((c : Thread nD τ).loc main_arg1) i))
    (hx : ∀ i, Finite (m ((c : Thread nD τ).loc main_arg3) i)) : (dats m 0 c).arrAt 5 (cfgs 0).N = result m c := by
  refine (dats m 0 c).arrAt_eq_of_covers 5 _ (by decide +kernel) fun t _ y => ?_
  blk_simp
  rw [after0_5]
  exact point m c hq hc hx t y

end Cert.Proof.GqaKernel

end
-- ==== Proof.GqaClaim.lean ====
/- The grouped-query call's equation: under the precondition, the kernel's result is the reference's. -/
module

public import proofs.«01_k».proof.Proof.GqaKernel
public import proofs.«01_k».proof.Proof.Gen.GqaRefIdeal.Run
public import proofs.«01_k».proof.Proof.Gen.GqaIdeal.Value
public import proofs.«01_k».proof.Proof.Gen.Pre_finite_gqa
public import proofs.«01_k».proof.Defs
public import Idealize.ShloMosaic.Lib.Claim

@[expose] public section

set_option maxRecDepth 16384

noncomputable section

namespace Cert.Proof.GqaClaim

open Idealize.ShloMosaic Idealize.ShloMosaic.TcCoe Idealize.SL.Sem Cert.Proof.Soft

/-- The precondition makes the queries and the keys finite. -/
theorem finite (m : (ℓ : Loc Cert.GqaIdeal.nD Cert.GqaIdeal.τ Cert.GqaIdeal.sig) → Buf (Elt Ideal) ℓ) (h : Cert.Pre_GqaIdeal_finite_gqa m)
    (c : Dev Cert.GqaIdeal.nD) :
    (∀ i, Finite (m ((c : Thread Cert.GqaIdeal.nD Cert.GqaIdeal.τ).loc Cert.GqaIdeal.main_arg0) i))
    ∧ (∀ i, Finite (m ((c : Thread Cert.GqaIdeal.nD Cert.GqaIdeal.τ).loc Cert.GqaIdeal.main_arg1) i))
    ∧ ∀ i, Finite (m ((c : Thread Cert.GqaIdeal.nD Cert.GqaIdeal.τ).loc Cert.GqaIdeal.main_arg3) i) := by
  obtain ⟨h0, h1, h3⟩ := h c
  refine ⟨fun i => ?_, fun i => ?_, fun i => ?_⟩
  · have e := congrFun h0 i
    simp only [Cert.Pre_finite_gqa.fn] at e
    pointwise at e
    exact finite_of_mask _ e
  · have e := congrFun h1 i
    simp only [Cert.Pre_finite_gqa.fn] at e
    pointwise at e
    exact finite_of_mask _ e
  · have e := congrFun h3 i
    simp only [Cert.Pre_finite_gqa.fn] at e
    pointwise at e
    exact finite_of_mask _ e

/-- The reference's term at arguments that agree with the kernel's. -/
theorem equation (m : (ℓ : Loc Cert.GqaIdeal.nD Cert.GqaIdeal.τ Cert.GqaIdeal.sig) → Buf (Elt Ideal) ℓ) (h : Cert.Pre_GqaIdeal_finite_gqa m)
    (c : Dev Cert.GqaIdeal.nD)
    (x0 : FVec Ideal Cert.GqaRefIdeal.S32x2048x2x2x128 .f32) (x1 x2 : FVec Ideal Cert.GqaRefIdeal.S32x256x2x128 .f32)
    (x3 x4 : FVec Ideal Cert.GqaRefIdeal.S32x2048x2x128 .f32)
    (e0 : x0 = m ((c : Thread Cert.GqaIdeal.nD Cert.GqaIdeal.τ).loc Cert.GqaIdeal.main_arg0))
    (e1 : x1 = m ((c : Thread Cert.GqaIdeal.nD Cert.GqaIdeal.τ).loc Cert.GqaIdeal.main_arg1))
    (e2 : x2 = m ((c : Thread Cert.GqaIdeal.nD Cert.GqaIdeal.τ).loc Cert.GqaIdeal.main_arg2))
    (e3 : x3 = m ((c : Thread Cert.GqaIdeal.nD Cert.GqaIdeal.τ).loc Cert.GqaIdeal.main_arg3))
    (e4 : x4 = m ((c : Thread Cert.GqaIdeal.nD Cert.GqaIdeal.τ).loc Cert.GqaIdeal.main_arg4)) :
    Cert.GqaRefIdeal.Read.val_main_v21 (F := Ideal) x0 x1 x2 x3 x4
      = (Cert.GqaIdeal.Gen.dats m 0 c).arrAt 5 Cert.GqaIdeal.cfg0.N := by
  obtain ⟨f0, f1, f3⟩ := finite m h c
  rw [e0, e1, e2, e3, e4]
  exact (GqaKernel.final m c f0 f1 f3).symm

theorem algebraic : Cert.algebraic_GqaIdeal_GqaRefIdeal_pre_finite_gqa := by
  intro m g m' g' hpre hagree
  refine ⟨fun c => (Cert.GqaIdeal.Gen.dats m 0 c).arrAt 5 Cert.GqaIdeal.cfg0.N, Cert.GqaIdeal.Value.run_blocks m g, ?_⟩
  refine (θ_run _ _ _).mono (fun r h c => ⟨(h c).1.trans ?_, (h c).2⟩) (Cert.GqaRefIdeal.Value.run m' g')
  obtain ⟨a0, a1, a2, a3, a4⟩ := hagree c
  exact (Cert.GqaRefIdeal.Read.val_main_v21_eq _ _ _ _ _).trans (equation m hpre c _ _ _ _ _ a0 a1 a2 a3 a4)

end Cert.Proof.GqaClaim

end
-- ==== Proof.Row.lean ====
/- One row of a layer's feed-forward call, in plain sums: the mixers' output added in, the modulated norm, the
   feed-forward branch with squared rectified activations, and the root-mean-square norm. -/
module

public import Idealize.ShloMosaic.Lib.Pointwise

@[expose] public section

set_option maxRecDepth 16384

noncomputable section

namespace Cert.Proof.Row

open Idealize.ShloMosaic

abbrev Line := Fin 1024 → EReal

/-- The row with the mixers' output, projected and gated, added in; each mixer's half of the projection apart. -/
def mixed (x g : Line) (a b : Fin 512 → EReal) (w u : Fin 512 → Line) : Line :=
  fun j => x j + g j * (∑ k, a k * w k j + ∑ k, b k * u k j)

/-- The root-mean-square norm of a row, with its weights. -/
def normed (x g : Line) : Line :=
  fun j => x j * Ideal.rsqrt (Ideal.div (∑ k, x k * x k) (Ideal.ofBits FTy.f32 0x44800000#32) + Ideal.ofBits FTy.f32 0x358637BD#32) * g j

/-- The norm scaled and shifted. -/
def modulated (x g sc sh : Line) : Line :=
  fun j => normed x g j * (1 + sc j) + sh j

/-- A hidden unit: rectified, then squared. -/
def unit (h w : Line) : EReal := max (∑ k, h k * w k) 0 * max (∑ k, h k * w k) 0

/-- The feed-forward branch over all hidden units. -/
def feed (h : Line) (w1 : Fin 4096 → Line) (w2 : Fin 4096 → Line) : Line :=
  fun j => ∑ f, unit h (w1 f) * w2 f j

/-- The row after the feed-forward branch. -/
def updated (x g : Line) (y : Line) : Line := fun j => x j + g j * y j

/-- The feed-forward branch, a quarter of the hidden units at a time. -/
theorem feed_quarters (h : Line) (w1 : Fin 4096 → Line) (w2 : Fin 4096 → Line) (j : Fin 1024) :
    feed h w1 w2 j
      = ∑ f : Fin 1024, unit h (w1 ⟨0 + f, by omega⟩) * w2 ⟨0 + f, by omega⟩ j
        + ∑ f : Fin 1024, unit h (w1 ⟨1024 + f, by omega⟩) * w2 ⟨1024 + f, by omega⟩ j
        + ∑ f : Fin 1024, unit h (w1 ⟨2048 + f, by omega⟩) * w2 ⟨2048 + f, by omega⟩ j
        + ∑ f : Fin 1024, unit h (w1 ⟨3072 + f, by omega⟩) * w2 ⟨3072 + f, by omega⟩ j := by
  unfold feed
  rw [Fin.sum_univ_tiles 4 1024 rfl, Fin.sum_univ_four]
  rfl

theorem mixed_congr {x x' g g' : Line} {a a' b b' : Fin 512 → EReal} {w w' u u' : Fin 512 → Line} (hx : ∀ k, x k = x' k)
    (hg : ∀ k, g k = g' k) (ha : ∀ k, a k = a' k) (hb : ∀ k, b k = b' k) (hw : ∀ k j, w k j = w' k j) (hu : ∀ k j, u k j = u' k j)
    (j : Fin 1024) : mixed x g a b w u j = mixed x' g' a' b' w' u' j := by
  rw [funext hx, funext hg, funext ha, funext hb, funext fun k => funext (hw k), funext fun k => funext (hu k)]

theorem normed_congr {x x' g g' : Line} (hx : ∀ k, x k = x' k) (hg : ∀ k, g k = g' k) (j : Fin 1024) : normed x g j = normed x' g' j := by
  rw [funext hx, funext hg]

theorem modulated_congr {x x' g g' sc sc' sh sh' : Line} (hx : ∀ k, x k = x' k) (hg : ∀ k, g k = g' k) (hc : ∀ k, sc k = sc' k)
    (hs : ∀ k, sh k = sh' k) (j : Fin 1024) : modulated x g sc sh j = modulated x' g' sc' sh' j := by
  rw [funext hx, funext hg, funext hc, funext hs]

theorem updated_congr {x x' g g' y y' : Line} (hx : ∀ k, x k = x' k) (hg : ∀ k, g k = g' k) (hy : ∀ k, y k = y' k) (j : Fin 1024) :
    updated x g y j = updated x' g' y' j := by
  rw [funext hx, funext hg, funext hy]

theorem quarter_congr {h h' : Line} {w w' : Fin 1024 → Line} {u u' : Fin 1024 → EReal} (hh : ∀ k, h k = h' k)
    (hw : ∀ f k, w f k = w' f k) (hu : ∀ f, u f = u' f) : ∑ f, unit h (w f) * u f = ∑ f, unit h' (w' f) * u' f := by
  rw [funext hh, funext fun f => funext (hw f), funext hu]

end Cert.Proof.Row

end
-- ==== Proof.PostReference.lean ====
/- The last layer's feed-forward call's reference, entry by entry: a row of the layer in plain sums. -/
module

public import proofs.«01_k».proof.Proof.Row
public import proofs.«01_k».proof.Proof.Gen.PostRefIdeal.Read

@[expose] public section

set_option maxRecDepth 16384

noncomputable section

namespace Cert.Proof.PostReference

open Idealize.ShloMosaic Cert.Proof.Row
open Cert.PostRefIdeal Cert.PostRefIdeal.Gen Cert.PostRefIdeal.Read

variable (x : FVec Ideal S32x2048x1024 .f32) (ma mb : FVec Ideal S32x2048x512 .bf16) (mod : FVec Ideal S32x6x1024 .f32)
  (w : FVec Ideal S1024x1024 .f32) (n2 : FVec Ideal S4x1024 .f32) (w1 : FVec Ideal S4x1024x4096 .f32)
  (w2 : FVec Ideal S4x4096x1024 .f32) (fg : FVec Ideal S1024 .f32)

/-- The row with the mixers' output added in. -/
abbrev first (b : Fin 32) (t : Fin 2048) : Line :=
  mixed (fun j => x (ix3 b t j)) (fun j => mod (ix3 b 2 j)) (fun k => ma (ix3 b t k)) (fun k => mb (ix3 b t k))
    (fun k j => w (ix2 ⟨k, by omega⟩ j)) (fun k j => w (ix2 ⟨512 + k, by omega⟩ j))

/-- The feed-forward branch's input. -/
abbrev second (b : Fin 32) (t : Fin 2048) : Line :=
  modulated (first x ma mb mod w b t) (fun j => n2 (ix2 3 j)) (fun j => mod (ix3 b 4 j)) (fun j => mod (ix3 b 3 j))

/-- The row after the feed-forward branch. -/
abbrev third (b : Fin 32) (t : Fin 2048) : Line :=
  updated (first x ma mb mod w b t) (fun j => mod (ix3 b 5 j))
    (feed (second x ma mb mod w n2 b t) (fun f k => w1 (ix3 3 k f)) (fun f j => w2 (ix3 3 f j)))

theorem value_first (b : Fin 32) (t : Fin 2048) (j : Fin 1024) :
    val_main_v9 (F := Ideal) x ma mb mod w (ix3 b t j) = first x ma mb mod w b t j := by
  pointwise [val_main_v9, val_main_v8, val_main_v7, val_main_v6, val_main_v5, val_main_v4, val_main_v0]
  rfl

theorem value_second (b : Fin 32) (t : Fin 2048) (j : Fin 1024) :
    val_main_v30 (F := Ideal) x ma mb mod w n2 (ix3 b t j) = second x ma mb mod w n2 b t j := by
  pointwise [val_main_v30, val_main_v29, val_main_v28, val_main_v27, val_main_v26, val_main_v25, val_main_v24, val_main_v23,
    val_main_v22, val_main_v21, val_main_v20, val_main_v19, val_main_v18, val_main_v17, val_main_v16, val_main_v15,
    val_main_v14, val_main_v13, val_main_v12, val_main_v11, val_main_v10, val_main_v1, val_main_v2, val_main_cst,
    val_main_cst_0, val_main_cst_1, val_main_cst_2]
  simp only [value_first]
  rfl

theorem value_third (b : Fin 32) (t : Fin 2048) (j : Fin 1024) :
    val_main_v41 (F := Ideal) x ma mb mod w n2 w1 w2 (ix3 b t j) = third x ma mb mod w n2 w1 w2 b t j := by
  pointwise [val_main_v41, val_main_v40, val_main_v39, val_main_v38, val_main_v37, val_main_v36, val_main_v35, val_main_v34,
    val_main_v33, val_main_v32, val_main_v31, val_main_v3, val_main_call0_v0, val_main_call0_cst]
  simp only [value_first, value_second]
  rfl

theorem value_last (b : Fin 32) (t : Fin 2048) (j : Fin 1024) :
    val_main_v54 (F := Ideal) x ma mb mod w n2 w1 w2 fg (ix3 b t j)
      = normed (third x ma mb mod w n2 w1 w2 b t) (fun j => fg (ix1 j)) j := by
  pointwise [val_main_v54, val_main_v53, val_main_v52, val_main_v51, val_main_v50, val_main_v49, val_main_v48, val_main_v47,
    val_main_v46, val_main_v45, val_main_v44, val_main_v43, val_main_v42, val_main_cst_3, val_main_cst_4, val_main_cst_5]
  simp only [value_third]
  rfl

end Cert.Proof.PostReference

end
-- ==== Proof.PostHead.lean ====
/- What the last layer's feed-forward call's kernel computes from its loads, row by row. -/
module

public import proofs.«01_k».proof.Proof.Row
public import proofs.«01_k».proof.Proof.Gen.PostIdeal.Skeleton

@[expose] public section

set_option maxRecDepth 16384

noncomputable section

namespace Cert.Proof.PostHead

open Idealize.ShloMosaic Cert.Proof.Row
open Cert.PostIdeal Cert.PostIdeal.Gen

theorem mixed_row (a : Vec Ideal S1x1024x512 .bf16) (w : Vec Ideal S512x1024 .bf16) (b : Vec Ideal S1x1024x512 .bf16)
    (u : Vec Ideal S512x1024 .bf16) (x : Vec Ideal S1x1024x1024 .f32) (g : Vec Ideal S1x1x1024 .f32) (r j : Fin 1024) :
    k0_pay2 a w b u x g (ix2 r j)
      = mixed (fun k => x (ix3 0 r k)) (fun k => g (ix3 0 0 k)) (fun k => a (ix3 0 r k)) (fun k => b (ix3 0 r k))
          (fun k l => w (ix2 k l)) (fun k l => u (ix2 k l)) j := by
  pointwise [k0_pay2]
  rfl

theorem modulated_row (a : Vec Ideal S1x1024x512 .bf16) (w : Vec Ideal S512x1024 .bf16) (b : Vec Ideal S1x1024x512 .bf16)
    (u : Vec Ideal S512x1024 .bf16) (x : Vec Ideal S1x1024x1024 .f32) (g : Vec Ideal S1x1x1024 .f32)
    (n : Vec Ideal S1x1024 .f32) (sh sc : Vec Ideal S1x1x1024 .f32) (r j : Fin 1024) :
    k0_pay7 (k0_pay2 a w b u x g) (k0_pay3 n) (k0_pay4 sh) (k0_pay5 sc) (k0_pay6 a w b u x g) (Scalar.ofBits .f32 0x358637BD#32) (ix2 r j)
      = modulated (fun k => k0_pay2 a w b u x g (ix2 r k)) (fun k => n (ix2 0 k)) (fun k => sc (ix3 0 0 k)) (fun k => sh (ix3 0 0 k)) j := by
  unfold k0_pay6
  generalize k0_pay2 a w b u x g = y
  pointwise [k0_pay7, k0_pay3, k0_pay4, k0_pay5]
  rfl

theorem feed_row (v17 : FVec Ideal S1024x1024 .f32) (v19 v21 v23 : FVec Ideal S1x1024 .f32) (v28 : FVec Ideal S1024x1 .f32) (e : EReal)
    (p q p' q' : Vec Ideal S1x1024x1024 .bf16) (r j : Fin 1024) :
    k0_pay8 v17 v19 v21 v23 v28 e p q p' q' (ix2 r j)
      = ∑ f, unit (fun a => k0_pay7 v17 v19 v21 v23 v28 e (ix2 r a)) (fun a => p (ix3 0 a f)) * q (ix3 0 f j)
        + ∑ f, unit (fun a => k0_pay7 v17 v19 v21 v23 v28 e (ix2 r a)) (fun a => p' (ix3 0 a f)) * q' (ix3 0 f j) := by
  unfold k0_pay8
  generalize k0_pay7 v17 v19 v21 v23 v28 e = y
  pointwise
  rfl

theorem updated_row (x : FVec Ideal S1024x1024 .f32) (h : FVec Ideal S1024x1024 .bf16) (y : FVec Ideal S1024x1024 .f32)
    (p q p' q' : Vec Ideal S1x1024x1024 .bf16) (g : Vec Ideal S1x1x1024 .f32) (fg : Vec Ideal S1x1024 .f32) (r j : Fin 1024) :
    k0_pay1 (k0_pay10 x h y (k0_pay9 p) (constant S1024x1024 .f32 0x00000000#32) q p' q' g) (k0_pay11 fg) (ix3 0 r j)
      = normed (updated (fun k => x (ix2 r k)) (fun k => g (ix3 0 0 k)) (fun k => y (ix2 r k)
          + ∑ f, unit (fun a => h (ix2 r a)) (fun a => p (ix3 0 a f)) * q (ix3 0 f k)
          + ∑ f, unit (fun a => h (ix2 r a)) (fun a => p' (ix3 0 a f)) * q' (ix3 0 f k))) (fun k => fg (ix2 0 k)) j := by
  pointwise [k0_pay1, k0_pay10, k0_pay9, k0_pay11]
  rfl

end Cert.Proof.PostHead

end
-- ==== Proof.PostOperands.lean ====
/- What the last layer's feed-forward call's prepared operands hold, entry by entry: the weights as given, the norm weights of the layer. -/
module

public import proofs.«01_k».proof.Proof.Gen.PostIdeal.Frame
public import Idealize.ShloMosaic.Lib.Pipeline.ValueKit
public import Idealize.ShloMosaic.Lib.Pointwise

@[expose] public section

set_option maxRecDepth 16384

noncomputable section

namespace Cert.Proof.PostOperands

open Idealize.ShloMosaic Idealize.ShloMosaic.TcCoe Idealize.SL.Sem
open Cert.PostIdeal Cert.PostIdeal.Gen

variable (m : (ℓ : Loc nD τ sig) → Buf (Elt Ideal) ℓ) (c : Dev nD)

theorem projection (k j : Fin 1024) : V m c main_v3 (ix2 k j) = m ((c : Thread nD τ).loc main_arg4) (ix2 k j) := by
  entry_read
  pointwise

theorem norm_weights (j : Fin 1024) : V m c main_v2 (ix2 0 j) = m ((c : Thread nD τ).loc main_arg5) (ix2 3 j) := by
  entry_read
  pointwise

theorem hidden_weights (l : Fin 4) (k : Fin 1024) (f : Fin 4096) : V m c main_v4 (ix3 l k f) = m ((c : Thread nD τ).loc main_arg6) (ix3 l k f) := by
  entry_read
  pointwise

theorem output_weights (l : Fin 4) (f : Fin 4096) (j : Fin 1024) : V m c main_v5 (ix3 l f j) = m ((c : Thread nD τ).loc main_arg7) (ix3 l f j) := by
  entry_read
  pointwise

theorem final_weights (j : Fin 1024) : V m c main_v6 (ix2 0 j) = m ((c : Thread nD τ).loc main_arg8) (ix1 j) := by
  entry_read
  pointwise

theorem stream : V m c main_arg0 = m ((c : Thread nD τ).loc main_arg0) := rfl
theorem mixer_a : V m c main_arg1 = m ((c : Thread nD τ).loc main_arg1) := rfl
theorem mixer_b : V m c main_arg2 = m ((c : Thread nD τ).loc main_arg2) := rfl
theorem modulation : V m c main_arg3 = m ((c : Thread nD τ).loc main_arg3) := rfl

end Cert.Proof.PostOperands

end
-- ==== Proof.PostBlock.lean ====
/- What the last layer's feed-forward call's kernel's blocks hold: their part of each operand. -/
module

public import proofs.«01_k».proof.Proof.Gen.PostIdeal.Frame
public import Idealize.ShloMosaic.Lib.Pipeline.ValueKit
public import Idealize.ShloMosaic.Lib.Pointwise

@[expose] public section

set_option maxRecDepth 16384

noncomputable section

namespace Cert.Proof.PostBlock

open Idealize.ShloMosaic Idealize.ShloMosaic.TcCoe Idealize.SL.Sem
open Cert.PostIdeal Cert.PostIdeal.Gen

variable (m : (ℓ : Loc nD τ sig) → Buf (Elt Ideal) ℓ) (c : Dev nD)

theorem idx : ∀ t : Fin cfg0.N, win0_0.index t = ![t.val / 2, t.val % 2, 0] ∧ win0_1.index t = ![t.val / 2, t.val % 2, 0]
    ∧ win0_2.index t = ![t.val / 2, t.val % 2, 0] ∧ win0_3.index t = ![t.val / 2, 0, 0] ∧ win0_4.index t = ![0, 0]
    ∧ win0_5.index t = ![0, 0] ∧ win0_6.index t = ![3, 0, 0] ∧ win0_7.index t = ![3, 0, 0] ∧ win0_8.index t = ![0, 0]
    ∧ win0_9.index t = ![t.val / 2, t.val % 2, 0] :=
  (by decide +kernel : ∀ t : Fin grid0.N, _)

/-- A read of a load is a read of the block the load is taken from. -/
theorem load_at {e : EltTy} {s : Shape} (x : Vec Ideal s e) (R : Rect s) (i : R.shape.Idx) (j : s.Idx) (h : R.emb i = j) :
    View.ld x R i = x j := by
  subst h; rfl

theorem place_stream (t : Fin cfg0.N) (b : Fin 32) (hb : (b : ℕ) = t.val / 2) (r : Fin 1024) (j : Fin 1024) (i : Fin 2048) (hi : (i : ℕ) = t.val % 2 * 1024 + r) :
    ((cfg0.win 0).blk t).view.emb (ix3 0 r j) = ix3 b i j := by
  funext a
  apply Fin.ext
  match a with
  | ⟨0, _⟩ =>
    blk_simp [idx t]
    exact hb.symm
  | ⟨1, _⟩ => blk_simp [idx t]
              exact hi.symm
  | ⟨2, _⟩ => blk_simp [idx t]

theorem read_stream (t : Fin cfg0.N) (y : S1x1024x1024.Idx) (X : S32x2048x1024.Idx → EReal) :
    ((cfg0.win 0).blk t).view.read (Elt Ideal) X y = X (((cfg0.win 0).blk t).view.emb y) := rfl

theorem array_stream (t : Fin cfg0.N) (y : S1x1024x1024.Idx) :
    iblk m c 0 t y = ((cfg0.win 0).blk t).view.read (Elt Ideal) (V m c main_arg0) y := rfl

theorem block_stream (t : Fin cfg0.N) (b : Fin 32) (hb : (b : ℕ) = t.val / 2) (r : Fin 1024) (j : Fin 1024) (i : Fin 2048) (hi : (i : ℕ) = t.val % 2 * 1024 + r) :
    iblk m c 0 t (ix3 0 r j) = V m c main_arg0 (ix3 b i j) := by
  rw [array_stream, read_stream, place_stream t b hb r j i hi]

theorem place_mixer_a (t : Fin cfg0.N) (b : Fin 32) (hb : (b : ℕ) = t.val / 2) (r : Fin 1024) (j : Fin 512) (i : Fin 2048) (hi : (i : ℕ) = t.val % 2 * 1024 + r) :
    ((cfg0.win 1).blk t).view.emb (ix3 0 r j) = ix3 b i j := by
  funext a
  apply Fin.ext
  match a with
  | ⟨0, _⟩ =>
    blk_simp [idx t]
    exact hb.symm
  | ⟨1, _⟩ => blk_simp [idx t]
              exact hi.symm
  | ⟨2, _⟩ => blk_simp [idx t]

theorem read_mixer_a (t : Fin cfg0.N) (y : S1x1024x512.Idx) (X : S32x2048x512.Idx → EReal) :
    ((cfg0.win 1).blk t).view.read (Elt Ideal) X y = X (((cfg0.win 1).blk t).view.emb y) := rfl

theorem array_mixer_a (t : Fin cfg0.N) (y : S1x1024x512.Idx) :
    iblk m c 1 t y = ((cfg0.win 1).blk t).view.read (Elt Ideal) (V m c main_arg1) y := rfl

theorem block_mixer_a (t : Fin cfg0.N) (b : Fin 32) (hb : (b : ℕ) = t.val / 2) (r : Fin 1024) (j : Fin 512) (i : Fin 2048) (hi : (i : ℕ) = t.val % 2 * 1024 + r) :
    iblk m c 1 t (ix3 0 r j) = V m c main_arg1 (ix3 b i j) := by
  rw [array_mixer_a, read_mixer_a, place_mixer_a t b hb r j i hi]

theorem place_mixer_b (t : Fin cfg0.N) (b : Fin 32) (hb : (b : ℕ) = t.val / 2) (r : Fin 1024) (j : Fin 512) (i : Fin 2048) (hi : (i : ℕ) = t.val % 2 * 1024 + r) :
    ((cfg0.win 2).blk t).view.emb (ix3 0 r j) = ix3 b i j := by
  funext a
  apply Fin.ext
  match a with
  | ⟨0, _⟩ =>
    blk_simp [idx t]
    exact hb.symm
  | ⟨1, _⟩ => blk_simp [idx t]
              exact hi.symm
  | ⟨2, _⟩ => blk_simp [idx t]

theorem read_mixer_b (t : Fin cfg0.N) (y : S1x1024x512.Idx) (X : S32x2048x512.Idx → EReal) :
    ((cfg0.win 2).blk t).view.read (Elt Ideal) X y = X (((cfg0.win 2).blk t).view.emb y) := rfl

theorem array_mixer_b (t : Fin cfg0.N) (y : S1x1024x512.Idx) :
    iblk m c 2 t y = ((cfg0.win 2).blk t).view.read (Elt Ideal) (V m c main_arg2) y := rfl

theorem block_mixer_b (t : Fin cfg0.N) (b : Fin 32) (hb : (b : ℕ) = t.val / 2) (r : Fin 1024) (j : Fin 512) (i : Fin 2048) (hi : (i : ℕ) = t.val % 2 * 1024 + r) :
    iblk m c 2 t (ix3 0 r j) = V m c main_arg2 (ix3 b i j) := by
  rw [array_mixer_b, read_mixer_b, place_mixer_b t b hb r j i hi]

theorem place_modulation (t : Fin cfg0.N) (b : Fin 32) (hb : (b : ℕ) = t.val / 2) (r : Fin 6) (j : Fin 1024) :
    ((cfg0.win 3).blk t).view.emb (ix3 0 r j) = ix3 b r j := by
  funext a
  apply Fin.ext
  match a with
  | ⟨0, _⟩ =>
    blk_simp [idx t]
    exact hb.symm
  | ⟨1, _⟩ => blk_simp [idx t]
  | ⟨2, _⟩ => blk_simp [idx t]

theorem read_modulation (t : Fin cfg0.N) (y : S1x6x1024.Idx) (X : S32x6x1024.Idx → EReal) :
    ((cfg0.win 3).blk t).view.read (Elt Ideal) X y = X (((cfg0.win 3).blk t).view.emb y) := rfl

theorem array_modulation (t : Fin cfg0.N) (y : S1x6x1024.Idx) :
    iblk m c 3 t y = ((cfg0.win 3).blk t).view.read (Elt Ideal) (V m c main_arg3) y := rfl

theorem block_modulation (t : Fin cfg0.N) (b : Fin 32) (hb : (b : ℕ) = t.val / 2) (r : Fin 6) (j : Fin 1024) :
    iblk m c 3 t (ix3 0 r j) = V m c main_arg3 (ix3 b r j) := by
  rw [array_modulation, read_modulation, place_modulation t b hb r j]

theorem place_projection (t : Fin cfg0.N) (r : Fin 1024) (j : Fin 1024) :
    ((cfg0.win 4).blk t).view.emb (ix2 r j) = ix2 r j := by
  funext a
  apply Fin.ext
  match a with
  | ⟨0, _⟩ => blk_simp [idx t]
  | ⟨1, _⟩ => blk_simp [idx t]

theorem read_projection (t : Fin cfg0.N) (y : S1024x1024.Idx) (X : S1024x1024.Idx → EReal) :
    ((cfg0.win 4).blk t).view.read (Elt Ideal) X y = X (((cfg0.win 4).blk t).view.emb y) := rfl

theorem array_projection (t : Fin cfg0.N) (y : S1024x1024.Idx) :
    iblk m c 4 t y = ((cfg0.win 4).blk t).view.read (Elt Ideal) (V m c main_v3) y := rfl

theorem block_projection (t : Fin cfg0.N) (r : Fin 1024) (j : Fin 1024) :
    iblk m c 4 t (ix2 r j) = V m c main_v3 (ix2 r j) := by
  rw [array_projection, read_projection, place_projection t r j]

theorem place_norm_weights (t : Fin cfg0.N) (r : Fin 1) (j : Fin 1024) :
    ((cfg0.win 5).blk t).view.emb (ix2 r j) = ix2 r j := by
  funext a
  apply Fin.ext
  match a with
  | ⟨0, _⟩ => blk_simp [idx t]
  | ⟨1, _⟩ => blk_simp [idx t]

theorem read_norm_weights (t : Fin cfg0.N) (y : S1x1024.Idx) (X : S1x1024.Idx → EReal) :
    ((cfg0.win 5).blk t).view.read (Elt Ideal) X y = X (((cfg0.win 5).blk t).view.emb y) := rfl

theorem array_norm_weights (t : Fin cfg0.N) (y : S1x1024.Idx) :
    iblk m c 5 t y = ((cfg0.win 5).blk t).view.read (Elt Ideal) (V m c main_v2) y := rfl

theorem block_norm_weights (t : Fin cfg0.N) (r : Fin 1) (j : Fin 1024) :
    iblk m c 5 t (ix2 r j) = V m c main_v2 (ix2 r j) := by
  rw [array_norm_weights, read_norm_weights, place_norm_weights t r j]

theorem place_hidden_weights (t : Fin cfg0.N) (r : Fin 1024) (j : Fin 4096) :
    ((cfg0.win 6).blk t).view.emb (ix3 0 r j) = ix3 3 r j := by
  funext a
  apply Fin.ext
  match a with
  | ⟨0, _⟩ => blk_simp [idx t] <;> rfl
  | ⟨1, _⟩ => blk_simp [idx t]
  | ⟨2, _⟩ => blk_simp [idx t]

theorem read_hidden_weights (t : Fin cfg0.N) (y : S1x1024x4096.Idx) (X : S4x1024x4096.Idx → EReal) :
    ((cfg0.win 6).blk t).view.read (Elt Ideal) X y = X (((cfg0.win 6).blk t).view.emb y) := rfl

theorem array_hidden_weights (t : Fin cfg0.N) (y : S1x1024x4096.Idx) :
    iblk m c 6 t y = ((cfg0.win 6).blk t).view.read (Elt Ideal) (V m c main_v4) y := rfl

theorem block_hidden_weights (t : Fin cfg0.N) (r : Fin 1024) (j : Fin 4096) :
    iblk m c 6 t (ix3 0 r j) = V m c main_v4 (ix3 3 r j) := by
  rw [array_hidden_weights, read_hidden_weights, place_hidden_weights t r j]

theorem place_output_weights (t : Fin cfg0.N) (r : Fin 4096) (j : Fin 1024) :
    ((cfg0.win 7).blk t).view.emb (ix3 0 r j) = ix3 3 r j := by
  funext a
  apply Fin.ext
  match a with
  | ⟨0, _⟩ => blk_simp [idx t] <;> rfl
  | ⟨1, _⟩ => blk_simp [idx t]
  | ⟨2, _⟩ => blk_simp [idx t]

theorem read_output_weights (t : Fin cfg0.N) (y : S1x4096x1024.Idx) (X : S4x4096x1024.Idx → EReal) :
    ((cfg0.win 7).blk t).view.read (Elt Ideal) X y = X (((cfg0.win 7).blk t).view.emb y) := rfl

theorem array_output_weights (t : Fin cfg0.N) (y : S1x4096x1024.Idx) :
    iblk m c 7 t y = ((cfg0.win 7).blk t).view.read (Elt Ideal) (V m c main_v5) y := rfl

theorem block_output_weights (t : Fin cfg0.N) (r : Fin 4096) (j : Fin 1024) :
    iblk m c 7 t (ix3 0 r j) = V m c main_v5 (ix3 3 r j) := by
  rw [array_output_weights, read_output_weights, place_output_weights t r j]

theorem place_final_weights (t : Fin cfg0.N) (r : Fin 1) (j : Fin 1024) :
    ((cfg0.win 8).blk t).view.emb (ix2 r j) = ix2 r j := by
  funext a
  apply Fin.ext
  match a with
  | ⟨0, _⟩ => blk_simp [idx t]
  | ⟨1, _⟩ => blk_simp [idx t]

theorem read_final_weights (t : Fin cfg0.N) (y : S1x1024.Idx) (X : S1x1024.Idx → EReal) :
    ((cfg0.win 8).blk t).view.read (Elt Ideal) X y = X (((cfg0.win 8).blk t).view.emb y) := rfl

theorem array_final_weights (t : Fin cfg0.N) (y : S1x1024.Idx) :
    iblk m c 8 t y = ((cfg0.win 8).blk t).view.read (Elt Ideal) (V m c main_v6) y := rfl

theorem block_final_weights (t : Fin cfg0.N) (r : Fin 1) (j : Fin 1024) :
    iblk m c 8 t (ix2 r j) = V m c main_v6 (ix2 r j) := by
  rw [array_final_weights, read_final_weights, place_final_weights t r j]

end Cert.Proof.PostBlock

end
-- ==== Proof.PostKernel.lean ====
/- What the last layer's feed-forward call's result array holds: every block is the reference's, row by row. -/
module

public import proofs.«01_k».proof.Proof.PostReference
public import proofs.«01_k».proof.Proof.PostHead
public import proofs.«01_k».proof.Proof.PostOperands
public import proofs.«01_k».proof.Proof.PostBlock

@[expose] public section

set_option maxRecDepth 16384

noncomputable section

namespace Cert.Proof.PostKernel

open Idealize.ShloMosaic Idealize.ShloMosaic.TcCoe Idealize.SL.Sem Cert.Proof.Row
open Cert.PostIdeal Cert.PostIdeal.Gen
open Cert.Proof.PostOperands Cert.Proof.PostHead Cert.Proof.PostBlock

theorem load_0 (x : Vec Ideal S1x1024x512 .bf16) (i : Fin 1024) (j : Fin 512) :
    View.ld x r0_0 (ix3 0 i j) = x (ix3 0 i j) := load_at x _ _ _ (by blk_ext)

theorem load_1 (x : Vec Ideal S1024x1024 .bf16) (i : Fin 512) (j : Fin 1024) :
    View.ld x r0_1 (ix2 i j) = x (ix2 ⟨i, by omega⟩ j) := load_at x _ _ _ (by blk_ext)

theorem load_2 (x : Vec Ideal S1024x1024 .bf16) (i : Fin 512) (j : Fin 1024) :
    View.ld x r0_2 (ix2 i j) = x (ix2 ⟨512 + i, by omega⟩ j) := load_at x _ _ _ (by blk_ext)

theorem load_3 (x : Vec Ideal S1x1024x1024 .f32) (i : Fin 1024) (j : Fin 1024) :
    View.ld x r0_3 (ix3 0 i j) = x (ix3 0 i j) := load_at x _ _ _ (by blk_ext)

theorem load_4 (x : Vec Ideal S1x6x1024 .f32) (j : Fin 1024) :
    View.ld x r0_4 (ix3 0 0 j) = x (ix3 0 2 j) := load_at x _ _ _ (by blk_ext)

theorem load_5 (x : Vec Ideal S1x1024 .f32) (j : Fin 1024) :
    View.ld x r0_5 (ix2 0 j) = x (ix2 0 j) := load_at x _ _ _ (by blk_ext)

theorem load_6 (x : Vec Ideal S1x6x1024 .f32) (j : Fin 1024) :
    View.ld x r0_6 (ix3 0 0 j) = x (ix3 0 3 j) := load_at x _ _ _ (by blk_ext)

theorem load_7 (x : Vec Ideal S1x6x1024 .f32) (j : Fin 1024) :
    View.ld x r0_7 (ix3 0 0 j) = x (ix3 0 4 j) := load_at x _ _ _ (by blk_ext)

theorem load_16 (x : Vec Ideal S1x6x1024 .f32) (j : Fin 1024) :
    View.ld x r0_16 (ix3 0 0 j) = x (ix3 0 5 j) := load_at x _ _ _ (by blk_ext)

theorem load_8 (x : Vec Ideal S1x1024x4096 .bf16) (i : Fin 1024) (j : Fin 1024) :
    View.ld x r0_8 (ix3 0 i j) = x (ix3 0 i ⟨0 + j, by omega⟩) := load_at x _ _ _ (by blk_ext)

theorem load_9 (x : Vec Ideal S1x4096x1024 .bf16) (i : Fin 1024) (j : Fin 1024) :
    View.ld x r0_9 (ix3 0 i j) = x (ix3 0 ⟨0 + i, by omega⟩ j) := load_at x _ _ _ (by blk_ext)

theorem load_10 (x : Vec Ideal S1x1024x4096 .bf16) (i : Fin 1024) (j : Fin 1024) :
    View.ld x r0_10 (ix3 0 i j) = x (ix3 0 i ⟨1024 + j, by omega⟩) := load_at x _ _ _ (by blk_ext)

theorem load_11 (x : Vec Ideal S1x4096x1024 .bf16) (i : Fin 1024) (j : Fin 1024) :
    View.ld x r0_11 (ix3 0 i j) = x (ix3 0 ⟨1024 + i, by omega⟩ j) := load_at x _ _ _ (by blk_ext)

theorem load_12 (x : Vec Ideal S1x1024x4096 .bf16) (i : Fin 1024) (j : Fin 1024) :
    View.ld x r0_12 (ix3 0 i j) = x (ix3 0 i ⟨2048 + j, by omega⟩) := load_at x _ _ _ (by blk_ext)

theorem load_13 (x : Vec Ideal S1x4096x1024 .bf16) (i : Fin 1024) (j : Fin 1024) :
    View.ld x r0_13 (ix3 0 i j) = x (ix3 0 ⟨2048 + i, by omega⟩ j) := load_at x _ _ _ (by blk_ext)

theorem load_14 (x : Vec Ideal S1x1024x4096 .bf16) (i : Fin 1024) (j : Fin 1024) :
    View.ld x r0_14 (ix3 0 i j) = x (ix3 0 i ⟨3072 + j, by omega⟩) := load_at x _ _ _ (by blk_ext)

theorem load_15 (x : Vec Ideal S1x4096x1024 .bf16) (i : Fin 1024) (j : Fin 1024) :
    View.ld x r0_15 (ix3 0 i j) = x (ix3 0 ⟨3072 + i, by omega⟩ j) := load_at x _ _ _ (by blk_ext)

/-- A row of a block, from what the operands' blocks hold. -/
theorem row (x : FVec Ideal Cert.PostRefIdeal.S32x2048x1024 .f32) (ma mb : FVec Ideal Cert.PostRefIdeal.S32x2048x512 .bf16)
    (mod : FVec Ideal Cert.PostRefIdeal.S32x6x1024 .f32) (w : FVec Ideal Cert.PostRefIdeal.S1024x1024 .f32)
    (n2 : FVec Ideal Cert.PostRefIdeal.S4x1024 .f32) (w1 : FVec Ideal Cert.PostRefIdeal.S4x1024x4096 .f32)
    (w2 : FVec Ideal Cert.PostRefIdeal.S4x4096x1024 .f32) (fg : FVec Ideal Cert.PostRefIdeal.S1024 .f32)
    (X0 : Vec Ideal S1x1024x1024 .f32) (X1 X2 : Vec Ideal S1x1024x512 .bf16) (X3 : Vec Ideal S1x6x1024 .f32)
    (X4 : Vec Ideal S1024x1024 .bf16) (X5 : Vec Ideal S1x1024 .f32) (X6 : Vec Ideal S1x1024x4096 .bf16)
    (X7 : Vec Ideal S1x4096x1024 .bf16) (X8 : Vec Ideal S1x1024 .f32) (b : Fin 32) (i : Fin 2048) (r j : Fin 1024)
    (h0 : ∀ k, X0 (ix3 0 r k) = x (ix3 b i k)) (h1 : ∀ k, X1 (ix3 0 r k) = ma (ix3 b i k)) (h2 : ∀ k, X2 (ix3 0 r k) = mb (ix3 b i k))
    (h3 : ∀ a k, X3 (ix3 0 a k) = mod (ix3 b a k)) (h4 : ∀ k l, X4 (ix2 k l) = w (ix2 k l)) (h5 : ∀ k, X5 (ix2 0 k) = n2 (ix2 3 k))
    (h6 : ∀ k f, X6 (ix3 0 k f) = w1 (ix3 3 k f)) (h7 : ∀ f k, X7 (ix3 0 f k) = w2 (ix3 3 f k)) (h8 : ∀ k, X8 (ix2 0 k) = fg (ix1 k)) :
    k0_pay1 (k0_pay10 (k0_pay12 X0 X1 X2 X3 X4 X5 X6 X7 X8) (k0_pay7 (k0_pay12 X0 X1 X2 X3 X4 X5 X6 X7 X8) (k0_pay13 X0 X1 X2 X3 X4 X5 X6 X7 X8) (k0_pay14 X0 X1 X2 X3 X4 X5 X6 X7 X8)
        (k0_pay15 X0 X1 X2 X3 X4 X5 X6 X7 X8) (k0_pay16 X0 X1 X2 X3 X4 X5 X6 X7 X8) (Scalar.ofBits .f32 0x358637BD#32))
      (k0_pay8 (k0_pay12 X0 X1 X2 X3 X4 X5 X6 X7 X8) (k0_pay13 X0 X1 X2 X3 X4 X5 X6 X7 X8) (k0_pay14 X0 X1 X2 X3 X4 X5 X6 X7 X8)
        (k0_pay15 X0 X1 X2 X3 X4 X5 X6 X7 X8) (k0_pay16 X0 X1 X2 X3 X4 X5 X6 X7 X8) (Scalar.ofBits .f32 0x358637BD#32)
        (View.ld X6 r0_8) (View.ld X7 r0_9) (View.ld X6 r0_10) (View.ld X7 r0_11))
      (k0_pay9 (View.ld X6 r0_12)) (constant S1024x1024 .f32 0x00000000#32) (View.ld X7 r0_13) (View.ld X6 r0_14) (View.ld X7 r0_15) (View.ld X3 r0_16)) (k0_pay11 (View.ld X8 r0_5)) (ix3 0 r j)
      = Cert.PostRefIdeal.Read.val_main_v54 (F := Ideal) x ma mb mod w n2 w1 w2 fg (ix3 b i j) := by
  rw [PostReference.value_last]
  unfold k0_pay12 k0_pay13 k0_pay14 k0_pay15 k0_pay16
  have e1 : ∀ k, k0_pay2 (View.ld X1 r0_0) (View.ld X4 r0_1) (View.ld X2 r0_0) (View.ld X4 r0_2) (View.ld X0 r0_3) (View.ld X3 r0_4) (ix2 r k)
      = PostReference.first x ma mb mod w b i k := fun k =>
    (mixed_row _ _ _ _ _ _ r k).trans (mixed_congr (fun k => (load_3 X0 r k).trans (h0 k)) (fun k => (load_4 X3 k).trans (h3 2 k))
      (fun k => (load_0 X1 r k).trans (h1 k)) (fun k => (load_0 X2 r k).trans (h2 k)) (fun k l => (load_1 X4 k l).trans (h4 _ l))
      (fun k l => (load_2 X4 k l).trans (h4 _ l)) k)
  have e2 : ∀ k, k0_pay7 (k0_pay2 (View.ld X1 r0_0) (View.ld X4 r0_1) (View.ld X2 r0_0) (View.ld X4 r0_2) (View.ld X0 r0_3) (View.ld X3 r0_4))
      (k0_pay3 (View.ld X5 r0_5)) (k0_pay4 (View.ld X3 r0_6)) (k0_pay5 (View.ld X3 r0_7))
      (k0_pay6 (View.ld X1 r0_0) (View.ld X4 r0_1) (View.ld X2 r0_0) (View.ld X4 r0_2) (View.ld X0 r0_3) (View.ld X3 r0_4))
      (Scalar.ofBits .f32 0x358637BD#32) (ix2 r k) = PostReference.second x ma mb mod w n2 b i k := fun k =>
    (modulated_row _ _ _ _ _ _ _ _ _ r k).trans (modulated_congr e1 (fun k => (load_5 X5 k).trans (h5 k))
      (fun k => (load_7 X3 k).trans (h3 4 k)) (fun k => (load_6 X3 k).trans (h3 3 k)) k)
  have q0 : ∀ k, _ = ∑ f : Fin 1024, unit (PostReference.second x ma mb mod w n2 b i) (fun a => w1 (ix3 3 a ⟨0 + f, by omega⟩))
      * w2 (ix3 3 ⟨0 + f, by omega⟩ k) := fun k =>
    quarter_congr e2 (w := fun f a => View.ld X6 r0_8 (ix3 0 a f)) (w' := fun f a => w1 (ix3 3 a ⟨0 + f, by omega⟩))
      (u := fun f => View.ld X7 r0_9 (ix3 0 f k)) (u' := fun f => w2 (ix3 3 ⟨0 + f, by omega⟩ k))
      (fun f a => (load_8 X6 a f).trans (h6 a _)) (fun f => (load_9 X7 f k).trans (h7 _ k))
  have q1 : ∀ k, _ = ∑ f : Fin 1024, unit (PostReference.second x ma mb mod w n2 b i) (fun a => w1 (ix3 3 a ⟨1024 + f, by omega⟩))
      * w2 (ix3 3 ⟨1024 + f, by omega⟩ k) := fun k =>
    quarter_congr e2 (w := fun f a => View.ld X6 r0_10 (ix3 0 a f)) (w' := fun f a => w1 (ix3 3 a ⟨1024 + f, by omega⟩))
      (u := fun f => View.ld X7 r0_11 (ix3 0 f k)) (u' := fun f => w2 (ix3 3 ⟨1024 + f, by omega⟩ k))
      (fun f a => (load_10 X6 a f).trans (h6 a _)) (fun f => (load_11 X7 f k).trans (h7 _ k))
  have q2 : ∀ k, _ = ∑ f : Fin 1024, unit (PostReference.second x ma mb mod w n2 b i) (fun a => w1 (ix3 3 a ⟨2048 + f, by omega⟩))
      * w2 (ix3 3 ⟨2048 + f, by omega⟩ k) := fun k =>
    quarter_congr e2 (w := fun f a => View.ld X6 r0_12 (ix3 0 a f)) (w' := fun f a => w1 (ix3 3 a ⟨2048 + f, by omega⟩))
      (u := fun f => View.ld X7 r0_13 (ix3 0 f k)) (u' := fun f => w2 (ix3 3 ⟨2048 + f, by omega⟩ k))
      (fun f a => (load_12 X6 a f).trans (h6 a _)) (fun f => (load_13 X7 f k).trans (h7 _ k))
  have q3 : ∀ k, _ = ∑ f : Fin 1024, unit (PostReference.second x ma mb mod w n2 b i) (fun a => w1 (ix3 3 a ⟨3072 + f, by omega⟩))
      * w2 (ix3 3 ⟨3072 + f, by omega⟩ k) := fun k =>
    quarter_congr e2 (w := fun f a => View.ld X6 r0_14 (ix3 0 a f)) (w' := fun f a => w1 (ix3 3 a ⟨3072 + f, by omega⟩))
      (u := fun f => View.ld X7 r0_15 (ix3 0 f k)) (u' := fun f => w2 (ix3 3 ⟨3072 + f, by omega⟩ k))
      (fun f a => (load_14 X6 a f).trans (h6 a _)) (fun f => (load_15 X7 f k).trans (h7 _ k))
  have e3 : ∀ k, _ = feed (PostReference.second x ma mb mod w n2 b i) (fun f k => w1 (ix3 3 k f)) (fun f j => w2 (ix3 3 f j)) k := fun k =>
    (congrArg₂ (· + ·) (congrArg₂ (· + ·) ((feed_row _ _ _ _ _ _ _ _ _ _ r k).trans (congrArg₂ (· + ·) (q0 k) (q1 k))) (q2 k)) (q3 k)).trans
      (feed_quarters (PostReference.second x ma mb mod w n2 b i) (fun f k => w1 (ix3 3 k f)) (fun f j => w2 (ix3 3 f j)) k).symm
  exact (updated_row _ _ _ _ _ _ _ _ _ r j).trans (normed_congr (updated_congr e1 (fun k => (load_16 X3 k).trans (h3 5 k)) e3)
    (fun k => (load_5 X8 k).trans (h8 k)) j)

variable (m : (ℓ : Loc nD τ sig) → Buf (Elt Ideal) ℓ) (c : Dev nD)

/-- The reference's result, from the call's arguments. -/
abbrev result : FVec Ideal Cert.PostRefIdeal.S32x2048x1024 .f32 :=
  Cert.PostRefIdeal.Read.val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

theorem point (t : Fin cfg0.N) (y : S1x1024x1024.Idx) :
    out0_9 (iblk m c 0 t) (iblk m c 1 t) (iblk m c 2 t) (iblk m c 3 t) (iblk m c 4 t) (iblk m c 5 t) (iblk m c 6 t) (iblk m c 7 t) (iblk m c 8 t) y
      = result m c (((cfg0.win 9).blk t).view.emb y) := by
  have ht : t.val < 64 := lt_of_lt_of_eq t.isLt N_0
  have hy : (y 1 : ℕ) < 1024 := (y 1).isLt
  have hz : (y 2 : ℕ) < 1024 := (y 2).isLt
  have he : ((cfg0.win 9).blk t).view.emb y
      = ix3 (⟨t.val / 2, by omega⟩ : Fin 32) (⟨t.val % 2 * 1024 + y 1, by omega⟩ : Fin 2048) (⟨y 2, hz⟩ : Fin 1024) := by
    blk_ext [idx t]
  rw [he]
  canon_tiles x h
  case piece0 =>
    idx_vars x
    obtain rfl : x0 = 0 := Subsingleton.elim _ _
    obtain rfl : x2 = ⟨y 2, hz⟩ := Fin.ext (by show (x2 : ℕ) = (y 2 : ℕ); omega)
    exact row _ _ _ _ _ _ _ _ (m ((c : Thread nD τ).loc main_arg8)) (iblk m c 0 t) (iblk m c 1 t) (iblk m c 2 t) (iblk m c 3 t) (iblk m c 4 t)
      (iblk m c 5 t) (iblk m c 6 t) (iblk m c 7 t) (iblk m c 8 t) ⟨t.val / 2, by omega⟩ _ x1 _
      (fun k => (block_stream m c t _ rfl _ _ _ (by show t.val % 2 * 1024 + (y 1 : ℕ) = t.val % 2 * 1024 + (x1 : ℕ); omega)).trans (congrFun (stream m c) _))
      (fun k => (block_mixer_a m c t _ rfl _ _ _ (by show t.val % 2 * 1024 + (y 1 : ℕ) = t.val % 2 * 1024 + (x1 : ℕ); omega)).trans (congrFun (mixer_a m c) _))
      (fun k => (block_mixer_b m c t _ rfl _ _ _ (by show t.val % 2 * 1024 + (y 1 : ℕ) = t.val % 2 * 1024 + (x1 : ℕ); omega)).trans (congrFun (mixer_b m c) _))
      (fun a k => (block_modulation m c t _ rfl _ _).trans (congrFun (modulation m c) _))
      (fun k l => (block_projection m c t _ _).trans (projection m c k l))
      (fun k => (block_norm_weights m c t _ _).trans (norm_weights m c k))
      (fun k f => (block_hidden_weights m c t _ _).trans (hidden_weights m c 3 k f))
      (fun f k => (block_output_weights m c t _ _).trans (output_weights m c 3 f k))
      (fun k => (block_final_weights m c t _ _).trans (final_weights m c k))

theorem final : (dats m 0 c).arrAt 9 (cfgs 0).N = result m c := by
  refine (dats m 0 c).arrAt_eq_of_covers 9 _ (by decide +kernel) fun t _ y => ?_
  blk_simp
  rw [after0_9]
  exact point m c t y

end Cert.Proof.PostKernel

end
-- ==== Proof.PostClaim.lean ====
/- The last layer's feed-forward call's equation: the kernel's result is the reference's. -/
module

public import proofs.«01_k».proof.Proof.PostKernel
public import proofs.«01_k».proof.Proof.Gen.PostRefIdeal.Run
public import proofs.«01_k».proof.Proof.Gen.PostIdeal.Value
public import proofs.«01_k».proof.Defs
public import Idealize.ShloMosaic.Lib.Claim

@[expose] public section

set_option maxRecDepth 16384

noncomputable section

namespace Cert.Proof.PostClaim

open Idealize.ShloMosaic Idealize.ShloMosaic.TcCoe Idealize.SL.Sem

/-- The reference's term at arguments that agree with the kernel's. -/
theorem equation (m : (ℓ : Loc Cert.PostIdeal.nD Cert.PostIdeal.τ Cert.PostIdeal.sig) → Buf (Elt Ideal) ℓ) (c : Dev Cert.PostIdeal.nD)
    (x0 : FVec Ideal Cert.PostRefIdeal.S32x2048x1024 .f32) (x1 x2 : FVec Ideal Cert.PostRefIdeal.S32x2048x512 .bf16)
    (x3 : FVec Ideal Cert.PostRefIdeal.S32x6x1024 .f32) (x4 : FVec Ideal Cert.PostRefIdeal.S1024x1024 .f32)
    (x5 : FVec Ideal Cert.PostRefIdeal.S4x1024 .f32) (x6 : FVec Ideal Cert.PostRefIdeal.S4x1024x4096 .f32)
    (x7 : FVec Ideal Cert.PostRefIdeal.S4x4096x1024 .f32) (x8 : FVec Ideal Cert.PostRefIdeal.S1024 .f32)
    (e0 : x0 = m ((c : Thread Cert.PostIdeal.nD Cert.PostIdeal.τ).loc Cert.PostIdeal.main_arg0)) (e1 : x1 = m ((c : Thread Cert.PostIdeal.nD Cert.PostIdeal.τ).loc Cert.PostIdeal.main_arg1))
    (e2 : x2 = m ((c : Thread Cert.PostIdeal.nD Cert.PostIdeal.τ).loc Cert.PostIdeal.main_arg2)) (e3 : x3 = m ((c : Thread Cert.PostIdeal.nD Cert.PostIdeal.τ).loc Cert.PostIdeal.main_arg3))
    (e4 : x4 = m ((c : Thread Cert.PostIdeal.nD Cert.PostIdeal.τ).loc Cert.PostIdeal.main_arg4)) (e5 : x5 = m ((c : Thread Cert.PostIdeal.nD Cert.PostIdeal.τ).loc Cert.PostIdeal.main_arg5))
    (e6 : x6 = m ((c : Thread Cert.PostIdeal.nD Cert.PostIdeal.τ).loc Cert.PostIdeal.main_arg6)) (e7 : x7 = m ((c : Thread Cert.PostIdeal.nD Cert.PostIdeal.τ).loc Cert.PostIdeal.main_arg7))
    (e8 : x8 = m ((c : Thread Cert.PostIdeal.nD Cert.PostIdeal.τ).loc Cert.PostIdeal.main_arg8)) :
    Cert.PostRefIdeal.Read.val_main_v54 (F := Ideal) x0 x1 x2 x3 x4 x5 x6 x7 x8
      = (Cert.PostIdeal.Gen.dats m 0 c).arrAt 9 Cert.PostIdeal.cfg0.N := by
  rw [e0, e1, e2, e3, e4, e5, e6, e7, e8]
  exact (PostKernel.final m c).symm

theorem algebraic : Cert.algebraic_PostIdeal_PostRefIdeal := by
  intro m g m' g' _ hagree
  refine ⟨fun c => (Cert.PostIdeal.Gen.dats m 0 c).arrAt 9 Cert.PostIdeal.cfg0.N, Cert.PostIdeal.Value.run_blocks m g, ?_⟩
  refine (θ_run _ _ _).mono (fun r h c => ⟨(h c).1.trans ?_, (h c).2⟩) (Cert.PostRefIdeal.Value.run m' g')
  obtain ⟨a0, a1, a2, a3, a4, a5, a6, a7, a8⟩ := hagree c
  exact (Cert.PostRefIdeal.Read.val_main_v54_eq _ _).trans (equation m c _ _ _ _ _ _ _ _ _ a0 a1 a2 a3 a4 a5 a6 a7 a8)

end Cert.Proof.PostClaim

end
-- ==== Proof.MidReference.lean ====
/- The first layer's feed-forward call's reference, entry by entry: a row of the layer in plain sums. -/
module

public import proofs.«01_k».proof.Proof.Row
public import proofs.«01_k».proof.Proof.Gen.MidRefIdeal.Read

@[expose] public section

set_option maxRecDepth 16384

noncomputable section

namespace Cert.Proof.MidReference

open Idealize.ShloMosaic Cert.Proof.Row
open Cert.MidRefIdeal Cert.MidRefIdeal.Gen Cert.MidRefIdeal.Read

variable (x : FVec Ideal S32x2048x1024 .f32) (ma mb : FVec Ideal S32x2048x512 .bf16) (mod : FVec Ideal S32x6x1024 .f32)
  (w : FVec Ideal S1024x1024 .f32) (n2 : FVec Ideal S4x1024 .f32) (w1 : FVec Ideal S4x1024x4096 .f32)
  (w2 : FVec Ideal S4x4096x1024 .f32) (fg : FVec Ideal S1024 .f32)

/-- The row with the mixers' output added in. -/
abbrev first (b : Fin 32) (t : Fin 2048) : Line :=
  mixed (fun j => x (ix3 b t j)) (fun j => mod (ix3 b 2 j)) (fun k => ma (ix3 b t k)) (fun k => mb (ix3 b t k))
    (fun k j => w (ix2 ⟨k, by omega⟩ j)) (fun k j => w (ix2 ⟨512 + k, by omega⟩ j))

/-- The feed-forward branch's input. -/
abbrev second (b : Fin 32) (t : Fin 2048) : Line :=
  modulated (first x ma mb mod w b t) (fun j => n2 (ix2 0 j)) (fun j => mod (ix3 b 4 j)) (fun j => mod (ix3 b 3 j))

/-- The row after the feed-forward branch. -/
abbrev third (b : Fin 32) (t : Fin 2048) : Line :=
  updated (first x ma mb mod w b t) (fun j => mod (ix3 b 5 j))
    (feed (second x ma mb mod w n2 b t) (fun f k => w1 (ix3 0 k f)) (fun f j => w2 (ix3 0 f j)))

theorem value_first (b : Fin 32) (t : Fin 2048) (j : Fin 1024) :
    val_main_v9 (F := Ideal) x ma mb mod w (ix3 b t j) = first x ma mb mod w b t j := by
  pointwise [val_main_v9, val_main_v8, val_main_v7, val_main_v6, val_main_v5, val_main_v4, val_main_v0]
  rfl

theorem value_second (b : Fin 32) (t : Fin 2048) (j : Fin 1024) :
    val_main_v30 (F := Ideal) x ma mb mod w n2 (ix3 b t j) = second x ma mb mod w n2 b t j := by
  pointwise [val_main_v30, val_main_v29, val_main_v28, val_main_v27, val_main_v26, val_main_v25, val_main_v24, val_main_v23,
    val_main_v22, val_main_v21, val_main_v20, val_main_v19, val_main_v18, val_main_v17, val_main_v16, val_main_v15,
    val_main_v14, val_main_v13, val_main_v12, val_main_v11, val_main_v10, val_main_v1, val_main_v2, val_main_cst,
    val_main_cst_0, val_main_cst_1, val_main_cst_2]
  simp only [value_first]
  rfl

theorem value_third (b : Fin 32) (t : Fin 2048) (j : Fin 1024) :
    val_main_v41 (F := Ideal) x ma mb mod w n2 w1 w2 (ix3 b t j) = third x ma mb mod w n2 w1 w2 b t j := by
  pointwise [val_main_v41, val_main_v40, val_main_v39, val_main_v38, val_main_v37, val_main_v36, val_main_v35, val_main_v34,
    val_main_v33, val_main_v32, val_main_v31, val_main_v3, val_main_call0_v0, val_main_call0_cst]
  simp only [value_first, value_second]
  rfl

end Cert.Proof.MidReference

end
-- ==== Proof.MidHead.lean ====
/- What the first layer's feed-forward call's kernel computes from its loads, row by row. -/
module

public import proofs.«01_k».proof.Proof.Row
public import proofs.«01_k».proof.Proof.Gen.MidIdeal.Skeleton

@[expose] public section

set_option maxRecDepth 16384

noncomputable section

namespace Cert.Proof.MidHead

open Idealize.ShloMosaic Cert.Proof.Row
open Cert.MidIdeal Cert.MidIdeal.Gen

theorem mixed_row (a : Vec Ideal S1x1024x512 .bf16) (w : Vec Ideal S512x1024 .bf16) (b : Vec Ideal S1x1024x512 .bf16)
    (u : Vec Ideal S512x1024 .bf16) (x : Vec Ideal S1x1024x1024 .f32) (g : Vec Ideal S1x1x1024 .f32) (r j : Fin 1024) :
    k0_pay2 a w b u x g (ix2 r j)
      = mixed (fun k => x (ix3 0 r k)) (fun k => g (ix3 0 0 k)) (fun k => a (ix3 0 r k)) (fun k => b (ix3 0 r k))
          (fun k l => w (ix2 k l)) (fun k l => u (ix2 k l)) j := by
  pointwise [k0_pay2]
  rfl

theorem modulated_row (a : Vec Ideal S1x1024x512 .bf16) (w : Vec Ideal S512x1024 .bf16) (b : Vec Ideal S1x1024x512 .bf16)
    (u : Vec Ideal S512x1024 .bf16) (x : Vec Ideal S1x1024x1024 .f32) (g : Vec Ideal S1x1x1024 .f32)
    (n : Vec Ideal S1x1024 .f32) (sh sc : Vec Ideal S1x1x1024 .f32) (r j : Fin 1024) :
    k0_pay7 (k0_pay2 a w b u x g) (k0_pay3 n) (k0_pay4 sh) (k0_pay5 sc) (k0_pay6 a w b u x g) (Scalar.ofBits .f32 0x358637BD#32) (ix2 r j)
      = modulated (fun k => k0_pay2 a w b u x g (ix2 r k)) (fun k => n (ix2 0 k)) (fun k => sc (ix3 0 0 k)) (fun k => sh (ix3 0 0 k)) j := by
  unfold k0_pay6
  generalize k0_pay2 a w b u x g = y
  pointwise [k0_pay7, k0_pay3, k0_pay4, k0_pay5]
  rfl

theorem feed_row (v17 : FVec Ideal S1024x1024 .f32) (v19 v21 v23 : FVec Ideal S1x1024 .f32) (v28 : FVec Ideal S1024x1 .f32) (e : EReal)
    (p q p' q' : Vec Ideal S1x1024x1024 .bf16) (r j : Fin 1024) :
    k0_pay8 v17 v19 v21 v23 v28 e p q p' q' (ix2 r j)
      = ∑ f, unit (fun a => k0_pay7 v17 v19 v21 v23 v28 e (ix2 r a)) (fun a => p (ix3 0 a f)) * q (ix3 0 f j)
        + ∑ f, unit (fun a => k0_pay7 v17 v19 v21 v23 v28 e (ix2 r a)) (fun a => p' (ix3 0 a f)) * q' (ix3 0 f j) := by
  unfold k0_pay8
  generalize k0_pay7 v17 v19 v21 v23 v28 e = y
  pointwise
  rfl

theorem updated_row (x : FVec Ideal S1024x1024 .f32) (h : FVec Ideal S1024x1024 .bf16) (y : FVec Ideal S1024x1024 .f32)
    (p q p' q' : Vec Ideal S1x1024x1024 .bf16) (g : Vec Ideal S1x1x1024 .f32) (r j : Fin 1024) :
    k0_pay1 x h y (k0_pay9 p) (constant S1024x1024 .f32 0x00000000#32) q p' q' g (ix3 0 r j)
      = updated (fun k => x (ix2 r k)) (fun k => g (ix3 0 0 k)) (fun k => y (ix2 r k)
          + ∑ f, unit (fun a => h (ix2 r a)) (fun a => p (ix3 0 a f)) * q (ix3 0 f k)
          + ∑ f, unit (fun a => h (ix2 r a)) (fun a => p' (ix3 0 a f)) * q' (ix3 0 f k)) j := by
  pointwise [k0_pay1, k0_pay9]
  rfl

end Cert.Proof.MidHead

end
-- ==== Proof.MidOperands.lean ====
/- What the first layer's feed-forward call's prepared operands hold, entry by entry: the weights as given, the norm weights of the layer. -/
module

public import proofs.«01_k».proof.Proof.Gen.MidIdeal.Frame
public import Idealize.ShloMosaic.Lib.Pipeline.ValueKit
public import Idealize.ShloMosaic.Lib.Pointwise

@[expose] public section

set_option maxRecDepth 16384

noncomputable section

namespace Cert.Proof.MidOperands

open Idealize.ShloMosaic Idealize.ShloMosaic.TcCoe Idealize.SL.Sem
open Cert.MidIdeal Cert.MidIdeal.Gen

variable (m : (ℓ : Loc nD τ sig) → Buf (Elt Ideal) ℓ) (c : Dev nD)

theorem projection (k j : Fin 1024) : V m c main_v3 (ix2 k j) = m ((c : Thread nD τ).loc main_arg4) (ix2 k j) := by
  entry_read
  pointwise

theorem norm_weights (j : Fin 1024) : V m c main_v2 (ix2 0 j) = m ((c : Thread nD τ).loc main_arg5) (ix2 0 j) := by
  entry_read
  pointwise

theorem hidden_weights (l : Fin 4) (k : Fin 1024) (f : Fin 4096) : V m c main_v4 (ix3 l k f) = m ((c : Thread nD τ).loc main_arg6) (ix3 l k f) := by
  entry_read
  pointwise

theorem output_weights (l : Fin 4) (f : Fin 4096) (j : Fin 1024) : V m c main_v5 (ix3 l f j) = m ((c : Thread nD τ).loc main_arg7) (ix3 l f j) := by
  entry_read
  pointwise

theorem final_weights (j : Fin 1024) : V m c main_v6 (ix2 0 j) = m ((c : Thread nD τ).loc main_arg8) (ix1 j) := by
  entry_read
  pointwise

theorem stream : V m c main_arg0 = m ((c : Thread nD τ).loc main_arg0) := rfl
theorem mixer_a : V m c main_arg1 = m ((c : Thread nD τ).loc main_arg1) := rfl
theorem mixer_b : V m c main_arg2 = m ((c : Thread nD τ).loc main_arg2) := rfl
theorem modulation : V m c main_arg3 = m ((c : Thread nD τ).loc main_arg3) := rfl

end Cert.Proof.MidOperands

end
-- ==== Proof.MidBlock.lean ====
/- What the first layer's feed-forward call's kernel's blocks hold: their part of each operand. -/
module

public import proofs.«01_k».proof.Proof.Gen.MidIdeal.Frame
public import Idealize.ShloMosaic.Lib.Pipeline.ValueKit
public import Idealize.ShloMosaic.Lib.Pointwise

@[expose] public section

set_option maxRecDepth 16384

noncomputable section

namespace Cert.Proof.MidBlock

open Idealize.ShloMosaic Idealize.ShloMosaic.TcCoe Idealize.SL.Sem
open Cert.MidIdeal Cert.MidIdeal.Gen

variable (m : (ℓ : Loc nD τ sig) → Buf (Elt Ideal) ℓ) (c : Dev nD)

theorem idx : ∀ t : Fin cfg0.N, win0_0.index t = ![t.val / 2, t.val % 2, 0] ∧ win0_1.index t = ![t.val / 2, t.val % 2, 0]
    ∧ win0_2.index t = ![t.val / 2, t.val % 2, 0] ∧ win0_3.index t = ![t.val / 2, 0, 0] ∧ win0_4.index t = ![0, 0]
    ∧ win0_5.index t = ![0, 0] ∧ win0_6.index t = ![0, 0, 0] ∧ win0_7.index t = ![0, 0, 0] ∧ win0_8.index t = ![0, 0]
    ∧ win0_9.index t = ![t.val / 2, t.val % 2, 0] :=
  (by decide +kernel : ∀ t : Fin grid0.N, _)

/-- A read of a load is a read of the block the load is taken from. -/
theorem load_at {e : EltTy} {s : Shape} (x : Vec Ideal s e) (R : Rect s) (i : R.shape.Idx) (j : s.Idx) (h : R.emb i = j) :
    View.ld x R i = x j := by
  subst h; rfl

theorem place_stream (t : Fin cfg0.N) (b : Fin 32) (hb : (b : ℕ) = t.val / 2) (r : Fin 1024) (j : Fin 1024) (i : Fin 2048) (hi : (i : ℕ) = t.val % 2 * 1024 + r) :
    ((cfg0.win 0).blk t).view.emb (ix3 0 r j) = ix3 b i j := by
  funext a
  apply Fin.ext
  match a with
  | ⟨0, _⟩ =>
    blk_simp [idx t]
    exact hb.symm
  | ⟨1, _⟩ => blk_simp [idx t]
              exact hi.symm
  | ⟨2, _⟩ => blk_simp [idx t]

theorem read_stream (t : Fin cfg0.N) (y : S1x1024x1024.Idx) (X : S32x2048x1024.Idx → EReal) :
    ((cfg0.win 0).blk t).view.read (Elt Ideal) X y = X (((cfg0.win 0).blk t).view.emb y) := rfl

theorem array_stream (t : Fin cfg0.N) (y : S1x1024x1024.Idx) :
    iblk m c 0 t y = ((cfg0.win 0).blk t).view.read (Elt Ideal) (V m c main_arg0) y := rfl

theorem block_stream (t : Fin cfg0.N) (b : Fin 32) (hb : (b : ℕ) = t.val / 2) (r : Fin 1024) (j : Fin 1024) (i : Fin 2048) (hi : (i : ℕ) = t.val % 2 * 1024 + r) :
    iblk m c 0 t (ix3 0 r j) = V m c main_arg0 (ix3 b i j) := by
  rw [array_stream, read_stream, place_stream t b hb r j i hi]

theorem place_mixer_a (t : Fin cfg0.N) (b : Fin 32) (hb : (b : ℕ) = t.val / 2) (r : Fin 1024) (j : Fin 512) (i : Fin 2048) (hi : (i : ℕ) = t.val % 2 * 1024 + r) :
    ((cfg0.win 1).blk t).view.emb (ix3 0 r j) = ix3 b i j := by
  funext a
  apply Fin.ext
  match a with
  | ⟨0, _⟩ =>
    blk_simp [idx t]
    exact hb.symm
  | ⟨1, _⟩ => blk_simp [idx t]
              exact hi.symm
  | ⟨2, _⟩ => blk_simp [idx t]

theorem read_mixer_a (t : Fin cfg0.N) (y : S1x1024x512.Idx) (X : S32x2048x512.Idx → EReal) :
    ((cfg0.win 1).blk t).view.read (Elt Ideal) X y = X (((cfg0.win 1).blk t).view.emb y) := rfl

theorem array_mixer_a (t : Fin cfg0.N) (y : S1x1024x512.Idx) :
    iblk m c 1 t y = ((cfg0.win 1).blk t).view.read (Elt Ideal) (V m c main_arg1) y := rfl

theorem block_mixer_a (t : Fin cfg0.N) (b : Fin 32) (hb : (b : ℕ) = t.val / 2) (r : Fin 1024) (j : Fin 512) (i : Fin 2048) (hi : (i : ℕ) = t.val % 2 * 1024 + r) :
    iblk m c 1 t (ix3 0 r j) = V m c main_arg1 (ix3 b i j) := by
  rw [array_mixer_a, read_mixer_a, place_mixer_a t b hb r j i hi]

theorem place_mixer_b (t : Fin cfg0.N) (b : Fin 32) (hb : (b : ℕ) = t.val / 2) (r : Fin 1024) (j : Fin 512) (i : Fin 2048) (hi : (i : ℕ) = t.val % 2 * 1024 + r) :
    ((cfg0.win 2).blk t).view.emb (ix3 0 r j) = ix3 b i j := by
  funext a
  apply Fin.ext
  match a with
  | ⟨0, _⟩ =>
    blk_simp [idx t]
    exact hb.symm
  | ⟨1, _⟩ => blk_simp [idx t]
              exact hi.symm
  | ⟨2, _⟩ => blk_simp [idx t]

theorem read_mixer_b (t : Fin cfg0.N) (y : S1x1024x512.Idx) (X : S32x2048x512.Idx → EReal) :
    ((cfg0.win 2).blk t).view.read (Elt Ideal) X y = X (((cfg0.win 2).blk t).view.emb y) := rfl

theorem array_mixer_b (t : Fin cfg0.N) (y : S1x1024x512.Idx) :
    iblk m c 2 t y = ((cfg0.win 2).blk t).view.read (Elt Ideal) (V m c main_arg2) y := rfl

theorem block_mixer_b (t : Fin cfg0.N) (b : Fin 32) (hb : (b : ℕ) = t.val / 2) (r : Fin 1024) (j : Fin 512) (i : Fin 2048) (hi : (i : ℕ) = t.val % 2 * 1024 + r) :
    iblk m c 2 t (ix3 0 r j) = V m c main_arg2 (ix3 b i j) := by
  rw [array_mixer_b, read_mixer_b, place_mixer_b t b hb r j i hi]

theorem place_modulation (t : Fin cfg0.N) (b : Fin 32) (hb : (b : ℕ) = t.val / 2) (r : Fin 6) (j : Fin 1024) :
    ((cfg0.win 3).blk t).view.emb (ix3 0 r j) = ix3 b r j := by
  funext a
  apply Fin.ext
  match a with
  | ⟨0, _⟩ =>
    blk_simp [idx t]
    exact hb.symm
  | ⟨1, _⟩ => blk_simp [idx t]
  | ⟨2, _⟩ => blk_simp [idx t]

theorem read_modulation (t : Fin cfg0.N) (y : S1x6x1024.Idx) (X : S32x6x1024.Idx → EReal) :
    ((cfg0.win 3).blk t).view.read (Elt Ideal) X y = X (((cfg0.win 3).blk t).view.emb y) := rfl

theorem array_modulation (t : Fin cfg0.N) (y : S1x6x1024.Idx) :
    iblk m c 3 t y = ((cfg0.win 3).blk t).view.read (Elt Ideal) (V m c main_arg3) y := rfl

theorem block_modulation (t : Fin cfg0.N) (b : Fin 32) (hb : (b : ℕ) = t.val / 2) (r : Fin 6) (j : Fin 1024) :
    iblk m c 3 t (ix3 0 r j) = V m c main_arg3 (ix3 b r j) := by
  rw [array_modulation, read_modulation, place_modulation t b hb r j]

theorem place_projection (t : Fin cfg0.N) (r : Fin 1024) (j : Fin 1024) :
    ((cfg0.win 4).blk t).view.emb (ix2 r j) = ix2 r j := by
  funext a
  apply Fin.ext
  match a with
  | ⟨0, _⟩ => blk_simp [idx t]
  | ⟨1, _⟩ => blk_simp [idx t]

theorem read_projection (t : Fin cfg0.N) (y : S1024x1024.Idx) (X : S1024x1024.Idx → EReal) :
    ((cfg0.win 4).blk t).view.read (Elt Ideal) X y = X (((cfg0.win 4).blk t).view.emb y) := rfl

theorem array_projection (t : Fin cfg0.N) (y : S1024x1024.Idx) :
    iblk m c 4 t y = ((cfg0.win 4).blk t).view.read (Elt Ideal) (V m c main_v3) y := rfl

theorem block_projection (t : Fin cfg0.N) (r : Fin 1024) (j : Fin 1024) :
    iblk m c 4 t (ix2 r j) = V m c main_v3 (ix2 r j) := by
  rw [array_projection, read_projection, place_projection t r j]

theorem place_norm_weights (t : Fin cfg0.N) (r : Fin 1) (j : Fin 1024) :
    ((cfg0.win 5).blk t).view.emb (ix2 r j) = ix2 r j := by
  funext a
  apply Fin.ext
  match a with
  | ⟨0, _⟩ => blk_simp [idx t]
  | ⟨1, _⟩ => blk_simp [idx t]

theorem read_norm_weights (t : Fin cfg0.N) (y : S1x1024.Idx) (X : S1x1024.Idx → EReal) :
    ((cfg0.win 5).blk t).view.read (Elt Ideal) X y = X (((cfg0.win 5).blk t).view.emb y) := rfl

theorem array_norm_weights (t : Fin cfg0.N) (y : S1x1024.Idx) :
    iblk m c 5 t y = ((cfg0.win 5).blk t).view.read (Elt Ideal) (V m c main_v2) y := rfl

theorem block_norm_weights (t : Fin cfg0.N) (r : Fin 1) (j : Fin 1024) :
    iblk m c 5 t (ix2 r j) = V m c main_v2 (ix2 r j) := by
  rw [array_norm_weights, read_norm_weights, place_norm_weights t r j]

theorem place_hidden_weights (t : Fin cfg0.N) (r : Fin 1024) (j : Fin 4096) :
    ((cfg0.win 6).blk t).view.emb (ix3 0 r j) = ix3 0 r j := by
  funext a
  apply Fin.ext
  match a with
  | ⟨0, _⟩ => blk_simp [idx t] <;> rfl
  | ⟨1, _⟩ => blk_simp [idx t]
  | ⟨2, _⟩ => blk_simp [idx t]

theorem read_hidden_weights (t : Fin cfg0.N) (y : S1x1024x4096.Idx) (X : S4x1024x4096.Idx → EReal) :
    ((cfg0.win 6).blk t).view.read (Elt Ideal) X y = X (((cfg0.win 6).blk t).view.emb y) := rfl

theorem array_hidden_weights (t : Fin cfg0.N) (y : S1x1024x4096.Idx) :
    iblk m c 6 t y = ((cfg0.win 6).blk t).view.read (Elt Ideal) (V m c main_v4) y := rfl

theorem block_hidden_weights (t : Fin cfg0.N) (r : Fin 1024) (j : Fin 4096) :
    iblk m c 6 t (ix3 0 r j) = V m c main_v4 (ix3 0 r j) := by
  rw [array_hidden_weights, read_hidden_weights, place_hidden_weights t r j]

theorem place_output_weights (t : Fin cfg0.N) (r : Fin 4096) (j : Fin 1024) :
    ((cfg0.win 7).blk t).view.emb (ix3 0 r j) = ix3 0 r j := by
  funext a
  apply Fin.ext
  match a with
  | ⟨0, _⟩ => blk_simp [idx t] <;> rfl
  | ⟨1, _⟩ => blk_simp [idx t]
  | ⟨2, _⟩ => blk_simp [idx t]

theorem read_output_weights (t : Fin cfg0.N) (y : S1x4096x1024.Idx) (X : S4x4096x1024.Idx → EReal) :
    ((cfg0.win 7).blk t).view.read (Elt Ideal) X y = X (((cfg0.win 7).blk t).view.emb y) := rfl

theorem array_output_weights (t : Fin cfg0.N) (y : S1x4096x1024.Idx) :
    iblk m c 7 t y = ((cfg0.win 7).blk t).view.read (Elt Ideal) (V m c main_v5) y := rfl

theorem block_output_weights (t : Fin cfg0.N) (r : Fin 4096) (j : Fin 1024) :
    iblk m c 7 t (ix3 0 r j) = V m c main_v5 (ix3 0 r j) := by
  rw [array_output_weights, read_output_weights, place_output_weights t r j]

theorem place_final_weights (t : Fin cfg0.N) (r : Fin 1) (j : Fin 1024) :
    ((cfg0.win 8).blk t).view.emb (ix2 r j) = ix2 r j := by
  funext a
  apply Fin.ext
  match a with
  | ⟨0, _⟩ => blk_simp [idx t]
  | ⟨1, _⟩ => blk_simp [idx t]

theorem read_final_weights (t : Fin cfg0.N) (y : S1x1024.Idx) (X : S1x1024.Idx → EReal) :
    ((cfg0.win 8).blk t).view.read (Elt Ideal) X y = X (((cfg0.win 8).blk t).view.emb y) := rfl

theorem array_final_weights (t : Fin cfg0.N) (y : S1x1024.Idx) :
    iblk m c 8 t y = ((cfg0.win 8).blk t).view.read (Elt Ideal) (V m c main_v6) y := rfl

theorem block_final_weights (t : Fin cfg0.N) (r : Fin 1) (j : Fin 1024) :
    iblk m c 8 t (ix2 r j) = V m c main_v6 (ix2 r j) := by
  rw [array_final_weights, read_final_weights, place_final_weights t r j]

end Cert.Proof.MidBlock

end
-- ==== Proof.MidKernel.lean ====
/- What the first layer's feed-forward call's result array holds: every block is the reference's, row by row. -/
module

public import proofs.«01_k».proof.Proof.MidReference
public import proofs.«01_k».proof.Proof.MidHead
public import proofs.«01_k».proof.Proof.MidOperands
public import proofs.«01_k».proof.Proof.MidBlock

@[expose] public section

set_option maxRecDepth 16384

noncomputable section

namespace Cert.Proof.MidKernel

open Idealize.ShloMosaic Idealize.ShloMosaic.TcCoe Idealize.SL.Sem Cert.Proof.Row
open Cert.MidIdeal Cert.MidIdeal.Gen
open Cert.Proof.MidOperands Cert.Proof.MidHead Cert.Proof.MidBlock

theorem load_0 (x : Vec Ideal S1x1024x512 .bf16) (i : Fin 1024) (j : Fin 512) :
    View.ld x r0_0 (ix3 0 i j) = x (ix3 0 i j) := load_at x _ _ _ (by blk_ext)

theorem load_1 (x : Vec Ideal S1024x1024 .bf16) (i : Fin 512) (j : Fin 1024) :
    View.ld x r0_1 (ix2 i j) = x (ix2 ⟨i, by omega⟩ j) := load_at x _ _ _ (by blk_ext)

theorem load_2 (x : Vec Ideal S1024x1024 .bf16) (i : Fin 512) (j : Fin 1024) :
    View.ld x r0_2 (ix2 i j) = x (ix2 ⟨512 + i, by omega⟩ j) := load_at x _ _ _ (by blk_ext)

theorem load_3 (x : Vec Ideal S1x1024x1024 .f32) (i : Fin 1024) (j : Fin 1024) :
    View.ld x r0_3 (ix3 0 i j) = x (ix3 0 i j) := load_at x _ _ _ (by blk_ext)

theorem load_4 (x : Vec Ideal S1x6x1024 .f32) (j : Fin 1024) :
    View.ld x r0_4 (ix3 0 0 j) = x (ix3 0 2 j) := load_at x _ _ _ (by blk_ext)

theorem load_5 (x : Vec Ideal S1x1024 .f32) (j : Fin 1024) :
    View.ld x r0_5 (ix2 0 j) = x (ix2 0 j) := load_at x _ _ _ (by blk_ext)

theorem load_6 (x : Vec Ideal S1x6x1024 .f32) (j : Fin 1024) :
    View.ld x r0_6 (ix3 0 0 j) = x (ix3 0 3 j) := load_at x _ _ _ (by blk_ext)

theorem load_7 (x : Vec Ideal S1x6x1024 .f32) (j : Fin 1024) :
    View.ld x r0_7 (ix3 0 0 j) = x (ix3 0 4 j) := load_at x _ _ _ (by blk_ext)

theorem load_16 (x : Vec Ideal S1x6x1024 .f32) (j : Fin 1024) :
    View.ld x r0_16 (ix3 0 0 j) = x (ix3 0 5 j) := load_at x _ _ _ (by blk_ext)

theorem load_8 (x : Vec Ideal S1x1024x4096 .bf16) (i : Fin 1024) (j : Fin 1024) :
    View.ld x r0_8 (ix3 0 i j) = x (ix3 0 i ⟨0 + j, by omega⟩) := load_at x _ _ _ (by blk_ext)

theorem load_9 (x : Vec Ideal S1x4096x1024 .bf16) (i : Fin 1024) (j : Fin 1024) :
    View.ld x r0_9 (ix3 0 i j) = x (ix3 0 ⟨0 + i, by omega⟩ j) := load_at x _ _ _ (by blk_ext)

theorem load_10 (x : Vec Ideal S1x1024x4096 .bf16) (i : Fin 1024) (j : Fin 1024) :
    View.ld x r0_10 (ix3 0 i j) = x (ix3 0 i ⟨1024 + j, by omega⟩) := load_at x _ _ _ (by blk_ext)

theorem load_11 (x : Vec Ideal S1x4096x1024 .bf16) (i : Fin 1024) (j : Fin 1024) :
    View.ld x r0_11 (ix3 0 i j) = x (ix3 0 ⟨1024 + i, by omega⟩ j) := load_at x _ _ _ (by blk_ext)

theorem load_12 (x : Vec Ideal S1x1024x4096 .bf16) (i : Fin 1024) (j : Fin 1024) :
    View.ld x r0_12 (ix3 0 i j) = x (ix3 0 i ⟨2048 + j, by omega⟩) := load_at x _ _ _ (by blk_ext)

theorem load_13 (x : Vec Ideal S1x4096x1024 .bf16) (i : Fin 1024) (j : Fin 1024) :
    View.ld x r0_13 (ix3 0 i j) = x (ix3 0 ⟨2048 + i, by omega⟩ j) := load_at x _ _ _ (by blk_ext)

theorem load_14 (x : Vec Ideal S1x1024x4096 .bf16) (i : Fin 1024) (j : Fin 1024) :
    View.ld x r0_14 (ix3 0 i j) = x (ix3 0 i ⟨3072 + j, by omega⟩) := load_at x _ _ _ (by blk_ext)

theorem load_15 (x : Vec Ideal S1x4096x1024 .bf16) (i : Fin 1024) (j : Fin 1024) :
    View.ld x r0_15 (ix3 0 i j) = x (ix3 0 ⟨3072 + i, by omega⟩ j) := load_at x _ _ _ (by blk_ext)

/-- A row of a block, from what the operands' blocks hold. -/
theorem row (x : FVec Ideal Cert.MidRefIdeal.S32x2048x1024 .f32) (ma mb : FVec Ideal Cert.MidRefIdeal.S32x2048x512 .bf16)
    (mod : FVec Ideal Cert.MidRefIdeal.S32x6x1024 .f32) (w : FVec Ideal Cert.MidRefIdeal.S1024x1024 .f32)
    (n2 : FVec Ideal Cert.MidRefIdeal.S4x1024 .f32) (w1 : FVec Ideal Cert.MidRefIdeal.S4x1024x4096 .f32)
    (w2 : FVec Ideal Cert.MidRefIdeal.S4x4096x1024 .f32) (fg : FVec Ideal Cert.MidRefIdeal.S1024 .f32)
    (X0 : Vec Ideal S1x1024x1024 .f32) (X1 X2 : Vec Ideal S1x1024x512 .bf16) (X3 : Vec Ideal S1x6x1024 .f32)
    (X4 : Vec Ideal S1024x1024 .bf16) (X5 : Vec Ideal S1x1024 .f32) (X6 : Vec Ideal S1x1024x4096 .bf16)
    (X7 : Vec Ideal S1x4096x1024 .bf16) (X8 : Vec Ideal S1x1024 .f32) (b : Fin 32) (i : Fin 2048) (r j : Fin 1024)
    (h0 : ∀ k, X0 (ix3 0 r k) = x (ix3 b i k)) (h1 : ∀ k, X1 (ix3 0 r k) = ma (ix3 b i k)) (h2 : ∀ k, X2 (ix3 0 r k) = mb (ix3 b i k))
    (h3 : ∀ a k, X3 (ix3 0 a k) = mod (ix3 b a k)) (h4 : ∀ k l, X4 (ix2 k l) = w (ix2 k l)) (h5 : ∀ k, X5 (ix2 0 k) = n2 (ix2 0 k))
    (h6 : ∀ k f, X6 (ix3 0 k f) = w1 (ix3 0 k f)) (h7 : ∀ f k, X7 (ix3 0 f k) = w2 (ix3 0 f k)) (h8 : ∀ k, X8 (ix2 0 k) = fg (ix1 k)) :
    k0_pay1 (k0_pay10 X0 X1 X2 X3 X4 X5 X6 X7 X8) (k0_pay7 (k0_pay10 X0 X1 X2 X3 X4 X5 X6 X7 X8) (k0_pay11 X0 X1 X2 X3 X4 X5 X6 X7 X8) (k0_pay12 X0 X1 X2 X3 X4 X5 X6 X7 X8)
        (k0_pay13 X0 X1 X2 X3 X4 X5 X6 X7 X8) (k0_pay14 X0 X1 X2 X3 X4 X5 X6 X7 X8) (Scalar.ofBits .f32 0x358637BD#32))
      (k0_pay8 (k0_pay10 X0 X1 X2 X3 X4 X5 X6 X7 X8) (k0_pay11 X0 X1 X2 X3 X4 X5 X6 X7 X8) (k0_pay12 X0 X1 X2 X3 X4 X5 X6 X7 X8)
        (k0_pay13 X0 X1 X2 X3 X4 X5 X6 X7 X8) (k0_pay14 X0 X1 X2 X3 X4 X5 X6 X7 X8) (Scalar.ofBits .f32 0x358637BD#32)
        (View.ld X6 r0_8) (View.ld X7 r0_9) (View.ld X6 r0_10) (View.ld X7 r0_11))
      (k0_pay9 (View.ld X6 r0_12)) (constant S1024x1024 .f32 0x00000000#32) (View.ld X7 r0_13) (View.ld X6 r0_14) (View.ld X7 r0_15) (View.ld X3 r0_16) (ix3 0 r j)
      = Cert.MidRefIdeal.Read.val_main_v41 (F := Ideal) x ma mb mod w n2 w1 w2 (ix3 b i j) := by
  rw [MidReference.value_third]
  unfold k0_pay10 k0_pay11 k0_pay12 k0_pay13 k0_pay14
  have e1 : ∀ k, k0_pay2 (View.ld X1 r0_0) (View.ld X4 r0_1) (View.ld X2 r0_0) (View.ld X4 r0_2) (View.ld X0 r0_3) (View.ld X3 r0_4) (ix2 r k)
      = MidReference.first x ma mb mod w b i k := fun k =>
    (mixed_row _ _ _ _ _ _ r k).trans (mixed_congr (fun k => (load_3 X0 r k).trans (h0 k)) (fun k => (load_4 X3 k).trans (h3 2 k))
      (fun k => (load_0 X1 r k).trans (h1 k)) (fun k => (load_0 X2 r k).trans (h2 k)) (fun k l => (load_1 X4 k l).trans (h4 _ l))
      (fun k l => (load_2 X4 k l).trans (h4 _ l)) k)
  have e2 : ∀ k, k0_pay7 (k0_pay2 (View.ld X1 r0_0) (View.ld X4 r0_1) (View.ld X2 r0_0) (View.ld X4 r0_2) (View.ld X0 r0_3) (View.ld X3 r0_4))
      (k0_pay3 (View.ld X5 r0_5)) (k0_pay4 (View.ld X3 r0_6)) (k0_pay5 (View.ld X3 r0_7))
      (k0_pay6 (View.ld X1 r0_0) (View.ld X4 r0_1) (View.ld X2 r0_0) (View.ld X4 r0_2) (View.ld X0 r0_3) (View.ld X3 r0_4))
      (Scalar.ofBits .f32 0x358637BD#32) (ix2 r k) = MidReference.second x ma mb mod w n2 b i k := fun k =>
    (modulated_row _ _ _ _ _ _ _ _ _ r k).trans (modulated_congr e1 (fun k => (load_5 X5 k).trans (h5 k))
      (fun k => (load_7 X3 k).trans (h3 4 k)) (fun k => (load_6 X3 k).trans (h3 3 k)) k)
  have q0 : ∀ k, _ = ∑ f : Fin 1024, unit (MidReference.second x ma mb mod w n2 b i) (fun a => w1 (ix3 0 a ⟨0 + f, by omega⟩))
      * w2 (ix3 0 ⟨0 + f, by omega⟩ k) := fun k =>
    quarter_congr e2 (w := fun f a => View.ld X6 r0_8 (ix3 0 a f)) (w' := fun f a => w1 (ix3 0 a ⟨0 + f, by omega⟩))
      (u := fun f => View.ld X7 r0_9 (ix3 0 f k)) (u' := fun f => w2 (ix3 0 ⟨0 + f, by omega⟩ k))
      (fun f a => (load_8 X6 a f).trans (h6 a _)) (fun f => (load_9 X7 f k).trans (h7 _ k))
  have q1 : ∀ k, _ = ∑ f : Fin 1024, unit (MidReference.second x ma mb mod w n2 b i) (fun a => w1 (ix3 0 a ⟨1024 + f, by omega⟩))
      * w2 (ix3 0 ⟨1024 + f, by omega⟩ k) := fun k =>
    quarter_congr e2 (w := fun f a => View.ld X6 r0_10 (ix3 0 a f)) (w' := fun f a => w1 (ix3 0 a ⟨1024 + f, by omega⟩))
      (u := fun f => View.ld X7 r0_11 (ix3 0 f k)) (u' := fun f => w2 (ix3 0 ⟨1024 + f, by omega⟩ k))
      (fun f a => (load_10 X6 a f).trans (h6 a _)) (fun f => (load_11 X7 f k).trans (h7 _ k))
  have q2 : ∀ k, _ = ∑ f : Fin 1024, unit (MidReference.second x ma mb mod w n2 b i) (fun a => w1 (ix3 0 a ⟨2048 + f, by omega⟩))
      * w2 (ix3 0 ⟨2048 + f, by omega⟩ k) := fun k =>
    quarter_congr e2 (w := fun f a => View.ld X6 r0_12 (ix3 0 a f)) (w' := fun f a => w1 (ix3 0 a ⟨2048 + f, by omega⟩))
      (u := fun f => View.ld X7 r0_13 (ix3 0 f k)) (u' := fun f => w2 (ix3 0 ⟨2048 + f, by omega⟩ k))
      (fun f a => (load_12 X6 a f).trans (h6 a _)) (fun f => (load_13 X7 f k).trans (h7 _ k))
  have q3 : ∀ k, _ = ∑ f : Fin 1024, unit (MidReference.second x ma mb mod w n2 b i) (fun a => w1 (ix3 0 a ⟨3072 + f, by omega⟩))
      * w2 (ix3 0 ⟨3072 + f, by omega⟩ k) := fun k =>
    quarter_congr e2 (w := fun f a => View.ld X6 r0_14 (ix3 0 a f)) (w' := fun f a => w1 (ix3 0 a ⟨3072 + f, by omega⟩))
      (u := fun f => View.ld X7 r0_15 (ix3 0 f k)) (u' := fun f => w2 (ix3 0 ⟨3072 + f, by omega⟩ k))
      (fun f a => (load_14 X6 a f).trans (h6 a _)) (fun f => (load_15 X7 f k).trans (h7 _ k))
  have e3 : ∀ k, _ = feed (MidReference.second x ma mb mod w n2 b i) (fun f k => w1 (ix3 0 k f)) (fun f j => w2 (ix3 0 f j)) k := fun k =>
    (congrArg₂ (· + ·) (congrArg₂ (· + ·) ((feed_row _ _ _ _ _ _ _ _ _ _ r k).trans (congrArg₂ (· + ·) (q0 k) (q1 k))) (q2 k)) (q3 k)).trans
      (feed_quarters (MidReference.second x ma mb mod w n2 b i) (fun f k => w1 (ix3 0 k f)) (fun f j => w2 (ix3 0 f j)) k).symm
  exact (updated_row _ _ _ _ _ _ _ _ r j).trans (updated_congr e1 (fun k => (load_16 X3 k).trans (h3 5 k)) e3 j)

variable (m : (ℓ : Loc nD τ sig) → Buf (Elt Ideal) ℓ) (c : Dev nD)

/-- The reference's result, from the call's arguments. -/
abbrev result : FVec Ideal Cert.MidRefIdeal.S32x2048x1024 .f32 :=
  Cert.MidRefIdeal.Read.val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

theorem point (t : Fin cfg0.N) (y : S1x1024x1024.Idx) :
    out0_9 (iblk m c 0 t) (iblk m c 1 t) (iblk m c 2 t) (iblk m c 3 t) (iblk m c 4 t) (iblk m c 5 t) (iblk m c 6 t) (iblk m c 7 t) (iblk m c 8 t) y
      = result m c (((cfg0.win 9).blk t).view.emb y) := by
  have ht : t.val < 64 := lt_of_lt_of_eq t.isLt N_0
  have hy : (y 1 : ℕ) < 1024 := (y 1).isLt
  have hz : (y 2 : ℕ) < 1024 := (y 2).isLt
  have he : ((cfg0.win 9).blk t).view.emb y
      = ix3 (⟨t.val / 2, by omega⟩ : Fin 32) (⟨t.val % 2 * 1024 + y 1, by omega⟩ : Fin 2048) (⟨y 2, hz⟩ : Fin 1024) := by
    blk_ext [idx t]
  rw [he]
  canon_tiles x h
  case piece0 =>
    idx_vars x
    obtain rfl : x0 = 0 := Subsingleton.elim _ _
    obtain rfl : x2 = ⟨y 2, hz⟩ := Fin.ext (by show (x2 : ℕ) = (y 2 : ℕ); omega)
    exact row _ _ _ _ _ _ _ _ (m ((c : Thread nD τ).loc main_arg8)) (iblk m c 0 t) (iblk m c 1 t) (iblk m c 2 t) (iblk m c 3 t) (iblk m c 4 t)
      (iblk m c 5 t) (iblk m c 6 t) (iblk m c 7 t) (iblk m c 8 t) ⟨t.val / 2, by omega⟩ _ x1 _
      (fun k => (block_stream m c t _ rfl _ _ _ (by show t.val % 2 * 1024 + (y 1 : ℕ) = t.val % 2 * 1024 + (x1 : ℕ); omega)).trans (congrFun (stream m c) _))
      (fun k => (block_mixer_a m c t _ rfl _ _ _ (by show t.val % 2 * 1024 + (y 1 : ℕ) = t.val % 2 * 1024 + (x1 : ℕ); omega)).trans (congrFun (mixer_a m c) _))
      (fun k => (block_mixer_b m c t _ rfl _ _ _ (by show t.val % 2 * 1024 + (y 1 : ℕ) = t.val % 2 * 1024 + (x1 : ℕ); omega)).trans (congrFun (mixer_b m c) _))
      (fun a k => (block_modulation m c t _ rfl _ _).trans (congrFun (modulation m c) _))
      (fun k l => (block_projection m c t _ _).trans (projection m c k l))
      (fun k => (block_norm_weights m c t _ _).trans (norm_weights m c k))
      (fun k f => (block_hidden_weights m c t _ _).trans (hidden_weights m c 0 k f))
      (fun f k => (block_output_weights m c t _ _).trans (output_weights m c 0 f k))
      (fun k => (block_final_weights m c t _ _).trans (final_weights m c k))

theorem final : (dats m 0 c).arrAt 9 (cfgs 0).N = result m c := by
  refine (dats m 0 c).arrAt_eq_of_covers 9 _ (by decide +kernel) fun t _ y => ?_
  blk_simp
  rw [after0_9]
  exact point m c t y

end Cert.Proof.MidKernel

end
-- ==== Proof.MidClaim.lean ====
/- The first layer's feed-forward call's equation: the kernel's result is the reference's. -/
module

public import proofs.«01_k».proof.Proof.MidKernel
public import proofs.«01_k».proof.Proof.Gen.MidRefIdeal.Run
public import proofs.«01_k».proof.Proof.Gen.MidIdeal.Value
public import proofs.«01_k».proof.Defs
public import Idealize.ShloMosaic.Lib.Claim

@[expose] public section

set_option maxRecDepth 16384

noncomputable section

namespace Cert.Proof.MidClaim

open Idealize.ShloMosaic Idealize.ShloMosaic.TcCoe Idealize.SL.Sem

/-- The reference's term at arguments that agree with the kernel's. -/
theorem equation (m : (ℓ : Loc Cert.MidIdeal.nD Cert.MidIdeal.τ Cert.MidIdeal.sig) → Buf (Elt Ideal) ℓ) (c : Dev Cert.MidIdeal.nD)
    (x0 : FVec Ideal Cert.MidRefIdeal.S32x2048x1024 .f32) (x1 x2 : FVec Ideal Cert.MidRefIdeal.S32x2048x512 .bf16)
    (x3 : FVec Ideal Cert.MidRefIdeal.S32x6x1024 .f32) (x4 : FVec Ideal Cert.MidRefIdeal.S1024x1024 .f32)
    (x5 : FVec Ideal Cert.MidRefIdeal.S4x1024 .f32) (x6 : FVec Ideal Cert.MidRefIdeal.S4x1024x4096 .f32)
    (x7 : FVec Ideal Cert.MidRefIdeal.S4x4096x1024 .f32)
    (e0 : x0 = m ((c : Thread Cert.MidIdeal.nD Cert.MidIdeal.τ).loc Cert.MidIdeal.main_arg0)) (e1 : x1 = m ((c : Thread Cert.MidIdeal.nD Cert.MidIdeal.τ).loc Cert.MidIdeal.main_arg1))
    (e2 : x2 = m ((c : Thread Cert.MidIdeal.nD Cert.MidIdeal.τ).loc Cert.MidIdeal.main_arg2)) (e3 : x3 = m ((c : Thread Cert.MidIdeal.nD Cert.MidIdeal.τ).loc Cert.MidIdeal.main_arg3))
    (e4 : x4 = m ((c : Thread Cert.MidIdeal.nD Cert.MidIdeal.τ).loc Cert.MidIdeal.main_arg4)) (e5 : x5 = m ((c : Thread Cert.MidIdeal.nD Cert.MidIdeal.τ).loc Cert.MidIdeal.main_arg5))
    (e6 : x6 = m ((c : Thread Cert.MidIdeal.nD Cert.MidIdeal.τ).loc Cert.MidIdeal.main_arg6)) (e7 : x7 = m ((c : Thread Cert.MidIdeal.nD Cert.MidIdeal.τ).loc Cert.MidIdeal.main_arg7))
    :
    Cert.MidRefIdeal.Read.val_main_v41 (F := Ideal) x0 x1 x2 x3 x4 x5 x6 x7
      = (Cert.MidIdeal.Gen.dats m 0 c).arrAt 9 Cert.MidIdeal.cfg0.N := by
  rw [e0, e1, e2, e3, e4, e5, e6, e7]
  exact (MidKernel.final m c).symm

theorem algebraic : Cert.algebraic_MidIdeal_MidRefIdeal := by
  intro m g m' g' _ hagree
  refine ⟨fun c => (Cert.MidIdeal.Gen.dats m 0 c).arrAt 9 Cert.MidIdeal.cfg0.N, Cert.MidIdeal.Value.run_blocks m g, ?_⟩
  refine (θ_run _ _ _).mono (fun r h c => ⟨(h c).1.trans ?_, (h c).2⟩) (Cert.MidRefIdeal.Value.run m' g')
  obtain ⟨a0, a1, a2, a3, a4, a5, a6, a7, a8⟩ := hagree c
  exact (Cert.MidRefIdeal.Read.val_main_v41_eq _ _).trans (equation m c _ _ _ _ _ _ _ _ a0 a1 a2 a3 a4 a5 a6 a7)

end Cert.Proof.MidClaim

end
-- ==== Proof.lean ====
/- The claims about the layer's calls: each call runs and leaves its arguments alone, and its idealization computes what the
   reference's lines for the same part compute. The equations are in the modules `<Call>Claim`. -/
module

public import proofs.«01_k».proof.Defs
public import proofs.«01_k».proof.Proof.Gen.Mla
public import proofs.«01_k».proof.Proof.Gen.Mla.Skeleton
public import proofs.«01_k».proof.Proof.Gen.Mla.Launch
public import proofs.«01_k».proof.Proof.Gen.Mla.Points
public import proofs.«01_k».proof.Proof.Gen.Mla.Frame
public import proofs.«01_k».proof.Proof.Gen.MlaIdeal
public import proofs.«01_k».proof.Proof.Gen.MlaIdeal.Skeleton
public import proofs.«01_k».proof.Proof.Gen.MlaIdeal.Launch
public import proofs.«01_k».proof.Proof.Gen.MlaIdeal.Points
public import proofs.«01_k».proof.Proof.Gen.MlaIdeal.Frame
public import proofs.«01_k».proof.Proof.Gen.MlaRefIdeal
public import proofs.«01_k».proof.Proof.Gen.Gqa
public import proofs.«01_k».proof.Proof.Gen.Gqa.Skeleton
public import proofs.«01_k».proof.Proof.Gen.Gqa.Launch
public import proofs.«01_k».proof.Proof.Gen.Gqa.Points
public import proofs.«01_k».proof.Proof.Gen.Gqa.Frame
public import proofs.«01_k».proof.Proof.Gen.GqaIdeal
public import proofs.«01_k».proof.Proof.Gen.GqaIdeal.Skeleton
public import proofs.«01_k».proof.Proof.Gen.GqaIdeal.Launch
public import proofs.«01_k».proof.Proof.Gen.GqaIdeal.Points
public import proofs.«01_k».proof.Proof.Gen.GqaIdeal.Frame
public import proofs.«01_k».proof.Proof.Gen.GqaRefIdeal
public import proofs.«01_k».proof.Proof.Gen.Post
public import proofs.«01_k».proof.Proof.Gen.Post.Skeleton
public import proofs.«01_k».proof.Proof.Gen.Post.Launch
public import proofs.«01_k».proof.Proof.Gen.Post.Points
public import proofs.«01_k».proof.Proof.Gen.Post.Frame
public import proofs.«01_k».proof.Proof.Gen.PostIdeal
public import proofs.«01_k».proof.Proof.Gen.PostIdeal.Skeleton
public import proofs.«01_k».proof.Proof.Gen.PostIdeal.Launch
public import proofs.«01_k».proof.Proof.Gen.PostIdeal.Points
public import proofs.«01_k».proof.Proof.Gen.PostIdeal.Frame
public import proofs.«01_k».proof.Proof.Gen.PostRefIdeal
public import proofs.«01_k».proof.Proof.Gen.Mid
public import proofs.«01_k».proof.Proof.Gen.Mid.Skeleton
public import proofs.«01_k».proof.Proof.Gen.Mid.Launch
public import proofs.«01_k».proof.Proof.Gen.Mid.Points
public import proofs.«01_k».proof.Proof.Gen.Mid.Frame
public import proofs.«01_k».proof.Proof.Gen.MidIdeal
public import proofs.«01_k».proof.Proof.Gen.MidIdeal.Skeleton
public import proofs.«01_k».proof.Proof.Gen.MidIdeal.Launch
public import proofs.«01_k».proof.Proof.Gen.MidIdeal.Points
public import proofs.«01_k».proof.Proof.Gen.MidIdeal.Frame
public import proofs.«01_k».proof.Proof.Gen.MidRefIdeal
public import proofs.«01_k».proof.Proof.Gen.Pre_finite_mla
public import proofs.«01_k».proof.Proof.Gen.Pre_finite_gqa
public import proofs.«01_k».proof.Proof.Gen.MlaIdeal.Value
public import proofs.«01_k».proof.Proof.Gen.MlaRefIdeal.Run
public import proofs.«01_k».proof.Proof.Gen.MlaRefIdeal.Read
public import proofs.«01_k».proof.Proof.Gen.GqaIdeal.Value
public import proofs.«01_k».proof.Proof.Gen.GqaRefIdeal.Run
public import proofs.«01_k».proof.Proof.Gen.GqaRefIdeal.Read
public import proofs.«01_k».proof.Proof.Gen.PostIdeal.Value
public import proofs.«01_k».proof.Proof.Gen.PostRefIdeal.Run
public import proofs.«01_k».proof.Proof.Gen.PostRefIdeal.Read
public import proofs.«01_k».proof.Proof.Gen.MidIdeal.Value
public import proofs.«01_k».proof.Proof.Gen.MidRefIdeal.Run
public import proofs.«01_k».proof.Proof.Gen.MidRefIdeal.Read
public import proofs.«01_k».proof.Proof.MlaClaim
public import proofs.«01_k».proof.Proof.GqaClaim
public import proofs.«01_k».proof.Proof.PostClaim
public import proofs.«01_k».proof.Proof.MidClaim
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem Cert.Mla

/-- The reference of `Mla` runs and leaves its arguments alone. -/
theorem reference_mla : Cert.quiescent_MlaRefIdeal := by
  intro m g _
  exact (θ_run _ _ _).mono (fun r h => ⟨fun c => (h c).2, sem_eq_zero_of_no_sems rfl r.2⟩) (Cert.MlaRefIdeal.Value.run m g)

/-- The same under the call's precondition. -/
theorem reference_mla_finite_mla : Cert.quiescent_MlaRefIdeal_pre_finite_mla := by
  intro m g _
  exact (θ_run _ _ _).mono (fun r h => ⟨fun c => (h c).2, sem_eq_zero_of_no_sems rfl r.2⟩) (Cert.MlaRefIdeal.Value.run m g)

/-- The reference of `Gqa` runs and leaves its arguments alone. -/
theorem reference_gqa : Cert.quiescent_GqaRefIdeal := by
  intro m g _
  exact (θ_run _ _ _).mono (fun r h => ⟨fun c => (h c).2, sem_eq_zero_of_no_sems rfl r.2⟩) (Cert.GqaRefIdeal.Value.run m g)

/-- The same under the call's precondition. -/
theorem reference_gqa_finite_gqa : Cert.quiescent_GqaRefIdeal_pre_finite_gqa := by
  intro m g _
  exact (θ_run _ _ _).mono (fun r h => ⟨fun c => (h c).2, sem_eq_zero_of_no_sems rfl r.2⟩) (Cert.GqaRefIdeal.Value.run m g)

/-- The reference of `Post` runs and leaves its arguments alone. -/
theorem reference_post : Cert.quiescent_PostRefIdeal := by
  intro m g _
  exact (θ_run _ _ _).mono (fun r h => ⟨fun c => (h c).2, sem_eq_zero_of_no_sems rfl r.2⟩) (Cert.PostRefIdeal.Value.run m g)

/-- The reference of `Mid` runs and leaves its arguments alone. -/
theorem reference_mid : Cert.quiescent_MidRefIdeal := by
  intro m g _
  exact (θ_run _ _ _).mono (fun r h => ⟨fun c => (h c).2, sem_eq_zero_of_no_sems rfl r.2⟩) (Cert.MidRefIdeal.Value.run m g)

theorem claim : Cert.Claim :=
  ⟨Cert.Mla.Gen.facts,
    Cert.MlaIdeal.Gen.facts,
    Cert.MlaRefIdeal.Gen.facts,
    Cert.Gqa.Gen.facts,
    Cert.GqaIdeal.Gen.facts,
    Cert.GqaRefIdeal.Gen.facts,
    Cert.Post.Gen.facts,
    Cert.PostIdeal.Gen.facts,
    Cert.PostRefIdeal.Gen.facts,
    Cert.Mid.Gen.facts,
    Cert.MidIdeal.Gen.facts,
    Cert.MidRefIdeal.Gen.facts,
    Cert.Pre_finite_mla.Gen.facts,
    Cert.Pre_finite_gqa.Gen.facts,
    fun m g _ => Cert.Mla.Gen.frame m g,
    fun m g _ => Cert.MlaIdeal.Gen.frame m g,
    fun m g _ => Cert.MlaIdeal.Gen.frame m g,
    reference_mla,
    reference_mla_finite_mla,
    fun m g _ => Cert.Gqa.Gen.frame m g,
    fun m g _ => Cert.GqaIdeal.Gen.frame m g,
    fun m g _ => Cert.GqaIdeal.Gen.frame m g,
    reference_gqa,
    reference_gqa_finite_gqa,
    fun m g _ => Cert.Post.Gen.frame m g,
    fun m g _ => Cert.PostIdeal.Gen.frame m g,
    reference_post,
    fun m g _ => Cert.Mid.Gen.frame m g,
    fun m g _ => Cert.MidIdeal.Gen.frame m g,
    reference_mid,
    trivial,
    MlaClaim.algebraic,
    trivial,
    GqaClaim.algebraic,
    trivial,
    PostClaim.algebraic,
    trivial,
    MidClaim.algebraic⟩

end Cert.Proof

end
